-- ==== Defs.lean ====
def Pre_Kernel [hPre_placed : Cert.Pre_placed.Facts] (m : (ℓ : Loc Cert.Kernel.nD Cert.Kernel.τ Cert.Kernel.sig) → Buf (Elt Bits) ℓ) : Prop :=
  ∀ c : Dev Cert.Kernel.nD,
    (Cert.Pre_placed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_placed : Cert.Pre_placed.Facts] (m : (ℓ : Loc Cert.KernelIdeal.nD Cert.KernelIdeal.τ Cert.KernelIdeal.sig) → Buf (Elt Ideal) ℓ) : Prop :=
  ∀ c : Dev Cert.KernelIdeal.nD,
    (Cert.Pre_placed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_placed : Cert.Pre_placed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_placed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_placed : Cert.Pre_placed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_placed : Cert.Pre_placed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] [hPre_placed : Cert.Pre_placed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.bf16_pair.BufferStatement Cert.KernelIdeal.S448x2x4096 Cert.KernelIdeal.S448x1x4096
  ∧ IdealRules.bf16_pair.BufferStatement Cert.KernelIdeal.S448x2x896 Cert.KernelIdeal.S448x1x896
  ∧ IdealRules.bf16_pair.BufferStatement Cert.KernelIdeal.S2048x2x256 Cert.KernelIdeal.S2048x1x256
  ∧ IdealRules.bf16_pair.BufferStatement Cert.KernelIdeal.S448x2x256 Cert.KernelIdeal.S448x1x256
  ∧ IdealRules.bf16_pair.Statement Cert.KernelIdeal.S256x896 Cert.KernelIdeal.S128x896
  ∧ IdealRules.bf16_pack.Statement Cert.KernelIdeal.S128x896
  ∧ IdealRules.bf16_pair.Statement Cert.KernelIdeal.S128x256 Cert.KernelIdeal.S64x256
  ∧ IdealRules.bf16_pair.Statement Cert.KernelIdeal.S64x2x256 Cert.KernelIdeal.S64x1x256
  ∧ IdealRules.bf16_pair.Statement Cert.KernelIdeal.S896x128 Cert.KernelIdeal.S448x128
  ∧ IdealRules.bf16_pair.Statement Cert.KernelIdeal.S448x2x128 Cert.KernelIdeal.S448x1x128
  ∧ IdealRules.bf16_pair.Statement Cert.KernelIdeal.S32x128 Cert.KernelIdeal.S16x128
  ∧ IdealRules.bf16_pair.Statement Cert.KernelIdeal.S16x2x128 Cert.KernelIdeal.S16x1x128
  ∧ IdealRules.bf16_pair.Statement Cert.KernelIdeal.S448x2x896 Cert.KernelIdeal.S448x1x896
  ∧ IdealRules.bf16_pair.Statement Cert.KernelIdeal.S896x896 Cert.KernelIdeal.S448x896
  ∧ IdealRules.bf16_pair.Statement Cert.KernelIdeal.S448x2x256 Cert.KernelIdeal.S448x1x256
  ∧ IdealRules.bf16_pair.Statement Cert.KernelIdeal.S896x256 Cert.KernelIdeal.S448x256
  ∧ IdealRules.bf16_pair.Statement Cert.KernelIdeal.S448x2x4096 Cert.KernelIdeal.S448x1x4096
  ∧ IdealRules.bf16_pair.Statement Cert.KernelIdeal.S896x4096 Cert.KernelIdeal.S448x4096
  ∧ IdealRules.bf16_pair.Statement Cert.KernelIdeal.S2048x2x256 Cert.KernelIdeal.S2048x1x256
  ∧ IdealRules.bf16_pair.Statement Cert.KernelIdeal.S4096x256 Cert.KernelIdeal.S2048x256
  ∧ IdealRules.bf16_pair.Statement Cert.KernelIdeal.S256x256 Cert.KernelIdeal.S128x256
  ∧ IdealRules.bf16_pack.Statement Cert.KernelIdeal.S128x256
  ∧ IdealRules.bf16_pair.Statement Cert.KernelIdeal.S128x2x256 Cert.KernelIdeal.S128x1x256

def algebraic_KernelIdeal_ReferenceIdeal [hKernelIdeal : Cert.KernelIdeal.Facts] [hReferenceIdeal : Cert.ReferenceIdeal.Facts] [hPre_placed : Cert.Pre_placed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_placed : Cert.Pre_placed.Facts),
    quiescent_Kernel (hKernel := hKernel) (hPre_placed := hPre_placed)
    ∧ quiescent_KernelIdeal (hKernelIdeal := hKernelIdeal) (hPre_placed := hPre_placed)
    ∧ quiescent_ReferenceIdeal (hReferenceIdeal := hReferenceIdeal) (hPre_placed := hPre_placed)
    ∧ preserves_Kernel_KernelIdeal
    ∧ algebraic_KernelIdeal_ReferenceIdeal (hKernelIdeal := hKernelIdeal) (hReferenceIdeal := hReferenceIdeal) (hPre_placed := hPre_placed)
-- ==== Pre_placed.lean ====
abbrev S6x156 : Shape := ⟨2, ![6, 156]⟩
abbrev S4096x896 : Shape := ⟨2, ![4096, 896]⟩
abbrev S128x896 : Shape := ⟨2, ![128, 896]⟩
abbrev S896x896 : Shape := ⟨2, ![896, 896]⟩
abbrev S28x896 : Shape := ⟨2, ![28, 896]⟩
abbrev S1x896 : Shape := ⟨2, ![1, 896]⟩
abbrev S4096x39936 : Shape := ⟨2, ![4096, 39936]⟩
abbrev S128x39936 : Shape := ⟨2, ![128, 39936]⟩
abbrev S1x156 : Shape := ⟨2, ![1, 156]⟩
abbrev S156 : Shape := ⟨1, ![156]⟩
abbrev S156x1 : Shape := ⟨2, ![156, 1]⟩
abbrev S156x156 : Shape := ⟨2, ![156, 156]⟩
abbrev S_ : Shape := ⟨0, ![]⟩

class Facts : Prop where
  slices_S6x156_S1x156_5_0 : S6x156.Slices ![5, 0] S1x156
  shapeCasts_S1x156_S156 : S1x156.ShapeCasts S156
  bcast_S156_S156x1_0 : S156.BroadcastsInDim S156x1 (![0] : Fin 1 → Fin S156x1.rank)
  bcast_S156x1_S156x156_0_1 : S156x1.BroadcastsInDim S156x156 (![0, 1] : Fin 2 → Fin S156x156.rank)
  reducesTo_S156x156_S156_d0 : S156x156.ReducesTo [0] S156
  h_S_ : 0 < S_.numel
  natLt_8_32 : 8 < 32
  bcast_S_S156 : S_.BroadcastsInDim S156 (![] : Fin 0 → Fin S156.rank)
  reducesTo_S156_S_d0 : S156.ReducesTo [0] S_
  bcast_S_S128x896 : S_.BroadcastsInDim S128x896 (![] : Fin 0 → Fin S128x896.rank)
  reducesTo_S128x896_S_d0_1 : S128x896.ReducesTo [0, 1] S_
  bcast_S_S28x896 : S_.BroadcastsInDim S28x896 (![] : Fin 0 → Fin S28x896.rank)
  reducesTo_S28x896_S_d0_1 : S28x896.ReducesTo [0, 1] S_
  bcast_S_S128x39936 : S_.BroadcastsInDim S128x39936 (![] : Fin 0 → Fin S128x39936.rank)
  reducesTo_S128x39936_S_d0_1 : S128x39936.ReducesTo [0, 1] S_

variable [Facts]

def fn_part2 {F : FTy → Type} [FloatOps F] (main_v9 : IVec S128x39936 32) (main_v31 : IVec S_ 1) (main_v33 : IVec S128x39936 1) (main_v34 : IVec S128x39936 32) : IVec S_ 1 :=
  let main_v35 : IVec S128x39936 1 := cmpi .slt main_v9 main_v34
  let main_v36 : IVec S128x39936 1 := andi main_v33 main_v35
  let main_c_12 : IVec S_ 1 := constantI S_ 1 1#1
  let main_v37 : IVec S_ 1 := (fun x v => Host.reduce IntOp.andi x v reducesTo_S128x39936_S_d0_1 h_S_) main_v36 main_c_12
  let main_v38 : IVec S_ 1 := andi main_v31 main_v37
  main_v38

def fn_part1 {F : FTy → Type} [FloatOps F] (main_v7 : IVec S128x896 32) (main_v8 : IVec S28x896 32) (main_v9 : IVec S128x39936 32) (main_v17 : IVec S_ 1) (main_c_4 : IVec S_ 32) : IVec S_ 1 :=
  let main_v18 : IVec S128x896 32 := broadcastInDim S128x896 ![] bcast_S_S128x896 main_c_4
  let main_v19 : IVec S128x896 1 := cmpi .sgt main_v7 main_v18
  let main_c_5 : IVec S_ 32 := constantI S_ 32 255#32
  let main_v20 : IVec S128x896 32 := broadcastInDim S128x896 ![] bcast_S_S128x896 main_c_5
  let main_v21 : IVec S128x896 1 := cmpi .slt main_v7 main_v20
  let main_v22 : IVec S128x896 1 := andi main_v19 main_v21
  let main_c_6 : IVec S_ 1 := constantI S_ 1 1#1
  let main_v23 : IVec S_ 1 := (fun x v => Host.reduce IntOp.andi x v reducesTo_S128x896_S_d0_1 h_S_) main_v22 main_c_6
  let main_v24 : IVec S_ 1 := andi main_v17 main_v23
  let main_c_7 : IVec S_ 32 := constantI S_ 32 0#32
  let main_v25 : IVec S28x896 32 := broadcastInDim S28x896 ![] bcast_S_S28x896 main_c_7
  let main_v26 : IVec S28x896 1 := cmpi .sgt main_v8 main_v25
  let main_c_8 : IVec S_ 32 := constantI S_ 32 255#32
  let main_v27 : IVec S28x896 32 := broadcastInDim S28x896 ![] bcast_S_S28x896 main_c_8
  let main_v28 : IVec S28x896 1 := cmpi .slt main_v8 main_v27
  let main_v29 : IVec S28x896 1 := andi main_v26 main_v28
  let main_c_9 : IVec S_ 1 := constantI S_ 1 1#1
  let main_v30 : IVec S_ 1 := (fun x v => Host.reduce IntOp.andi x v reducesTo_S28x896_S_d0_1 h_S_) main_v29 main_c_9
  let main_v31 : IVec S_ 1 := andi main_v24 main_v30
  let main_c_10 : IVec S_ 32 := constantI S_ 32 0#32
  let main_v32 : IVec S128x39936 32 := broadcastInDim S128x39936 ![] bcast_S_S128x39936 main_c_10
  let main_v33 : IVec S128x39936 1 := cmpi .sgt main_v9 main_v32
  let main_c_11 : IVec S_ 32 := constantI S_ 32 255#32
  let main_v34 : IVec S128x39936 32 := broadcastInDim S128x39936 ![] bcast_S_S128x39936 main_c_11
  fn_part2 (F := F) main_v9 main_v31 main_v33 main_v34

def fn {F : FTy → Type} [FloatOps F] (main_arg0 : IVec S6x156 32) (main_arg1 : FVec F S4096x896 .fp8e4m3) (main_arg2 : IVec S128x896 8) (main_arg3 : FVec F S896x896 .fp8e4m3) (main_arg4 : IVec S28x896 8) (main_arg5 : FVec F S1x896 .f32) (main_arg6 : FVec F S1x896 .f32) (main_arg7 : FVec F S4096x39936 .fp8e4m3) (main_arg8 : IVec S128x39936 8) : IVec S_ 1 :=
  let main_v0 : IVec S1x156 32 := (extractStridedSlice S1x156 ![5, 0] · slices_S6x156_S1x156_5_0) main_arg0
  let main_v1 : IVec S156 32 := shapeCast S156 main_v0 shapeCasts_S1x156_S156
  let main_v2 : IVec S156x1 32 := broadcastInDim S156x1 ![0] bcast_S156_S156x1_0 main_v1
  let main_v3 : IVec S156x156 32 := iotaInDim S156x156 32 1
  let main_v4 : IVec S156x156 32 := broadcastInDim S156x156 ![0, 1] bcast_S156x1_S156x156_0_1 main_v2
  let main_v5 : IVec S156x156 1 := cmpi .eq main_v4 main_v3
  let main_c : IVec S_ 1 := constantI S_ 1 0#1
  let main_v6 : IVec S156 1 := (fun x v => Host.reduce IntOp.ori x v reducesTo_S156x156_S156_d0 h_S_) main_v5 main_c
  let main_v7 : IVec S128x896 32 := (extui 32 · natLt_8_32) main_arg2
  let main_v8 : IVec S28x896 32 := (extui 32 · natLt_8_32) main_arg4
  let main_v9 : IVec S128x39936 32 := (extui 32 · natLt_8_32) main_arg8
  let main_c_0 : IVec S_ 32 := constantI S_ 32 0#32
  let main_v10 : IVec S156 32 := broadcastInDim S156 ![] bcast_S_S156 main_c_0
  let main_v11 : IVec S156 1 := cmpi .sge main_v1 main_v10
  let main_c_1 : IVec S_ 32 := constantI S_ 32 156#32
  let main_v12 : IVec S156 32 := broadcastInDim S156 ![] bcast_S_S156 main_c_1
  let main_v13 : IVec S156 1 := cmpi .slt main_v1 main_v12
  let main_v14 : IVec S156 1 := andi main_v11 main_v13
  let main_c_2 : IVec S_ 1 := constantI S_ 1 1#1
  let main_v15 : IVec S_ 1 := (fun x v => Host.reduce IntOp.andi x v reducesTo_S156_S_d0 h_S_) main_v14 main_c_2
  let main_c_3 : IVec S_ 1 := constantI S_ 1 1#1
  let main_v16 : IVec S_ 1 := (fun x v => Host.reduce IntOp.andi x v reducesTo_S156_S_d0 h_S_) main_v6 main_c_3
  let main_v17 : IVec S_ 1 := andi main_v15 main_v16
  let main_c_4 : IVec S_ 32 := constantI S_ 32 0#32
  fn_part1 (F := F) main_v7 main_v8 main_v9 main_v17 main_c_4
-- ==== Kernel.lean ====
abbrev S6x156 : Shape := ⟨2, ![6, 156]⟩
abbrev S4096x896 : Shape := ⟨2, ![4096, 896]⟩
abbrev S128x896 : Shape := ⟨2, ![128, 896]⟩
abbrev S896x896 : Shape := ⟨2, ![896, 896]⟩
abbrev S28x896 : Shape := ⟨2, ![28, 896]⟩
abbrev S1x896 : Shape := ⟨2, ![1, 896]⟩
abbrev S4096x39936 : Shape := ⟨2, ![4096, 39936]⟩
abbrev S128x39936 : Shape := ⟨2, ![128, 39936]⟩
abbrev S39936x896 : Shape := ⟨2, ![39936, 896]⟩
abbrev S39936x28 : Shape := ⟨2, ![39936, 28]⟩
abbrev S4096x256 : Shape := ⟨2, ![4096, 256]⟩
abbrev S1x1 : Shape := ⟨2, ![1, 1]⟩
abbrev S128x256 : Shape := ⟨2, ![128, 256]⟩
abbrev S256x896 : Shape := ⟨2, ![256, 896]⟩
abbrev S256x28 : Shape := ⟨2, ![256, 28]⟩
abbrev S448x4096 : Shape := ⟨2, ![448, 4096]⟩
abbrev S448x896 : Shape := ⟨2, ![448, 896]⟩
abbrev S896x128 : Shape := ⟨2, ![896, 128]⟩
abbrev S2048x256 : Shape := ⟨2, ![2048, 256]⟩
abbrev S896x256 : Shape := ⟨2, ![896, 256]⟩
abbrev S448x256 : Shape := ⟨2, ![448, 256]⟩
abbrev S2x32x128 : Shape := ⟨3, ![2, 32, 128]⟩
abbrev S4x896 : Shape := ⟨2, ![4, 896]⟩
abbrev S32x896 : Shape := ⟨2, ![32, 896]⟩
abbrev S256x128 : Shape := ⟨2, ![256, 128]⟩
abbrev S64x256 : Shape := ⟨2, ![64, 256]⟩
abbrev S1x128 : Shape := ⟨2, ![1, 128]⟩
abbrev S128x128 : Shape := ⟨2, ![128, 128]⟩
abbrev S448x128 : Shape := ⟨2, ![448, 128]⟩
abbrev S32x128 : Shape := ⟨2, ![32, 128]⟩
abbrev S8x128 : Shape := ⟨2, ![8, 128]⟩
abbrev S16x128 : Shape := ⟨2, ![16, 128]⟩
abbrev S1x1x128 : Shape := ⟨3, ![1, 1, 128]⟩
abbrev S1x32x128 : Shape := ⟨3, ![1, 32, 128]⟩
abbrev S128x32 : Shape := ⟨2, ![128, 32]⟩
abbrev S128x28 : Shape := ⟨2, ![128, 28]⟩
abbrev S896x4096 : Shape := ⟨2, ![896, 4096]⟩
abbrev S4x256 : Shape := ⟨2, ![4, 256]⟩
abbrev S32x256 : Shape := ⟨2, ![32, 256]⟩
abbrev S1x256 : Shape := ⟨2, ![1, 256]⟩
abbrev S256x256 : Shape := ⟨2, ![256, 256]⟩

abbrev nBuf : Space → Nat
  | .hbm => 11
  | .vmem => 24
  | .smem => 1
  | _ => 0

abbrev bufTy : (tb : Table) → Fin (tcTables nBuf tb) → BufTy
  | .hbm, ⟨0, _⟩ => ⟨S4096x896, .fp8e4m3⟩
  | .hbm, ⟨1, _⟩ => ⟨S128x896, .i8⟩
  | .hbm, ⟨2, _⟩ => ⟨S896x896, .fp8e4m3⟩
  | .hbm, ⟨3, _⟩ => ⟨S28x896, .i8⟩
  | .hbm, ⟨4, _⟩ => ⟨S1x896, .f32⟩
  | .hbm, ⟨5, _⟩ => ⟨S1x896, .f32⟩
  | .hbm, ⟨6, _⟩ => ⟨S4096x39936, .fp8e4m3⟩
  | .hbm, ⟨7, _⟩ => ⟨S128x39936, .i8⟩
  | .hbm, ⟨8, _⟩ => ⟨S39936x896, .fp8e4m3⟩
  | .hbm, ⟨9, _⟩ => ⟨S39936x28, .i8⟩
  | .hbm, ⟨10, _⟩ => ⟨S39936x896, .f32⟩
  | .local _ .vmem, ⟨0, _⟩ => ⟨S4096x896, .fp8e4m3⟩
  | .local _ .vmem, ⟨1, _⟩ => ⟨S128x896, .i8⟩
  | .local _ .vmem, ⟨2, _⟩ => ⟨S896x896, .fp8e4m3⟩
  | .local _ .vmem, ⟨3, _⟩ => ⟨S28x896, .i8⟩
  | .local _ .vmem, ⟨4, _⟩ => ⟨S1x896, .f32⟩
  | .local _ .vmem, ⟨5, _⟩ => ⟨S1x896, .f32⟩
  | .local _ .vmem, ⟨6, _⟩ => ⟨S4096x256, .fp8e4m3⟩
  | .local _ .vmem, ⟨7, _⟩ => ⟨S4096x256, .fp8e4m3⟩
  | .local _ .vmem, ⟨8, _⟩ => ⟨S128x256, .i8⟩
  | .local _ .vmem, ⟨9, _⟩ => ⟨S128x256, .i8⟩
  | .local _ .vmem, ⟨10, _⟩ => ⟨S256x896, .fp8e4m3⟩
  | .local _ .vmem, ⟨11, _⟩ => ⟨S256x896, .fp8e4m3⟩
  | .local _ .vmem, ⟨12, _⟩ => ⟨S256x28, .i8⟩
  | .local _ .vmem, ⟨13, _⟩ => ⟨S256x28, .i8⟩
  | .local _ .vmem, ⟨14, _⟩ => ⟨S256x896, .f32⟩
  | .local _ .vmem, ⟨15, _⟩ => ⟨S256x896, .f32⟩
  | .local _ .vmem, ⟨16, _⟩ => ⟨S448x4096, .i32⟩
  | .local _ .vmem, ⟨17, _⟩ => ⟨S448x896, .i32⟩
  | .local _ .vmem, ⟨18, _⟩ => ⟨S896x128, .f32⟩
  | .local _ .vmem, ⟨19, _⟩ => ⟨S2048x256, .i32⟩
  | .local _ .vmem, ⟨20, _⟩ => ⟨S896x256, .f32⟩
  | .local _ .vmem, ⟨21, _⟩ => ⟨S448x256, .i32⟩
  | .local _ .vmem, ⟨22, _⟩ => ⟨S2x32x128, .i32⟩
  | .local _ .vmem, ⟨23, _⟩ => ⟨S896x256, .f32⟩
  | .local _ .smem, ⟨0, _⟩ => ⟨S6x156, .i32⟩
  | _, _ => ⟨S4096x896, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [BitOps F]

abbrev grid0 : Pipeline.Grid := ⟨1, ![160], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c1_i32 : BitVec 32) : Fin 2 → Nat :=
  let c5 : Index := 5#32
  let c155_i32 : BitVec 32 := 155#32
  let c0_i32 : BitVec 32 := 0#32
  let arg0 : BitVec 32 := BitVec.ofNat 32 (i 0).val
  let v0 : BitVec 32 := Scalar.subi arg0 c1_i32
  let v1 : BitVec 32 := Scalar.maxsi c0_i32 v0
  let v2 : BitVec 32 := Scalar.minsi c155_i32 v1
  let v3 : Index := Scalar.indexCast v2
  ![5, v3.toNat]
def k0_off1_at (r : Fin 3) : BitVec 32 :=
  if r.val < 1 then
    1#32
  else
    if r.val < 2 then
      3#32
    else
      4#32
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (k0_off1_inb : ∀ i : grid0.Coords, ∀ (r : Fin 3), ∀ a, (k0_off1 i (k0_off1_at r)) a + S1x1.size a ≤ S6x156.size a) (numel1_S1x1 : S1x1.numel = 1) (pf : pre0.Contents (Elt F)) (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c155_i32 : BitVec 32 := 155#32
  let v1 : BitVec 32 := Scalar.maxsi c0_i32 v0
  let v2 : BitVec 32 := Scalar.minsi c155_i32 v1
  let c5 : Index := 5#32
  let v3 : Index := Scalar.indexCast v2
  let v4 : BitVec 32 := pf.at 0 (Rect.unit (s := S6x156) ![5, v3.toNat] S1x1.size (k0_off1_inb i 0)) numel1_S1x1
  let c0_i32_0 : BitVec 32 := 0#32
  let c0_i32_1 : BitVec 32 := 0#32
  ![c0_i32_0.toNat, v4.toNat]

def cc0_transform_7 (k0_off1_inb : ∀ i : grid0.Coords, ∀ (r : Fin 3), ∀ a, (k0_off1 i (k0_off1_at r)) a + S1x1.size a ≤ S6x156.size a) (numel1_S1x1 : S1x1.numel = 1) (pf : pre0.Contents (Elt F)) (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c155_i32 : BitVec 32 := 155#32
  let v1 : BitVec 32 := Scalar.maxsi c0_i32 v0
  let v2 : BitVec 32 := Scalar.minsi c155_i32 v1
  let c5 : Index := 5#32
  let v3 : Index := Scalar.indexCast v2
  let v4 : BitVec 32 := pf.at 0 (Rect.unit (s := S6x156) ![5, v3.toNat] S1x1.size (k0_off1_inb i 0)) numel1_S1x1
  let c0_i32_0 : BitVec 32 := 0#32
  let c0_i32_1 : BitVec 32 := 0#32
  ![c0_i32_0.toNat, v4.toNat]

def cc0_transform_8 (k0_off1_inb : ∀ i : grid0.Coords, ∀ (r : Fin 3), ∀ a, (k0_off1 i (k0_off1_at r)) a + S1x1.size a ≤ S6x156.size a) (numel1_S1x1 : S1x1.numel = 1) (pf : pre0.Contents (Elt F)) (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c155_i32 : BitVec 32 := 155#32
  let v1 : BitVec 32 := Scalar.maxsi c0_i32 v0
  let v2 : BitVec 32 := Scalar.minsi c155_i32 v1
  let c5 : Index := 5#32
  let v3 : Index := Scalar.indexCast v2
  let v4 : BitVec 32 := pf.at 0 (Rect.unit (s := S6x156) ![5, v3.toNat] S1x1.size (k0_off1_inb i 1)) numel1_S1x1
  let c0_i32_0 : BitVec 32 := 0#32
  let c0_i32_1 : BitVec 32 := 0#32
  ![v4.toNat, c0_i32_0.toNat]

def cc0_transform_9 (k0_off1_inb : ∀ i : grid0.Coords, ∀ (r : Fin 3), ∀ a, (k0_off1 i (k0_off1_at r)) a + S1x1.size a ≤ S6x156.size a) (numel1_S1x1 : S1x1.numel = 1) (pf : pre0.Contents (Elt F)) (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c155_i32 : BitVec 32 := 155#32
  let v1 : BitVec 32 := Scalar.maxsi c0_i32 v0
  let v2 : BitVec 32 := Scalar.minsi c155_i32 v1
  let c5 : Index := 5#32
  let v3 : Index := Scalar.indexCast v2
  let v4 : BitVec 32 := pf.at 0 (Rect.unit (s := S6x156) ![5, v3.toNat] S1x1.size (k0_off1_inb i 1)) numel1_S1x1
  let c0_i32_0 : BitVec 32 := 0#32
  let c0_i32_1 : BitVec 32 := 0#32
  ![v4.toNat, c0_i32_0.toNat]

def cc0_transform_10 (k0_off1_inb : ∀ i : grid0.Coords, ∀ (r : Fin 3), ∀ a, (k0_off1 i (k0_off1_at r)) a + S1x1.size a ≤ S6x156.size a) (numel1_S1x1 : S1x1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c155_i32 : BitVec 32 := 155#32
  let v1 : BitVec 32 := Scalar.maxsi c0_i32 v0
  let v2 : BitVec 32 := Scalar.minsi c155_i32 v1
  let c5 : Index := 5#32
  let v3 : Index := Scalar.indexCast v2
  let v4 : BitVec 32 := pf.at 0 (Rect.unit (s := S6x156) ![5, v3.toNat] S1x1.size (k0_off1_inb i 2)) numel1_S1x1
  let c0_i32_0 : BitVec 32 := 0#32
  let c0_i32_1 : BitVec 32 := 0#32
  ![v4.toNat, c0_i32_0.toNat]

abbrev stage0_0 : Fin 1 → Memref sig .tc .vmem S4096x896 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x896 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S896x896 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S28x896 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x896 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x896 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x896 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x28 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x896 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
abbrev S6x156 : Shape := ⟨2, ![6, 156]⟩
abbrev S4096x896 : Shape := ⟨2, ![4096, 896]⟩
abbrev S128x896 : Shape := ⟨2, ![128, 896]⟩
abbrev S896x896 : Shape := ⟨2, ![896, 896]⟩
abbrev S28x896 : Shape := ⟨2, ![28, 896]⟩
abbrev S1x896 : Shape := ⟨2, ![1, 896]⟩
abbrev S4096x39936 : Shape := ⟨2, ![4096, 39936]⟩
abbrev S128x39936 : Shape := ⟨2, ![128, 39936]⟩
abbrev S39936x896 : Shape := ⟨2, ![39936, 896]⟩
abbrev S39936x28 : Shape := ⟨2, ![39936, 28]⟩
abbrev S4096x256 : Shape := ⟨2, ![4096, 256]⟩
abbrev S1x1 : Shape := ⟨2, ![1, 1]⟩
abbrev S128x256 : Shape := ⟨2, ![128, 256]⟩
abbrev S256x896 : Shape := ⟨2, ![256, 896]⟩
abbrev S256x28 : Shape := ⟨2, ![256, 28]⟩
abbrev S448x4096 : Shape := ⟨2, ![448, 4096]⟩
abbrev S448x2x4096 : Shape := ⟨3, ![448, 2, 4096]⟩
abbrev S448x1x4096 : Shape := ⟨3, ![448, 1, 4096]⟩
abbrev S448x896 : Shape := ⟨2, ![448, 896]⟩
abbrev S448x2x896 : Shape := ⟨3, ![448, 2, 896]⟩
abbrev S448x1x896 : Shape := ⟨3, ![448, 1, 896]⟩
abbrev S896x128 : Shape := ⟨2, ![896, 128]⟩
abbrev S2048x256 : Shape := ⟨2, ![2048, 256]⟩
abbrev S2048x2x256 : Shape := ⟨3, ![2048, 2, 256]⟩
abbrev S2048x1x256 : Shape := ⟨3, ![2048, 1, 256]⟩
abbrev S896x256 : Shape := ⟨2, ![896, 256]⟩
abbrev S448x256 : Shape := ⟨2, ![448, 256]⟩
abbrev S448x2x256 : Shape := ⟨3, ![448, 2, 256]⟩
abbrev S448x1x256 : Shape := ⟨3, ![448, 1, 256]⟩
abbrev S2x32x128 : Shape := ⟨3, ![2, 32, 128]⟩
abbrev S4x896 : Shape := ⟨2, ![4, 896]⟩
abbrev S32x896 : Shape := ⟨2, ![32, 896]⟩
abbrev S256x128 : Shape := ⟨2, ![256, 128]⟩
abbrev S64x256 : Shape := ⟨2, ![64, 256]⟩
abbrev S64x2x256 : Shape := ⟨3, ![64, 2, 256]⟩
abbrev S64x1x256 : Shape := ⟨3, ![64, 1, 256]⟩
abbrev S1x128 : Shape := ⟨2, ![1, 128]⟩
abbrev S128x128 : Shape := ⟨2, ![128, 128]⟩
abbrev S448x128 : Shape := ⟨2, ![448, 128]⟩
abbrev S448x2x128 : Shape := ⟨3, ![448, 2, 128]⟩
abbrev S448x1x128 : Shape := ⟨3, ![448, 1, 128]⟩
abbrev S32x128 : Shape := ⟨2, ![32, 128]⟩
abbrev S8x128 : Shape := ⟨2, ![8, 128]⟩
abbrev S16x128 : Shape := ⟨2, ![16, 128]⟩
abbrev S16x2x128 : Shape := ⟨3, ![16, 2, 128]⟩
abbrev S16x1x128 : Shape := ⟨3, ![16, 1, 128]⟩
abbrev S1x1x128 : Shape := ⟨3, ![1, 1, 128]⟩
abbrev S1x32x128 : Shape := ⟨3, ![1, 32, 128]⟩
abbrev S128x32 : Shape := ⟨2, ![128, 32]⟩
abbrev S128x28 : Shape := ⟨2, ![128, 28]⟩
abbrev S896x4096 : Shape := ⟨2, ![896, 4096]⟩
abbrev S4x256 : Shape := ⟨2, ![4, 256]⟩
abbrev S32x256 : Shape := ⟨2, ![32, 256]⟩
abbrev S1x256 : Shape := ⟨2, ![1, 256]⟩
abbrev S256x256 : Shape := ⟨2, ![256, 256]⟩
abbrev S128x2x256 : Shape := ⟨3, ![128, 2, 256]⟩
abbrev S128x1x256 : Shape := ⟨3, ![128, 1, 256]⟩

abbrev nBuf : Space → Nat
  | .hbm => 11
  | .vmem => 24
  | .smem => 1
  | _ => 0

abbrev bufTy : (tb : Table) → Fin (tcTables nBuf tb) → BufTy
  | .hbm, ⟨0, _⟩ => ⟨S4096x896, .fp8e4m3⟩
  | .hbm, ⟨1, _⟩ => ⟨S128x896, .i8⟩
  | .hbm, ⟨2, _⟩ => ⟨S896x896, .fp8e4m3⟩
  | .hbm, ⟨3, _⟩ => ⟨S28x896, .i8⟩
  | .hbm, ⟨4, _⟩ => ⟨S1x896, .f32⟩
  | .hbm, ⟨5, _⟩ => ⟨S1x896, .f32⟩
  | .hbm, ⟨6, _⟩ => ⟨S4096x39936, .fp8e4m3⟩
  | .hbm, ⟨7, _⟩ => ⟨S128x39936, .i8⟩
  | .hbm, ⟨8, _⟩ => ⟨S39936x896, .fp8e4m3⟩
  | .hbm, ⟨9, _⟩ => ⟨S39936x28, .i8⟩
  | .hbm, ⟨10, _⟩ => ⟨S39936x896, .f32⟩
  | .local _ .vmem, ⟨0, _⟩ => ⟨S4096x896, .fp8e4m3⟩
  | .local _ .vmem, ⟨1, _⟩ => ⟨S128x896, .i8⟩
  | .local _ .vmem, ⟨2, _⟩ => ⟨S896x896, .fp8e4m3⟩
  | .local _ .vmem, ⟨3, _⟩ => ⟨S28x896, .i8⟩
  | .local _ .vmem, ⟨4, _⟩ => ⟨S1x896, .f32⟩
  | .local _ .vmem, ⟨5, _⟩ => ⟨S1x896, .f32⟩
  | .local _ .vmem, ⟨6, _⟩ => ⟨S4096x256, .fp8e4m3⟩
  | .local _ .vmem, ⟨7, _⟩ => ⟨S4096x256, .fp8e4m3⟩
  | .local _ .vmem, ⟨8, _⟩ => ⟨S128x256, .i8⟩
  | .local _ .vmem, ⟨9, _⟩ => ⟨S128x256, .i8⟩
  | .local _ .vmem, ⟨10, _⟩ => ⟨S256x896, .fp8e4m3⟩
  | .local _ .vmem, ⟨11, _⟩ => ⟨S256x896, .fp8e4m3⟩
  | .local _ .vmem, ⟨12, _⟩ => ⟨S256x28, .i8⟩
  | .local _ .vmem, ⟨13, _⟩ => ⟨S256x28, .i8⟩
  | .local _ .vmem, ⟨14, _⟩ => ⟨S256x896, .f32⟩
  | .local _ .vmem, ⟨15, _⟩ => ⟨S256x896, .f32⟩
  | .local _ .vmem, ⟨16, _⟩ => ⟨S448x2x4096, .bf16⟩
  | .local _ .vmem, ⟨17, _⟩ => ⟨S448x2x896, .bf16⟩
  | .local _ .vmem, ⟨18, _⟩ => ⟨S896x128, .f32⟩
  | .local _ .vmem, ⟨19, _⟩ => ⟨S2048x2x256, .bf16⟩
  | .local _ .vmem, ⟨20, _⟩ => ⟨S896x256, .f32⟩
  | .local _ .vmem, ⟨21, _⟩ => ⟨S448x2x256, .bf16⟩
  | .local _ .vmem, ⟨22, _⟩ => ⟨S2x32x128, .i32⟩
  | .local _ .vmem, ⟨23, _⟩ => ⟨S896x256, .f32⟩
  | .local _ .smem, ⟨0, _⟩ => ⟨S6x156, .i32⟩
  | _, _ => ⟨S4096x896, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![160], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c1_i32 : BitVec 32) : Fin 2 → Nat :=
  let c5 : Index := 5#32
  let c155_i32 : BitVec 32 := 155#32
  let c0_i32 : BitVec 32 := 0#32
  let arg0 : BitVec 32 := BitVec.ofNat 32 (i 0).val
  let v0 : BitVec 32 := Scalar.subi arg0 c1_i32
  let v1 : BitVec 32 := Scalar.maxsi c0_i32 v0
  let v2 : BitVec 32 := Scalar.minsi c155_i32 v1
  let v3 : Index := Scalar.indexCast v2
  ![5, v3.toNat]
def k0_off1_at (r : Fin 3) : BitVec 32 :=
  if r.val < 1 then
    1#32
  else
    if r.val < 2 then
      3#32
    else
      4#32
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (k0_off1_inb : ∀ i : grid0.Coords, ∀ (r : Fin 3), ∀ a, (k0_off1 i (k0_off1_at r)) a + S1x1.size a ≤ S6x156.size a) (numel1_S1x1 : S1x1.numel = 1) (pf : pre0.Contents (Elt F)) (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c155_i32 : BitVec 32 := 155#32
  let v1 : BitVec 32 := Scalar.maxsi c0_i32 v0
  let v2 : BitVec 32 := Scalar.minsi c155_i32 v1
  let c5 : Index := 5#32
  let v3 : Index := Scalar.indexCast v2
  let v4 : BitVec 32 := pf.at 0 (Rect.unit (s := S6x156) ![5, v3.toNat] S1x1.size (k0_off1_inb i 0)) numel1_S1x1
  let c0_i32_0 : BitVec 32 := 0#32
  let c0_i32_1 : BitVec 32 := 0#32
  ![c0_i32_0.toNat, v4.toNat]

def cc0_transform_7 (k0_off1_inb : ∀ i : grid0.Coords, ∀ (r : Fin 3), ∀ a, (k0_off1 i (k0_off1_at r)) a + S1x1.size a ≤ S6x156.size a) (numel1_S1x1 : S1x1.numel = 1) (pf : pre0.Contents (Elt F)) (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c155_i32 : BitVec 32 := 155#32
  let v1 : BitVec 32 := Scalar.maxsi c0_i32 v0
  let v2 : BitVec 32 := Scalar.minsi c155_i32 v1
  let c5 : Index := 5#32
  let v3 : Index := Scalar.indexCast v2
  let v4 : BitVec 32 := pf.at 0 (Rect.unit (s := S6x156) ![5, v3.toNat] S1x1.size (k0_off1_inb i 0)) numel1_S1x1
  let c0_i32_0 : BitVec 32 := 0#32
  let c0_i32_1 : BitVec 32 := 0#32
  ![c0_i32_0.toNat, v4.toNat]

def cc0_transform_8 (k0_off1_inb : ∀ i : grid0.Coords, ∀ (r : Fin 3), ∀ a, (k0_off1 i (k0_off1_at r)) a + S1x1.size a ≤ S6x156.size a) (numel1_S1x1 : S1x1.numel = 1) (pf : pre0.Contents (Elt F)) (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c155_i32 : BitVec 32 := 155#32
  let v1 : BitVec 32 := Scalar.maxsi c0_i32 v0
  let v2 : BitVec 32 := Scalar.minsi c155_i32 v1
  let c5 : Index := 5#32
  let v3 : Index := Scalar.indexCast v2
  let v4 : BitVec 32 := pf.at 0 (Rect.unit (s := S6x156) ![5, v3.toNat] S1x1.size (k0_off1_inb i 1)) numel1_S1x1
  let c0_i32_0 : BitVec 32 := 0#32
  let c0_i32_1 : BitVec 32 := 0#32
  ![v4.toNat, c0_i32_0.toNat]

def cc0_transform_9 (k0_off1_inb : ∀ i : grid0.Coords, ∀ (r : Fin 3), ∀ a, (k0_off1 i (k0_off1_at r)) a + S1x1.size a ≤ S6x156.size a) (numel1_S1x1 : S1x1.numel = 1) (pf : pre0.Contents (Elt F)) (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c155_i32 : BitVec 32 := 155#32
  let v1 : BitVec 32 := Scalar.maxsi c0_i32 v0
  let v2 : BitVec 32 := Scalar.minsi c155_i32 v1
  let c5 : Index := 5#32
  let v3 : Index := Scalar.indexCast v2
  let v4 : BitVec 32 := pf.at 0 (Rect.unit (s := S6x156) ![5, v3.toNat] S1x1.size (k0_off1_inb i 1)) numel1_S1x1
  let c0_i32_0 : BitVec 32 := 0#32
  let c0_i32_1 : BitVec 32 := 0#32
  ![v4.toNat, c0_i32_0.toNat]

def cc0_transform_10 (k0_off1_inb : ∀ i : grid0.Coords, ∀ (r : Fin 3), ∀ a, (k0_off1 i (k0_off1_at r)) a + S1x1.size a ≤ S6x156.size a) (numel1_S1x1 : S1x1.numel = 1) (pf : pre0.Contents (Elt F)) (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c155_i32 : BitVec 32 := 155#32
  let v1 : BitVec 32 := Scalar.maxsi c0_i32 v0
  let v2 : BitVec 32 := Scalar.minsi c155_i32 v1
  let c5 : Index := 5#32
  let v3 : Index := Scalar.indexCast v2
  let v4 : BitVec 32 := pf.at 0 (Rect.unit (s := S6x156) ![5, v3.toNat] S1x1.size (k0_off1_inb i 2)) numel1_S1x1
  let c0_i32_0 : BitVec 32 := 0#32
  let c0_i32_1 : BitVec 32 := 0#32
  ![v4.toNat, c0_i32_0.toNat]

abbrev stage0_0 : Fin 1 → Memref sig .tc .vmem S4096x896 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x896 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S896x896 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S28x896 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x896 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x896 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x896 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x28 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x896 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S6x156 : Shape := ⟨2, ![6, 156]⟩
abbrev S4096x896 : Shape := ⟨2, ![4096, 896]⟩
abbrev S128x896 : Shape := ⟨2, ![128, 896]⟩
abbrev S896x896 : Shape := ⟨2, ![896, 896]⟩
abbrev S28x896 : Shape := ⟨2, ![28, 896]⟩
abbrev S1x896 : Shape := ⟨2, ![1, 896]⟩
abbrev S4096x39936 : Shape := ⟨2, ![4096, 39936]⟩
abbrev S128x39936 : Shape := ⟨2, ![128, 39936]⟩
abbrev S39936x896 : Shape := ⟨2, ![39936, 896]⟩
abbrev S39936x28 : Shape := ⟨2, ![39936, 28]⟩
abbrev S128x32x896 : Shape := ⟨3, ![128, 32, 896]⟩
abbrev S128x1x896 : Shape := ⟨3, ![128, 1, 896]⟩
abbrev S128x32x39936 : Shape := ⟨3, ![128, 32, 39936]⟩
abbrev S128x1x39936 : Shape := ⟨3, ![128, 1, 39936]⟩
abbrev S896x39936 : Shape := ⟨2, ![896, 39936]⟩
abbrev S896 : Shape := ⟨1, ![896]⟩
abbrev S896x1 : Shape := ⟨2, ![896, 1]⟩
abbrev S28x32x39936 : Shape := ⟨3, ![28, 32, 39936]⟩
abbrev S28x39936 : Shape := ⟨2, ![28, 39936]⟩
abbrev S254x28x39936 : Shape := ⟨3, ![254, 28, 39936]⟩
abbrev S1x28x39936 : Shape := ⟨3, ![1, 28, 39936]⟩
abbrev S28x1x39936 : Shape := ⟨3, ![28, 1, 39936]⟩
abbrev S28x32x896 : Shape := ⟨3, ![28, 32, 896]⟩
abbrev S28x1x896 : Shape := ⟨3, ![28, 1, 896]⟩

abbrev nBuf : Space → Nat
  | .hbm => 12
  | .vmem => 11
  | .smem => 0
  | _ => 0

abbrev bufTy : (tb : Table) → Fin (tcTables nBuf tb) → BufTy
  | .hbm, ⟨0, _⟩ => ⟨S6x156, .i32⟩
  | .hbm, ⟨1, _⟩ => ⟨S4096x896, .fp8e4m3⟩
  | .hbm, ⟨2, _⟩ => ⟨S128x896, .i8⟩
  | .hbm, ⟨3, _⟩ => ⟨S896x896, .fp8e4m3⟩
  | .hbm, ⟨4, _⟩ => ⟨S28x896, .i8⟩
  | .hbm, ⟨5, _⟩ => ⟨S1x896, .f32⟩
  | .hbm, ⟨6, _⟩ => ⟨S1x896, .f32⟩
  | .hbm, ⟨7, _⟩ => ⟨S4096x39936, .fp8e4m3⟩
  | .hbm, ⟨8, _⟩ => ⟨S128x39936, .i8⟩
  | .hbm, ⟨9, _⟩ => ⟨S39936x896, .fp8e4m3⟩
  | .hbm, ⟨10, _⟩ => ⟨S39936x28, .i8⟩
  | .hbm, ⟨11, _⟩ => ⟨S39936x896, .f32⟩
  | .local _ .vmem, ⟨0, _⟩ => ⟨S4096x896, .fp8e4m3⟩
  | .local _ .vmem, ⟨1, _⟩ => ⟨S128x896, .i8⟩
  | .local _ .vmem, ⟨2, _⟩ => ⟨S896x896, .fp8e4m3⟩
  | .local _ .vmem, ⟨3, _⟩ => ⟨S28x896, .i8⟩
  | .local _ .vmem, ⟨4, _⟩ => ⟨S1x896, .f32⟩
  | .local _ .vmem, ⟨5, _⟩ => ⟨S1x896, .f32⟩
  | .local _ .vmem, ⟨6, _⟩ => ⟨S4096x39936, .fp8e4m3⟩
  | .local _ .vmem, ⟨7, _⟩ => ⟨S128x39936, .i8⟩
  | .local _ .vmem, ⟨8, _⟩ => ⟨S39936x896, .fp8e4m3⟩
  | .local _ .vmem, ⟨9, _⟩ => ⟨S39936x28, .i8⟩
  | .local _ .vmem, ⟨10, _⟩ => ⟨S39936x896, .f32⟩
  | _, _ => ⟨S6x156, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S4096x896 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x896 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S896x896 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S28x896 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x896 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x896 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x39936 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x39936 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S39936x896 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S39936x28 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S39936x896 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.RRun.lean ====
/- The reference's run: its three results are its payloads of the argument arrays, which end unchanged. -/
module

public import proofs.«01_k».proof.Proof.Gen.ReferenceIdeal.Frame
public import Idealize.ShloMosaic.Lib.Pipeline.Value

@[expose] public section

noncomputable section

namespace Cert.ReferenceIdeal.Run

open Cert.ReferenceIdeal Cert.ReferenceIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- At the reference's one point the blocks of every window start at zero. -/
theorem idx_zero : ∀ t : Fin cfg0.N, (win0_0.index t (0 : Fin 2) = 0 ∧ win0_0.index t (1 : Fin 2) = 0) ∧ (win0_1.index t (0 : Fin 2) = 0 ∧ win0_1.index t (1 : Fin 2) = 0) ∧ (win0_2.index t (0 : Fin 2) = 0 ∧ win0_2.index t (1 : Fin 2) = 0) ∧ (win0_3.index t (0 : Fin 2) = 0 ∧ win0_3.index t (1 : Fin 2) = 0) ∧ (win0_4.index t (0 : Fin 2) = 0 ∧ win0_4.index t (1 : Fin 2) = 0) ∧ (win0_5.index t (0 : Fin 2) = 0 ∧ win0_5.index t (1 : Fin 2) = 0) ∧ (win0_6.index t (0 : Fin 2) = 0 ∧ win0_6.index t (1 : Fin 2) = 0) ∧ (win0_7.index t (0 : Fin 2) = 0 ∧ win0_7.index t (1 : Fin 2) = 0) ∧ (win0_8.index t (0 : Fin 2) = 0 ∧ win0_8.index t (1 : Fin 2) = 0) ∧ (win0_9.index t (0 : Fin 2) = 0 ∧ win0_9.index t (1 : Fin 2) = 0) ∧ (win0_10.index t (0 : Fin 2) = 0 ∧ win0_10.index t (1 : Fin 2) = 0) := (by decide +kernel : ∀ t : Fin grid0.N, _)

/-- An index of a block that starts at zero is the same index of its array. -/
theorem unit_at (k n j : ℕ) (h : k = 0) : k * n + 1 * j = j := by subst h; omega

theorem emb0 (t : Fin cfg0.N) (j : S4096x896.Idx) : ((cfg0.win 0).blk t).view.emb j = j := by
  funext a; apply Fin.ext
  match a with
  | ⟨0, _⟩ => exact unit_at _ _ _ (idx_zero t).1.1
  | ⟨1, _⟩ => exact unit_at _ _ _ (idx_zero t).1.2
theorem emb1 (t : Fin cfg0.N) (j : S128x896.Idx) : ((cfg0.win 1).blk t).view.emb j = j := by
  funext a; apply Fin.ext
  match a with
  | ⟨0, _⟩ => exact unit_at _ _ _ (idx_zero t).2.1.1
  | ⟨1, _⟩ => exact unit_at _ _ _ (idx_zero t).2.1.2
theorem emb2 (t : Fin cfg0.N) (j : S896x896.Idx) : ((cfg0.win 2).blk t).view.emb j = j := by
  funext a; apply Fin.ext
  match a with
  | ⟨0, _⟩ => exact unit_at _ _ _ (idx_zero t).2.2.1.1
  | ⟨1, _⟩ => exact unit_at _ _ _ (idx_zero t).2.2.1.2
theorem emb3 (t : Fin cfg0.N) (j : S28x896.Idx) : ((cfg0.win 3).blk t).view.emb j = j := by
  funext a; apply Fin.ext
  match a with
  | ⟨0, _⟩ => exact unit_at _ _ _ (idx_zero t).2.2.2.1.1
  | ⟨1, _⟩ => exact unit_at _ _ _ (idx_zero t).2.2.2.1.2
theorem emb4 (t : Fin cfg0.N) (j : S1x896.Idx) : ((cfg0.win 4).blk t).view.emb j = j := by
  funext a; apply Fin.ext
  match a with
  | ⟨0, _⟩ => exact unit_at _ _ _ (idx_zero t).2.2.2.2.1.1
  | ⟨1, _⟩ => exact unit_at _ _ _ (idx_zero t).2.2.2.2.1.2
theorem emb5 (t : Fin cfg0.N) (j : S1x896.Idx) : ((cfg0.win 5).blk t).view.emb j = j := by
  funext a; apply Fin.ext
  match a with
  | ⟨0, _⟩ => exact unit_at _ _ _ (idx_zero t).2.2.2.2.2.1.1
  | ⟨1, _⟩ => exact unit_at _ _ _ (idx_zero t).2.2.2.2.2.1.2
theorem emb6 (t : Fin cfg0.N) (j : S4096x39936.Idx) : ((cfg0.win 6).blk t).view.emb j = j := by
  funext a; apply Fin.ext
  match a with
  | ⟨0, _⟩ => exact unit_at _ _ _ (idx_zero t).2.2.2.2.2.2.1.1
  | ⟨1, _⟩ => exact unit_at _ _ _ (idx_zero t).2.2.2.2.2.2.1.2
theorem emb7 (t : Fin cfg0.N) (j : S128x39936.Idx) : ((cfg0.win 7).blk t).view.emb j = j := by
  funext a; apply Fin.ext
  match a with
  | ⟨0, _⟩ => exact unit_at _ _ _ (idx_zero t).2.2.2.2.2.2.2.1.1
  | ⟨1, _⟩ => exact unit_at _ _ _ (idx_zero t).2.2.2.2.2.2.2.1.2
theorem emb8 (t : Fin cfg0.N) (j : S39936x896.Idx) : ((cfg0.win 8).blk t).view.emb j = j := by
  funext a; apply Fin.ext
  match a with
  | ⟨0, _⟩ => exact unit_at _ _ _ (idx_zero t).2.2.2.2.2.2.2.2.1.1
  | ⟨1, _⟩ => exact unit_at _ _ _ (idx_zero t).2.2.2.2.2.2.2.2.1.2
theorem emb9 (t : Fin cfg0.N) (j : S39936x28.Idx) : ((cfg0.win 9).blk t).view.emb j = j := by
  funext a; apply Fin.ext
  match a with
  | ⟨0, _⟩ => exact unit_at _ _ _ (idx_zero t).2.2.2.2.2.2.2.2.2.1.1
  | ⟨1, _⟩ => exact unit_at _ _ _ (idx_zero t).2.2.2.2.2.2.2.2.2.1.2
theorem emb10 (t : Fin cfg0.N) (j : S39936x896.Idx) : ((cfg0.win 10).blk t).view.emb j = j := by
  funext a; apply Fin.ext
  match a with
  | ⟨0, _⟩ => exact unit_at _ _ _ (idx_zero t).2.2.2.2.2.2.2.2.2.2.1
  | ⟨1, _⟩ => exact unit_at _ _ _ (idx_zero t).2.2.2.2.2.2.2.2.2.2.2

/-! An input block is its array as the region finds it. -/

theorem iblk0_eq (c : Dev nD) (t : Fin cfg0.N) : iblk m c 0 t = V m c main_arg1 :=
  funext fun j => congrArg (V m c main_arg1) (emb0 t j)
theorem iblk1_eq (c : Dev nD) (t : Fin cfg0.N) : iblk m c 1 t = V m c main_arg2 :=
  funext fun j => congrArg (V m c main_arg2) (emb1 t j)
theorem iblk2_eq (c : Dev nD) (t : Fin cfg0.N) : iblk m c 2 t = V m c main_arg3 :=
  funext fun j => congrArg (V m c main_arg3) (emb2 t j)
theorem iblk3_eq (c : Dev nD) (t : Fin cfg0.N) : iblk m c 3 t = V m c main_arg4 :=
  funext fun j => congrArg (V m c main_arg4) (emb3 t j)
theorem iblk4_eq (c : Dev nD) (t : Fin cfg0.N) : iblk m c 4 t = V m c main_arg5 :=
  funext fun j => congrArg (V m c main_arg5) (emb4 t j)
theorem iblk5_eq (c : Dev nD) (t : Fin cfg0.N) : iblk m c 5 t = V m c main_arg6 :=
  funext fun j => congrArg (V m c main_arg6) (emb5 t j)
theorem iblk6_eq (c : Dev nD) (t : Fin cfg0.N) : iblk m c 6 t = V m c main_arg7 :=
  funext fun j => congrArg (V m c main_arg7) (emb6 t j)
theorem iblk7_eq (c : Dev nD) (t : Fin cfg0.N) : iblk m c 7 t = V m c main_arg8 :=
  funext fun j => congrArg (V m c main_arg8) (emb7 t j)

/-- Result 1 as a function of the argument arrays, and that it is what the run leaves. -/
def G8 (a0 : Vec F S4096x896 .fp8e4m3) (a1 : Vec F S128x896 .i8) (a2 : Vec F S896x896 .fp8e4m3) (a3 : Vec F S28x896 .i8) (a4 a5 : Vec F S1x896 .f32) (a6 : Vec F S4096x39936 .fp8e4m3) (a7 : Vec F S128x39936 .i8) : Vec F S39936x896 .fp8e4m3 :=
  k0_pay7 (k0_pay9 a0 a1 a2 a3 a4 a5 a6 a7) (k0_pay10 a0 a1 a2 a3 a4 a5 a6 a7)

theorem out8_eq (a0 : Vec F S4096x896 .fp8e4m3) (a1 : Vec F S128x896 .i8) (a2 : Vec F S896x896 .fp8e4m3) (a3 : Vec F S28x896 .i8) (a4 a5 : Vec F S1x896 .f32) (a6 : Vec F S4096x39936 .fp8e4m3) (a7 : Vec F S128x39936 .i8) : out0_8 (F := F) a0 a1 a2 a3 a4 a5 a6 a7 = G8 a0 a1 a2 a3 a4 a5 a6 a7 := by
  unfold out0_8 G8
  rw [View.canon_unit_zero hz]

theorem flushed8_eq (c : Dev nD) (t : Fin cfg0.N) :
    (dats m 0 c).flushed 8 t = ((cfg0.win 8).blk t).view.read (Elt F) (G8 (V m c main_arg1) (V m c main_arg2) (V m c main_arg3) (V m c main_arg4) (V m c main_arg5) (V m c main_arg6) (V m c main_arg7) (V m c main_arg8)) := by
  show (cfg0.win 8).cut (grid0.coords t) ((dats m 0 c).after 8 t) = _
  rw [after0_8, out8_eq, iblk0_eq, iblk1_eq, iblk2_eq, iblk3_eq, iblk4_eq, iblk5_eq, iblk6_eq, iblk7_eq]
  exact funext fun j => (congrArg (G8 (V m c main_arg1) (V m c main_arg2) (V m c main_arg3) (V m c main_arg4) (V m c main_arg5) (V m c main_arg6) (V m c main_arg7) (V m c main_arg8)) (emb8 t j)).symm

theorem final8 (c : Dev nD) : (dats m 0 c).arrAt 8 cfg0.N = G8 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 8 (G8 (V m c main_arg1) (V m c main_arg2) (V m c main_arg3) (V m c main_arg4) (V m c main_arg5) (V m c main_arg6) (V m c main_arg7) (V m c main_arg8)) (fun t _ => flushed8_eq m c t)
    (fun i => ⟨(⟨0, by decide⟩ : Fin cfg0.N), flush0_8 _, by have h := ((cfg0.win 8).blk (⟨0, by decide⟩ : Fin cfg0.N)).view.emb_mem_set i; rwa [emb8] at h⟩)).trans
    (by rw [V_main_arg1, V_main_arg2, V_main_arg3, V_main_arg4, V_main_arg5, V_main_arg6, V_main_arg7, V_main_arg8])

/-- Result 2 as a function of the argument arrays, and that it is what the run leaves. -/
def G9 (a0 : Vec F S4096x896 .fp8e4m3) (a1 : Vec F S128x896 .i8) (a2 : Vec F S896x896 .fp8e4m3) (a3 : Vec F S28x896 .i8) (a4 a5 : Vec F S1x896 .f32) (a6 : Vec F S4096x39936 .fp8e4m3) (a7 : Vec F S128x39936 .i8) : Vec F S39936x28 .i8 :=
  k0_pay8 (k0_pay10 a0 a1 a2 a3 a4 a5 a6 a7)

theorem out9_eq (a0 : Vec F S4096x896 .fp8e4m3) (a1 : Vec F S128x896 .i8) (a2 : Vec F S896x896 .fp8e4m3) (a3 : Vec F S28x896 .i8) (a4 a5 : Vec F S1x896 .f32) (a6 : Vec F S4096x39936 .fp8e4m3) (a7 : Vec F S128x39936 .i8) : out0_9 (F := F) a0 a1 a2 a3 a4 a5 a6 a7 = G9 a0 a1 a2 a3 a4 a5 a6 a7 := by
  unfold out0_9 G9
  rw [View.canon_unit_zero hz]

theorem flushed9_eq (c : Dev nD) (t : Fin cfg0.N) :
    (dats m 0 c).flushed 9 t = ((cfg0.win 9).blk t).view.read (Elt F) (G9 (V m c main_arg1) (V m c main_arg2) (V m c main_arg3) (V m c main_arg4) (V m c main_arg5) (V m c main_arg6) (V m c main_arg7) (V m c main_arg8)) := by
  show (cfg0.win 9).cut (grid0.coords t) ((dats m 0 c).after 9 t) = _
  rw [after0_9, out9_eq, iblk0_eq, iblk1_eq, iblk2_eq, iblk3_eq, iblk4_eq, iblk5_eq, iblk6_eq, iblk7_eq]
  exact funext fun j => (congrArg (G9 (V m c main_arg1) (V m c main_arg2) (V m c main_arg3) (V m c main_arg4) (V m c main_arg5) (V m c main_arg6) (V m c main_arg7) (V m c main_arg8)) (emb9 t j)).symm

theorem final9 (c : Dev nD) : (dats m 0 c).arrAt 9 cfg0.N = G9 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 9 (G9 (V m c main_arg1) (V m c main_arg2) (V m c main_arg3) (V m c main_arg4) (V m c main_arg5) (V m c main_arg6) (V m c main_arg7) (V m c main_arg8)) (fun t _ => flushed9_eq m c t)
    (fun i => ⟨(⟨0, by decide⟩ : Fin cfg0.N), flush0_9 _, by have h := ((cfg0.win 9).blk (⟨0, by decide⟩ : Fin cfg0.N)).view.emb_mem_set i; rwa [emb9] at h⟩)).trans
    (by rw [V_main_arg1, V_main_arg2, V_main_arg3, V_main_arg4, V_main_arg5, V_main_arg6, V_main_arg7, V_main_arg8])

/-- Result 3 as a function of the argument arrays, and that it is what the run leaves. -/
def G10 (a0 : Vec F S4096x896 .fp8e4m3) (a1 : Vec F S128x896 .i8) (a2 : Vec F S896x896 .fp8e4m3) (a3 : Vec F S28x896 .i8) (a4 a5 : Vec F S1x896 .f32) (a6 : Vec F S4096x39936 .fp8e4m3) (a7 : Vec F S128x39936 .i8) : Vec F S39936x896 .f32 :=
  k0_pay1 (k0_pay5 (k0_pay10 a0 a1 a2 a3 a4 a5 a6 a7)) (k0_pay6 (k0_pay9 a0 a1 a2 a3 a4 a5 a6 a7) (k0_pay10 a0 a1 a2 a3 a4 a5 a6 a7)) a2 a3 a5

theorem out10_eq (a0 : Vec F S4096x896 .fp8e4m3) (a1 : Vec F S128x896 .i8) (a2 : Vec F S896x896 .fp8e4m3) (a3 : Vec F S28x896 .i8) (a4 a5 : Vec F S1x896 .f32) (a6 : Vec F S4096x39936 .fp8e4m3) (a7 : Vec F S128x39936 .i8) : out0_10 (F := F) a0 a1 a2 a3 a4 a5 a6 a7 = G10 a0 a1 a2 a3 a4 a5 a6 a7 := by
  unfold out0_10 G10
  rw [View.canon_unit_zero hz, View.ld_unit_zero (S := S896x896) hz _ a2, View.ld_unit_zero (S := S28x896) hz _ a3, View.ld_unit_zero (S := S1x896) hz _ a5]

theorem flushed10_eq (c : Dev nD) (t : Fin cfg0.N) :
    (dats m 0 c).flushed 10 t = ((cfg0.win 10).blk t).view.read (Elt F) (G10 (V m c main_arg1) (V m c main_arg2) (V m c main_arg3) (V m c main_arg4) (V m c main_arg5) (V m c main_arg6) (V m c main_arg7) (V m c main_arg8)) := by
  show (cfg0.win 10).cut (grid0.coords t) ((dats m 0 c).after 10 t) = _
  rw [after0_10, out10_eq, iblk0_eq, iblk1_eq, iblk2_eq, iblk3_eq, iblk4_eq, iblk5_eq, iblk6_eq, iblk7_eq]
  exact funext fun j => (congrArg (G10 (V m c main_arg1) (V m c main_arg2) (V m c main_arg3) (V m c main_arg4) (V m c main_arg5) (V m c main_arg6) (V m c main_arg7) (V m c main_arg8)) (emb10 t j)).symm

theorem final10 (c : Dev nD) : (dats m 0 c).arrAt 10 cfg0.N = G10 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 10 (G10 (V m c main_arg1) (V m c main_arg2) (V m c main_arg3) (V m c main_arg4) (V m c main_arg5) (V m c main_arg6) (V m c main_arg7) (V m c main_arg8)) (fun t _ => flushed10_eq m c t)
    (fun i => ⟨(⟨0, by decide⟩ : Fin cfg0.N), flush0_10 _, by have h := ((cfg0.win 10).blk (⟨0, by decide⟩ : Fin cfg0.N)).view.emb_mem_set i; rwa [emb10] at h⟩)).trans
    (by rw [V_main_arg1, V_main_arg2, V_main_arg3, V_main_arg4, V_main_arg5, V_main_arg6, V_main_arg7, V_main_arg8])

/-- The run. -/
theorem run : θ_run defs (onTc (τ := τ) (main (F := F))) ⟨m, fun _ => 0, ρ⟩ fun r => ∀ c : Dev nD,
      r.2.mem ((c : Thread nD τ).loc main_v0_0) = G8 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v0_1) = G9 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v0_2) = G10 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h c).1 8).trans (final8 m c),
      ((h c).1 9).trans (final9 m c),
      ((h c).1 10).trans (final10 m c),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      ((h c).1 7).trans (((dats m 0 c).arrAt_in 7 rfl _).trans ((A_eq m c 7).trans (V_main_arg8 m c)))⟩)
    (run_main m ρ)

end Cert.ReferenceIdeal.Run

end
-- ==== Proof.KBase.lean ====
/- What the runs of the kernel at machine words share: the memrefs and body at a grid point, the launch up to the region, the
   prefetched table read off the launch memory, the input blocks, the branch condition of the body, and the
   frame post read off the run of the pipeline. -/
module

public import proofs.«01_k».proof.Proof.Gen.Kernel.Launch
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_connector (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S6x156 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c)),
      (Pipeline.RDat.FramePost.arr_in h c 3 rfl).trans ((hA c 3).trans (V_main_arg4 m c)),
      (Pipeline.RDat.FramePost.arr_in h c 4 rfl).trans ((hA c 4).trans (V_main_arg5 m c)),
      (Pipeline.RDat.FramePost.arr_in h c 5 rfl).trans ((hA c 5).trans (V_main_arg6 m c)),
      (Pipeline.RDat.FramePost.arr_in h c 6 rfl).trans ((hA c 6).trans (V_main_arg7 m c)),
      (Pipeline.RDat.FramePost.arr_in h c 7 rfl).trans ((hA c 7).trans (V_main_arg8 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 160 = 0 :=
  (fun t => by
    have ht : t.val < 160 := Nat.lt_of_lt_of_eq t.isLt N_0
    have e0 : (grid0.coords t 0).val = t.val / 1 % 160 := Pipeline.Grid.coords_val t 0 (by decide) rfl
    simp only [cond0_0, e0]
    word_cmp
   : ∀ t : Fin grid0.N, cond0_0 (grid0.coords t) ↔ t.val % 160 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S4096x896 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S128x896 .i8 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S896x896 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S28x896 .i8 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x896 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x896 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S4096x256 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S128x256 .i8 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S256x896 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S256x28 .i8 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S256x896 .f32 := spec0_10.stage ((cfgM m hO).slots t 10)
abbrev hs0_10 (hO : Ok m) (t : Fin (cfgM m hO).N) : (ms0_10 m hO t).IsWhole := hstage0_10 (((cfgM m hO).slots t 10).cast nbuf0_10)
/-- The scratch operands: whole scoped buffers of the kernel's own, passed beside the windows. -/
abbrev scM0_0 : Memref sig .tc .vmem S448x4096 .i32 := Memref.whole cc0_scratch0
abbrev scM0_1 : Memref sig .tc .vmem S448x896 .i32 := Memref.whole cc0_scratch1
abbrev scM0_2 : Memref sig .tc .vmem S896x128 .f32 := Memref.whole cc0_scratch2
abbrev scM0_3 : Memref sig .tc .vmem S2048x256 .i32 := Memref.whole cc0_scratch3
abbrev scM0_4 : Memref sig .tc .vmem S896x256 .f32 := Memref.whole cc0_scratch4
abbrev scM0_5 : Memref sig .tc .vmem S448x256 .i32 := Memref.whole cc0_scratch5
abbrev scM0_6 : Memref sig .tc .vmem S2x32x128 .i32 := Memref.whole cc0_scratch6
abbrev scM0_7 : Memref sig .tc .vmem S896x256 .f32 := Memref.whole cc0_scratch7

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.Kernel.Gen

end
-- ==== Proof.KRunA.lean ====
/- The body of the kernel at machine words run once, at the first point (the weights are prepared): from whole buffers, the scratch at
   anything, to whole buffers, the inputs as they were. -/
module

public import proofs.«01_k».proof.Proof.KBase

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 24000000 in
/-- At the first point the body runs, from the inputs at their contents and the outputs and the scratch at anything, to
    the inputs at the same contents and the outputs and the scratch at something. -/
theorem runA (c : Dev nD) (i : grid0.Coords) (arg2 : Memref sig .tc .vmem S4096x896 .fp8e4m3) (harg2 : arg2.IsWhole) (arg3 : Memref sig .tc .vmem S128x896 .i8) (harg3 : arg3.IsWhole) (arg4 : Memref sig .tc .vmem S896x896 .fp8e4m3) (harg4 : arg4.IsWhole) (arg5 : Memref sig .tc .vmem S28x896 .i8) (harg5 : arg5.IsWhole) (arg6 : Memref sig .tc .vmem S1x896 .f32) (harg6 : arg6.IsWhole) (arg7 : Memref sig .tc .vmem S1x896 .f32) (harg7 : arg7.IsWhole) (arg8 : Memref sig .tc .vmem S4096x256 .fp8e4m3) (harg8 : arg8.IsWhole) (arg9 : Memref sig .tc .vmem S128x256 .i8) (harg9 : arg9.IsWhole) (arg10 : Memref sig .tc .vmem S256x896 .fp8e4m3) (harg10 : arg10.IsWhole) (arg11 : Memref sig .tc .vmem S256x28 .i8) (harg11 : arg11.IsWhole) (arg12 : Memref sig .tc .vmem S256x896 .f32) (harg12 : arg12.IsWhole) (arg13 : Memref sig .tc .vmem S448x4096 .i32) (harg13 : arg13.IsWhole) (arg14 : Memref sig .tc .vmem S448x896 .i32) (harg14 : arg14.IsWhole) (arg15 : Memref sig .tc .vmem S896x128 .f32) (harg15 : arg15.IsWhole) (arg16 : Memref sig .tc .vmem S2048x256 .i32) (harg16 : arg16.IsWhole) (arg17 : Memref sig .tc .vmem S896x256 .f32) (harg17 : arg17.IsWhole) (arg18 : Memref sig .tc .vmem S448x256 .i32) (harg18 : arg18.IsWhole) (arg19 : Memref sig .tc .vmem S2x32x128 .i32) (harg19 : arg19.IsWhole) (arg20 : Memref sig .tc .vmem S896x256 .f32) (harg20 : arg20.IsWhole) (hc0 : cond0_0 i)
    (x0 : Vec F S4096x896 .fp8e4m3) (x1 : Vec F S128x896 .i8) (x2 : Vec F S896x896 .fp8e4m3) (x3 : Vec F S28x896 .i8) (x4 : Vec F S1x896 .f32) (x5 : Vec F S1x896 .f32) (x6 : Vec F S4096x256 .fp8e4m3) (x7 : Vec F S128x256 .i8) (xt0 : TbBuf0 (F := F) c tbM0_0) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ tbPt0 c tbM0_0 xt0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ tbPt0 c tbM0_0 xt0) -∗ K ⟨⟩))
      ⊢ wp frame (wpE (defs₀ (F := F)) Variants.none c none) E (cc0_connector i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_connector_eq_skeleton]; unfold cc0_connector_skel
  simp only [k0_part292_eq_skeleton, k0_part293_eq_skeleton, k0_part294_eq_skeleton, k0_part295_eq_skeleton, k0_part42_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, HT0, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  iexact HT0

end Cert.Kernel.Gen

end
-- ==== Proof.KRunB.lean ====
/- The body of the kernel at machine words run once, at a later point: from whole buffers, the scratch at
   anything, to whole buffers, the inputs as they were. -/
module

public import proofs.«01_k».proof.Proof.KBase

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 24000000 in
/-- At a later point the body runs, from the inputs at their contents and the outputs and the scratch at anything, to
    the inputs at the same contents and the outputs and the scratch at something. -/
theorem runB (c : Dev nD) (i : grid0.Coords) (arg2 : Memref sig .tc .vmem S4096x896 .fp8e4m3) (harg2 : arg2.IsWhole) (arg3 : Memref sig .tc .vmem S128x896 .i8) (harg3 : arg3.IsWhole) (arg4 : Memref sig .tc .vmem S896x896 .fp8e4m3) (harg4 : arg4.IsWhole) (arg5 : Memref sig .tc .vmem S28x896 .i8) (harg5 : arg5.IsWhole) (arg6 : Memref sig .tc .vmem S1x896 .f32) (harg6 : arg6.IsWhole) (arg7 : Memref sig .tc .vmem S1x896 .f32) (harg7 : arg7.IsWhole) (arg8 : Memref sig .tc .vmem S4096x256 .fp8e4m3) (harg8 : arg8.IsWhole) (arg9 : Memref sig .tc .vmem S128x256 .i8) (harg9 : arg9.IsWhole) (arg10 : Memref sig .tc .vmem S256x896 .fp8e4m3) (harg10 : arg10.IsWhole) (arg11 : Memref sig .tc .vmem S256x28 .i8) (harg11 : arg11.IsWhole) (arg12 : Memref sig .tc .vmem S256x896 .f32) (harg12 : arg12.IsWhole) (arg13 : Memref sig .tc .vmem S448x4096 .i32) (harg13 : arg13.IsWhole) (arg14 : Memref sig .tc .vmem S448x896 .i32) (harg14 : arg14.IsWhole) (arg15 : Memref sig .tc .vmem S896x128 .f32) (harg15 : arg15.IsWhole) (arg16 : Memref sig .tc .vmem S2048x256 .i32) (harg16 : arg16.IsWhole) (arg17 : Memref sig .tc .vmem S896x256 .f32) (harg17 : arg17.IsWhole) (arg18 : Memref sig .tc .vmem S448x256 .i32) (harg18 : arg18.IsWhole) (arg19 : Memref sig .tc .vmem S2x32x128 .i32) (harg19 : arg19.IsWhole) (arg20 : Memref sig .tc .vmem S896x256 .f32) (harg20 : arg20.IsWhole) (hc0 : ¬cond0_0 i)
    (x0 : Vec F S4096x896 .fp8e4m3) (x1 : Vec F S128x896 .i8) (x2 : Vec F S896x896 .fp8e4m3) (x3 : Vec F S28x896 .i8) (x4 : Vec F S1x896 .f32) (x5 : Vec F S1x896 .f32) (x6 : Vec F S4096x256 .fp8e4m3) (x7 : Vec F S128x256 .i8) (xt0 : TbBuf0 (F := F) c tbM0_0) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ tbPt0 c tbM0_0 xt0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ tbPt0 c tbM0_0 xt0) -∗ K ⟨⟩))
      ⊢ wp frame (wpE (defs₀ (F := F)) Variants.none c none) E (cc0_connector i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_connector_eq_skeleton]; unfold cc0_connector_skel
  simp only [k0_part292_eq_skeleton, k0_part293_eq_skeleton, k0_part294_eq_skeleton, k0_part295_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, HT0, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  iexact HT0

end Cert.Kernel.Gen

end
-- ==== Proof.KFrame.lean ====
/- The frame of the kernel at machine words: the body obligation with the scratch and the output at anything, and the
   launch. -/
module

public import proofs.«01_k».proof.Proof.KRunA
public import proofs.«01_k».proof.Proof.KRunB
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The three output windows are forgotten: nothing reads what the kernel leaves in them, so nothing of it is named. -/
def forgets0 : Fin 11 → Bool := fun w => w.val == 8 || w.val == 9 || w.val == 10

/-- The proof data of the one pipeline on core `c`: the arrays as the region finds them; after the body at point `t` each
    input's buffer at its block and the outputs at nothing named; the scratch, the generator register and the table's
    halves between points; nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, h⟩ => Pipeline.Dat.unnamed (cfg := (cfgM m hO)) ⟨8, h⟩ t
    | ⟨9, h⟩ => Pipeline.Dat.unnamed (cfg := (cfgM m hO)) ⟨9, h⟩ t
    | ⟨10, h⟩ => Pipeline.Dat.unnamed (cfg := (cfgM m hO)) ⟨10, h⟩ t
  Φ _ := iprop(Pipeline.ΦA spec0 c ∗ Pipeline.ΦT pre0 (tbl m) c)
  q _ := fullShare
  owed _ := 0

/-- The proof data's arrays are the region-entry contents. -/
theorem A_eq (hO : Ok m) (c : Dev nD) (w : Fin (cfgM m hO).W) : (dats m hO 0 c).A w = V m c (Pipeline.arrRef spec0 w) := by
  dsimp only [dats]

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl

/-- Each input's current staging buffer holds its block at every point, fetched there or not. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

/-! ## The body obligation, at a generic point -/

/-- What the body is called with at point `t` (the library's body obligation's precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d))

set_option maxHeartbeats 12800000 in
/-- The body at any point: the inputs' memrefs hold their blocks, the scratch is at anything, and the run of the point's
    case applies. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl,
    after0_0, after0_1, after0_2, after0_3, after0_4, after0_5, after0_6, after0_7]
  rw [show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl, PhiT0_eq, PhiA0_eq]
  by_cases h0 : t.val % 160 = 0
  · iintro ⟨⟨⟨⟨HS0, HS1, HS2, HS3, HS4, HS5, HS6, HS7⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runA c (grid0.coords t) _ _ _ _ _ _ _ _ _ _ _ _ _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (iblk m hO c 7 t) (tbl m 0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HT0]; · iexact HT0
    iintro ⟨H0, H1, H2, H3, H4, H5, H6, H7, H8, H9, H10, HS0, HS1, HS2, HS3, HS4, HS5, HS6, HS7, HT0⟩
    isplitl [HS0 HS1 HS2 HS3 HS4 HS5 HS6 HS7 Hg HT0]
    · isplitl [HS0 HS1 HS2 HS3 HS4 HS5 HS6 HS7 Hg]
      · isplitl [HS0 HS1 HS2 HS3 HS4 HS5 HS6 HS7]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iexact HS7
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iintro ⟨⟨⟨⟨HS0, HS1, HS2, HS3, HS4, HS5, HS6, HS7⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runB c (grid0.coords t) _ _ _ _ _ _ _ _ _ _ _ _ _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (tbl m 0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HT0]; · iexact HT0
    iintro ⟨H0, H1, H2, H3, H4, H5, H6, H7, H8, H9, H10, HS0, HS1, HS2, HS3, HS4, HS5, HS6, HS7, HT0⟩
    isplitl [HS0 HS1 HS2 HS3 HS4 HS5 HS6 HS7 Hg HT0]
    · isplitl [HS0 HS1 HS2 HS3 HS4 HS5 HS6 HS7 Hg]
      · isplitl [HS0 HS1 HS2 HS3 HS4 HS5 HS6 HS7]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iexact HS7
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-- What the launch hands the region is the invariant. -/
theorem hin (hO : Ok m) (c : Dev nD) : iprop(Pipeline.ΦA spec0 c ∗ Pipeline.ΦT pre0 (tbl m) c) ⊢ (dats m hO 0 c).Φ 0 := Idealize.SL.BI.Entails.refl _

/-- After the last point the invariant gives the scratch and the generator register back. -/
theorem hout (hO : Ok m) (c : Dev nD) : (dats m hO 0 c).Φ (Fin.last (cfgM m hO).N) ⊢ Pipeline.ΦA spec0 c := by
  show iprop(Pipeline.ΦA spec0 c ∗ Pipeline.ΦT pre0 (tbl m) c) ⊢ _
  iintro ⟨H, -⟩; iexact H

/-! ## The run and the frame -/

-- `θ_run_frameP_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_track_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

/-- At the compiled mesh, for any values, from any memory with zero counters: every weakly fair execution of @main on the
    TensorCores terminates, and every final state has every INPUT array of the pipeline unchanged, nothing stated of the
    FORGOTTEN outputs (windows 8, 9 and 10) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (fun c => (dats m hO 0 c).toRForget forgets0) (A_eq m hO) (run_main m ρ hO)

/-- THE FRAME: every execution terminates, the argument arrays end unchanged and every semaphore ends at zero, for every
    contents of the prefetched table under the side condition of it (`Ok`). -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO) ((θ_run defs _ _).mono (fun _ h => h.2) (run_main_quiescent m ρ hO))

end Cert.Kernel.Gen

end
-- ==== Proof.Pre.lean ====
/- The precondition `placed` decoded: the sixth row of the table names images and names every one of them, and the
   exponent bytes are those of finite, normal scales. -/
module

public import proofs.«01_k».proof.Pre_placed
public import Idealize.ShloMosaic.Lib.StableHlo.Predicate
public import Idealize.ShloMosaic.Lib.ReduceAll
public import Idealize.ShloMosaic.Lib.Pipeline.ValueKit

@[expose] public section

namespace Cert.Pre_placed

open Idealize.ShloMosaic Idealize.ShloMosaic.StableHlo.Predicate

variable {F : FTy → Type} [FloatOps F]

/-- A left fold by `or` over `i1` words that came out 1 from 0 met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], init, h => .inl h
  | a :: l, init, h => by
    rcases foldl_ori_eq_one f l _ h with h1 | ⟨n, hn, e⟩
    · rcases IntOp.ori_eq_one.1 h1 with hi | ha
      exacts [.inl hi, .inr ⟨a, List.mem_cons_self .., ha⟩]
    · exact .inr ⟨n, List.mem_cons_of_mem _ hn, e⟩

/-- A `reduce` by `or` from 0 that is 1 at `j` had a 1 at some operand index that reduces into `j`. -/
theorem reduce_ori_eq_one {s t u : Shape} {axes : List (Fin s.rank)} (x : s.Idx → BitVec 1) (init : u.Idx → BitVec 1)
    (h : s.ReducesTo axes t) (hu : 0 < u.numel) (j : t.Idx) (h0 : init (Shape.Idx.first hu) = 0#1)
    (e : Host.reduce IntOp.ori x init h hu j = 1#1) : ∃ i : s.Idx, h.drop i = j ∧ x i = 1#1 := by
  rw [Host.reduce_eq_foldl] at e
  rcases foldl_ori_eq_one x _ _ e with hi | ⟨n, hn, e⟩
  · rw [h0] at hi; exact absurd hi (by decide)
  · rw [List.mem_filter] at hn
    exact ⟨n, by simpa using hn.2, e⟩

/-- What the precondition says of the table and the three arrays of exponents. -/
structure Placed (t : IVec S6x156 32) (e1 : IVec S128x896 8) (e2 : IVec S28x896 8) (ea : IVec S128x39936 8) : Prop where
  /-- The sixth row of the table names images. -/
  lt : ∀ i : Fin 156, (t (ix2 (5 : Fin 6) i)).toNat < 156
  /-- It names every image. -/
  hit : ∀ k : Fin 156, ∃ i : Fin 156, (t (ix2 (5 : Fin 6) i)).toNat = k
  /-- The exponents of the first weights are neither zero nor the reserved one, -/
  w1 : ∀ j, 0 < (e1 j).toNat ∧ (e1 j).toNat < 255
  /-- nor are those of the second weights, -/
  w2 : ∀ j, 0 < (e2 j).toNat ∧ (e2 j).toNat < 255
  /-- nor those of the activations. -/
  a : ∀ j, 0 < (ea j).toNat ∧ (ea j).toNat < 255

/-- A byte widened and compared, signed, against 0 and 255. -/
theorem byte_range (b : BitVec 8) (h : IntOp.andi (IntOp.cmpi .sgt (b.setWidth 32) 0#32) (IntOp.cmpi .slt (b.setWidth 32) 255#32) = 1#1) :
    0 < b.toNat ∧ b.toNat < 255 := by
  obtain ⟨h1, h2⟩ := IntOp.andi_eq_one.1 h
  have hb : (b.setWidth 32).toNat = b.toNat := by rw [BitVec.toNat_setWidth]; have := b.isLt; omega
  have := b.isLt
  rw [sgt_iff_toNat (by omega) (by decide)] at h1
  rw [slt_iff_toNat (by omega) (by decide)] at h2
  rw [hb] at h1 h2
  exact ⟨h1, h2⟩

/-- A word compared, signed, against 0 and 156. -/
theorem word_range (b : BitVec 32) (h : IntOp.andi (IntOp.cmpi .sge b 0#32) (IntOp.cmpi .slt b 156#32) = 1#1) : b.toNat < 156 := by
  obtain ⟨h1, h2⟩ := IntOp.andi_eq_one.1 h
  rw [IntOp.cmpi_sge] at h1
  rw [IntOp.cmpi_slt] at h2
  have e0 : (0#32 : BitVec 32).toInt = 0 := by decide
  have e1 : (156#32 : BitVec 32).toInt = 156 := by decide
  rw [e0] at h1; rw [e1] at h2
  have := b.isLt
  rw [BitVec.toInt_eq_toNat_cond] at h1 h2
  split at h1 <;> omega

/-- The sixth row of the table as the precondition slices it. -/
theorem row_apply (t : IVec S6x156 32) (hs : S6x156.Slices ![5, 0] S1x156) (hc : S1x156.ShapeCasts S156) (j : S156.Idx) :
    shapeCast S156 (extractStridedSlice S1x156 ![5, 0] t hs) hc j = t (ix2 (5 : Fin 6) (j 0 : Fin 156)) := by
  pointwise

/-- The precondition says so. -/
theorem placed_of [Facts] (a0 : IVec S6x156 32) (a1 : FVec F S4096x896 .fp8e4m3) (a2 : IVec S128x896 8) (a3 : FVec F S896x896 .fp8e4m3)
    (a4 : IVec S28x896 8) (a5 a6 : FVec F S1x896 .f32) (a7 : FVec F S4096x39936 .fp8e4m3) (a8 : IVec S128x39936 8)
    (h : fn a0 a1 a2 a3 a4 a5 a6 a7 a8 = fun _ => 1#1) : Placed a0 a2 a4 a8 := by
  haveI : Subsingleton S_.Idx := ⟨fun x y => funext fun a => a.elim0⟩
  have e := congrFun h (fun a => a.elim0)
  obtain ⟨e, ha⟩ := IntOp.andi_eq_one.1 e
  obtain ⟨e, hw2⟩ := IntOp.andi_eq_one.1 e
  obtain ⟨e, hw⟩ := IntOp.andi_eq_one.1 e
  obtain ⟨hr, hh⟩ := IntOp.andi_eq_one.1 e
  have key := row_apply a0 Facts.slices_S6x156_S1x156_5_0 Facts.shapeCasts_S1x156_S156
  refine ⟨fun i => ?_, fun k => ?_, fun j => ?_, fun j => ?_, fun j => ?_⟩
  · have := Host.reduce_andi_all _ _ _ _ _ hr (ix1 i)
    rw [show i = (ix1 i : S156.Idx) 0 from rfl, ← key (ix1 i)]
    exact word_range _ this
  · have := Host.reduce_andi_all _ _ _ _ _ hh (ix1 k)
    obtain ⟨i, hd, hi⟩ := reduce_ori_eq_one _ _ _ _ _ rfl this
    refine ⟨(i 0 : Fin 156), ?_⟩
    have hk : (i 1 : ℕ) = k := by
      rw [← Shape.ReducesTo.drop_apply_val_of_eq Facts.reducesTo_S156x156_S156_d0 i 0 1, hd]; rfl
    have e1 := cmpi_eq_iff.1 hi
    pointwise at e1
    rw [e1, hk, BitVec.toNat_ofNat]
    omega
  · exact byte_range _ (Host.reduce_andi_all _ _ _ _ _ hw j)
  · exact byte_range _ (Host.reduce_andi_all _ _ _ _ _ hw2 j)
  · exact byte_range _ (Host.reduce_andi_all _ _ _ _ _ ha j)

end Cert.Pre_placed
-- ==== Proof.KTable.lean ====
/- The table the region prefetches: the image each step's blocks belong to, and the region's side condition on the table,
   from the precondition. -/
module

public import proofs.«01_k».proof.Proof.KBase
public import proofs.«01_k».proof.Proof.Pre

@[expose] public section

namespace Cert.Kernel.Gen

open Idealize.ShloMosaic Idealize.ShloMosaic.TcCoe

variable {F : FTy → Type} [FloatOps F]

/-- The position in the image order that step `n` works on, `l` steps behind. -/
def lag (n l : ℕ) : Fin 156 := ⟨min (n - l) 155, by omega⟩

/-- The step's word clamped as the index maps clamp it, one step behind -/
theorem clamp1 : ∀ n : Fin 160, (Scalar.minsi 155#32 (Scalar.maxsi 0#32 (Scalar.subi (BitVec.ofNat 32 n.val) 1#32))).toNat = (lag n.val 1).val := by
  decide

/-- three -/
theorem clamp3 : ∀ n : Fin 160, (Scalar.minsi 155#32 (Scalar.maxsi 0#32 (Scalar.subi (BitVec.ofNat 32 n.val) 3#32))).toNat = (lag n.val 3).val := by
  decide

/-- and four. -/
theorem clamp4 : ∀ n : Fin 160, (Scalar.minsi 155#32 (Scalar.maxsi 0#32 (Scalar.subi (BitVec.ofNat 32 n.val) 4#32))).toNat = (lag n.val 4).val := by
  decide

/-- The one index of a unit rectangle in the sixth row of the table. -/
theorem first_emb (k : ℕ) (q : Fin 156) (hk : k = q.val) (h : ∀ a, (![5, k] : Fin 2 → ℕ) a + S1x1.size a ≤ S6x156.size a) (h1 : 0 < S1x1.numel) :
    (Rect.unit (s := S6x156) ![5, k] S1x1.size h).emb (Shape.Idx.first h1) = ix2 (5 : Fin 6) q := by
  subst hk
  have e : (Shape.Idx.first h1 : S1x1.Idx) = ix2 (0 : Fin 1) (0 : Fin 1) := by
    funext a; apply Fin.ext; have := (Shape.Idx.first h1 a).isLt; fin_cases a <;> simp_all
  rw [e]
  idx_ext

/-- The image a word of the table's sixth row names. -/
def image (pf : pre0.Contents (Elt F)) (q : Fin 156) : ℕ := (show BitVec 32 from pf 0 (ix2 (5 : Fin 6) q)).toNat

/-- The blocks of the codes, of their exponents and of the three results are those of the image the table names. -/
theorem transform_6_eq (pf : pre0.Contents (Elt F)) (i : grid0.Coords) :
    cc0_transform_6 k0_off1_inb numel1_S1x1 pf i = ![0, image pf (lag (i 0).val 1)] := by
  funext a
  fin_cases a
  · rfl
  · exact congrArg (fun x => (show BitVec 32 from pf 0 x).toNat) (first_emb _ _ (clamp1 (i 0)) _ _)
theorem transform_7_eq (pf : pre0.Contents (Elt F)) (i : grid0.Coords) :
    cc0_transform_7 k0_off1_inb numel1_S1x1 pf i = ![0, image pf (lag (i 0).val 1)] := by
  funext a
  fin_cases a
  · rfl
  · exact congrArg (fun x => (show BitVec 32 from pf 0 x).toNat) (first_emb _ _ (clamp1 (i 0)) _ _)
theorem transform_8_eq (pf : pre0.Contents (Elt F)) (i : grid0.Coords) :
    cc0_transform_8 k0_off1_inb numel1_S1x1 pf i = ![image pf (lag (i 0).val 3), 0] := by
  funext a
  fin_cases a
  · exact congrArg (fun x => (show BitVec 32 from pf 0 x).toNat) (first_emb _ _ (clamp3 (i 0)) _ _)
  · rfl
theorem transform_9_eq (pf : pre0.Contents (Elt F)) (i : grid0.Coords) :
    cc0_transform_9 k0_off1_inb numel1_S1x1 pf i = ![image pf (lag (i 0).val 3), 0] := by
  funext a
  fin_cases a
  · exact congrArg (fun x => (show BitVec 32 from pf 0 x).toNat) (first_emb _ _ (clamp3 (i 0)) _ _)
  · rfl
theorem transform_10_eq (pf : pre0.Contents (Elt F)) (i : grid0.Coords) :
    cc0_transform_10 k0_off1_inb numel1_S1x1 pf i = ![image pf (lag (i 0).val 4), 0] := by
  funext a
  fin_cases a
  · exact congrArg (fun x => (show BitVec 32 from pf 0 x).toNat) (first_emb _ _ (clamp4 (i 0)) _ _)
  · rfl

/-- A full-height block of a matrix at a block column is whole words. -/
theorem wholeWords_col {a b c : ℕ} (p k : ℕ) (h : ∀ x, (((![0, k] : Fin 2 → ℕ) x) + 1) * (⟨2, ![a, b]⟩ : Shape).size x ≤ (⟨2, ![a, c]⟩ : Shape).size x) :
    (Rect.block (s := ⟨2, ![a, c]⟩) (⟨2, ![a, b]⟩ : Shape).size ![0, k] h).WholeWords p :=
  .inr ⟨Nat.le_refl 2, rfl, Nat.zero_mul _, rfl⟩

/-- A full-width block of a matrix at a block row is whole words, the block's rows being so. -/
theorem wholeWords_row {a b c : ℕ} (p k : ℕ) (hp : p ∣ a) (h : ∀ x, (((![k, 0] : Fin 2 → ℕ) x) + 1) * (⟨2, ![a, b]⟩ : Shape).size x ≤ (⟨2, ![c, b]⟩ : Shape).size x) :
    (Rect.block (s := ⟨2, ![c, b]⟩) (⟨2, ![a, b]⟩ : Shape).size ![k, 0] h).WholeWords p :=
  .inl (.inr ⟨Nat.le_refl 2, rfl, .inl ⟨Dvd.dvd.mul_left hp k, hp⟩⟩)

/-- A table whose sixth row names images meets the region's side condition. -/
theorem ok_of_lt (pf : pre0.Contents (Elt F)) (h : ∀ q, image pf q < 156) : ok0 pf := by
  refine ⟨fun i => ?_, fun i => ?_, fun i => ?_, fun i => ?_, fun i => ?_⟩
  · rw [transform_6_eq]
    have := h (lag (i 0).val 1)
    exact ⟨fun a => by fin_cases a <;> simp <;> omega, .inr (wholeWords_col _ _ _)⟩
  · rw [transform_7_eq]
    have := h (lag (i 0).val 1)
    exact ⟨fun a => by fin_cases a <;> simp <;> omega, .inr (wholeWords_col _ _ _)⟩
  · rw [transform_8_eq]
    have := h (lag (i 0).val 3)
    exact ⟨fun a => by fin_cases a <;> simp <;> omega, .inr (wholeWords_row _ _ (by decide) _)⟩
  · rw [transform_9_eq]
    have := h (lag (i 0).val 3)
    exact ⟨fun a => by fin_cases a <;> simp <;> omega, .inr (wholeWords_row _ _ (by decide) _)⟩
  · rw [transform_10_eq]
    have := h (lag (i 0).val 4)
    exact ⟨fun a => by fin_cases a <;> simp <;> omega, .inl rfl⟩

/-- So does the launch memory's table, when the precondition holds of device 0's arguments. -/
theorem ok_of_placed (m : (ℓ : Loc nD τ sig) → Buf (Elt F) ℓ) {e1 e2 ea}
    (h : Cert.Pre_placed.Placed (m (((0 : Dev nD).tc : Thread nD τ).loc main_arg0)) e1 e2 ea) : Ok m :=
  ok_of_lt _ fun q => h.lt q

end Cert.Kernel.Gen
-- ==== Proof.IBase.lean ====
/- What the runs of the idealized kernel share: the memrefs and body at a grid point, the launch up to the region, the
   prefetched table read off the launch memory, the input blocks, the branch condition of the body, and the
   frame post read off the run of the pipeline. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_connector (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S6x156 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c)),
      (Pipeline.RDat.FramePost.arr_in h c 3 rfl).trans ((hA c 3).trans (V_main_arg4 m c)),
      (Pipeline.RDat.FramePost.arr_in h c 4 rfl).trans ((hA c 4).trans (V_main_arg5 m c)),
      (Pipeline.RDat.FramePost.arr_in h c 5 rfl).trans ((hA c 5).trans (V_main_arg6 m c)),
      (Pipeline.RDat.FramePost.arr_in h c 6 rfl).trans ((hA c 6).trans (V_main_arg7 m c)),
      (Pipeline.RDat.FramePost.arr_in h c 7 rfl).trans ((hA c 7).trans (V_main_arg8 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 160 = 0 :=
  (fun t => by
    have ht : t.val < 160 := Nat.lt_of_lt_of_eq t.isLt N_0
    have e0 : (grid0.coords t 0).val = t.val / 1 % 160 := Pipeline.Grid.coords_val t 0 (by decide) rfl
    simp only [cond0_0, e0]
    word_cmp
   : ∀ t : Fin grid0.N, cond0_0 (grid0.coords t) ↔ t.val % 160 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S4096x896 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S128x896 .i8 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S896x896 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S28x896 .i8 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x896 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x896 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S4096x256 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S128x256 .i8 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S256x896 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S256x28 .i8 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S256x896 .f32 := spec0_10.stage ((cfgM m hO).slots t 10)
abbrev hs0_10 (hO : Ok m) (t : Fin (cfgM m hO).N) : (ms0_10 m hO t).IsWhole := hstage0_10 (((cfgM m hO).slots t 10).cast nbuf0_10)
/-- The scratch operands: whole scoped buffers of the kernel's own, passed beside the windows. -/
abbrev scM0_0 : Memref sig .tc .vmem S448x2x4096 .bf16 := Memref.whole cc0_scratch0
abbrev scM0_1 : Memref sig .tc .vmem S448x2x896 .bf16 := Memref.whole cc0_scratch1
abbrev scM0_2 : Memref sig .tc .vmem S896x128 .f32 := Memref.whole cc0_scratch2
abbrev scM0_3 : Memref sig .tc .vmem S2048x2x256 .bf16 := Memref.whole cc0_scratch3
abbrev scM0_4 : Memref sig .tc .vmem S896x256 .f32 := Memref.whole cc0_scratch4
abbrev scM0_5 : Memref sig .tc .vmem S448x2x256 .bf16 := Memref.whole cc0_scratch5
abbrev scM0_6 : Memref sig .tc .vmem S2x32x128 .i32 := Memref.whole cc0_scratch6
abbrev scM0_7 : Memref sig .tc .vmem S896x256 .f32 := Memref.whole cc0_scratch7

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.KernelIdeal.Gen

end
-- ==== Proof.IRunA.lean ====
/- The body of the idealized kernel run once at the first point (the weights are prepared), with the pieces its stores
   leave in the prepared weights, the spread bias and the unpacked block as witnesses. -/
module

public import proofs.«01_k».proof.Proof.IBase

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 24000000 in
/-- What the body's stores leave at the first point in the two prepared weights (`LS0`, `LS1`), the spread bias (`LS2`) and
    the unpacked block (`LS3`), as pieces, last first, with the proof that the body runs to that from anything in them. -/
noncomputable def irunA (c : Dev nD) (i : grid0.Coords) (arg2 : Memref sig .tc .vmem S4096x896 .fp8e4m3) (harg2 : arg2.IsWhole) (arg3 : Memref sig .tc .vmem S128x896 .i8) (harg3 : arg3.IsWhole) (arg4 : Memref sig .tc .vmem S896x896 .fp8e4m3) (harg4 : arg4.IsWhole) (arg5 : Memref sig .tc .vmem S28x896 .i8) (harg5 : arg5.IsWhole) (arg6 : Memref sig .tc .vmem S1x896 .f32) (harg6 : arg6.IsWhole) (arg7 : Memref sig .tc .vmem S1x896 .f32) (harg7 : arg7.IsWhole) (arg8 : Memref sig .tc .vmem S4096x256 .fp8e4m3) (harg8 : arg8.IsWhole) (arg9 : Memref sig .tc .vmem S128x256 .i8) (harg9 : arg9.IsWhole) (arg10 : Memref sig .tc .vmem S256x896 .fp8e4m3) (harg10 : arg10.IsWhole) (arg11 : Memref sig .tc .vmem S256x28 .i8) (harg11 : arg11.IsWhole) (arg12 : Memref sig .tc .vmem S256x896 .f32) (harg12 : arg12.IsWhole) (arg13 : Memref sig .tc .vmem S448x2x4096 .bf16) (harg13 : arg13.IsWhole) (arg14 : Memref sig .tc .vmem S448x2x896 .bf16) (harg14 : arg14.IsWhole) (arg15 : Memref sig .tc .vmem S896x128 .f32) (harg15 : arg15.IsWhole) (arg16 : Memref sig .tc .vmem S2048x2x256 .bf16) (harg16 : arg16.IsWhole) (arg17 : Memref sig .tc .vmem S896x256 .f32) (harg17 : arg17.IsWhole) (arg18 : Memref sig .tc .vmem S448x2x256 .bf16) (harg18 : arg18.IsWhole) (arg19 : Memref sig .tc .vmem S2x32x128 .i32) (harg19 : arg19.IsWhole) (arg20 : Memref sig .tc .vmem S896x256 .f32) (harg20 : arg20.IsWhole) (hc0 : cond0_0 i)
    (x0 : Vec F S4096x896 .fp8e4m3) (x1 : Vec F S128x896 .i8) (x2 : Vec F S896x896 .fp8e4m3) (x3 : Vec F S28x896 .i8) (x4 : Vec F S1x896 .f32) (x5 : Vec F S1x896 .f32) (x6 : Vec F S4096x256 .fp8e4m3) (x7 : Vec F S128x256 .i8) (xt0 : TbBuf0 (F := F) c tbM0_0) :
    Σ' (LS0 : List (View.Piece (Elt F) S448x2x4096 .bf16)) (LS1 : List (View.Piece (Elt F) S448x2x896 .bf16)) (LS2 : List (View.Piece (Elt F) S896x128 .f32)), { LS3 : List (View.Piece (Elt F) S2048x2x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ tbPt0 c tbM0_0 xt0) -∗ K ⟨⟩))
          ⊢ wp frame (wpE (defs₀ (F := F)) Variants.none c none) E (cc0_connector i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun E K => ?run⟩
  case run =>
    simp only [cc0_connector_eq_skeleton]; unfold cc0_connector_skel
    simp only [k0_part309_eq_skeleton, k0_part310_eq_skeleton, k0_part311_eq_skeleton, k0_part312_eq_skeleton, k0_part53_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]; · iexists _; iexact HS0
    isplitl [HS1]; · iexists _; iexact HS1
    isplitl [HS2]; · iexists _; iexact HS2
    isplitl [HS3]; · iexists _; iexact HS3
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    iexact HT0

end Cert.KernelIdeal.Gen

end
-- ==== Proof.IRunB.lean ====
/- The body of the idealized kernel run once at a later point, with the pieces its stores leave in the outputs, the
   unpacked block and the products as witnesses. -/
module

public import proofs.«01_k».proof.Proof.IBase

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 24000000 in
/-- What the body's stores leave at a later point in the three outputs (`L8`, `L9`, `L10`), the unpacked block (`LS3`) and the
    two products (`LS4`, `LS7`), as pieces, last first, over the scratch contents `xs·` the point before left, with the proof
    that the body runs to that. -/
noncomputable def irunB (c : Dev nD) (i : grid0.Coords) (arg2 : Memref sig .tc .vmem S4096x896 .fp8e4m3) (harg2 : arg2.IsWhole) (arg3 : Memref sig .tc .vmem S128x896 .i8) (harg3 : arg3.IsWhole) (arg4 : Memref sig .tc .vmem S896x896 .fp8e4m3) (harg4 : arg4.IsWhole) (arg5 : Memref sig .tc .vmem S28x896 .i8) (harg5 : arg5.IsWhole) (arg6 : Memref sig .tc .vmem S1x896 .f32) (harg6 : arg6.IsWhole) (arg7 : Memref sig .tc .vmem S1x896 .f32) (harg7 : arg7.IsWhole) (arg8 : Memref sig .tc .vmem S4096x256 .fp8e4m3) (harg8 : arg8.IsWhole) (arg9 : Memref sig .tc .vmem S128x256 .i8) (harg9 : arg9.IsWhole) (arg10 : Memref sig .tc .vmem S256x896 .fp8e4m3) (harg10 : arg10.IsWhole) (arg11 : Memref sig .tc .vmem S256x28 .i8) (harg11 : arg11.IsWhole) (arg12 : Memref sig .tc .vmem S256x896 .f32) (harg12 : arg12.IsWhole) (arg13 : Memref sig .tc .vmem S448x2x4096 .bf16) (harg13 : arg13.IsWhole) (arg14 : Memref sig .tc .vmem S448x2x896 .bf16) (harg14 : arg14.IsWhole) (arg15 : Memref sig .tc .vmem S896x128 .f32) (harg15 : arg15.IsWhole) (arg16 : Memref sig .tc .vmem S2048x2x256 .bf16) (harg16 : arg16.IsWhole) (arg17 : Memref sig .tc .vmem S896x256 .f32) (harg17 : arg17.IsWhole) (arg18 : Memref sig .tc .vmem S448x2x256 .bf16) (harg18 : arg18.IsWhole) (arg19 : Memref sig .tc .vmem S2x32x128 .i32) (harg19 : arg19.IsWhole) (arg20 : Memref sig .tc .vmem S896x256 .f32) (harg20 : arg20.IsWhole) (hc0 : ¬cond0_0 i)
    (x0 : Vec F S4096x896 .fp8e4m3) (x1 : Vec F S128x896 .i8) (x2 : Vec F S896x896 .fp8e4m3) (x3 : Vec F S28x896 .i8) (x4 : Vec F S1x896 .f32) (x5 : Vec F S1x896 .f32) (x6 : Vec F S4096x256 .fp8e4m3) (x7 : Vec F S128x256 .i8) (xt0 : TbBuf0 (F := F) c tbM0_0) (xs0 : Vec F S448x2x4096 .bf16) (xs1 : Vec F S448x2x896 .bf16) (xs2 : Vec F S896x128 .f32) (xs3 : Vec F S2048x2x256 .bf16) (xs4 : Vec F S896x256 .f32) (xs6 : Vec F S2x32x128 .i32) (xs7 : Vec F S896x256 .f32) :
    Σ' (L8 : List (View.Piece (Elt F) S256x896 .fp8e4m3)) (L9 : List (View.Piece (Elt F) S256x28 .i8)) (L10 : List (View.Piece (Elt F) S256x896 .f32)) (LS3 : List (View.Piece (Elt F) S2048x2x256 .bf16)) (LS4 : List (View.Piece (Elt F) S896x256 .f32)), { LS7 : List (View.Piece (Elt F) S896x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ (∃ d, owns (c : Thread nD τ) arg18 fullShare d) ∗ owns (c : Thread nD τ) arg19 fullShare xs6 ∗ owns (c : Thread nD τ) arg20 fullShare xs7 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ owns (c : Thread nD τ) arg13 fullShare xs0 ∗ owns (c : Thread nD τ) arg14 fullShare xs1 ∗ owns (c : Thread nD τ) arg15 fullShare xs2 ∗ (∃ f, arg16.view.loc (c : Thread nD τ) ↦[arg16.view.set]{fullShare} arg16.view.writes (Elt F) f LS3) ∗ (∃ f, arg17.view.loc (c : Thread nD τ) ↦[arg17.view.set]{fullShare} arg17.view.writes (Elt F) f LS4) ∗ (∃ d, owns (c : Thread nD τ) arg18 fullShare d) ∗ (∃ d, owns (c : Thread nD τ) arg19 fullShare d) ∗ (∃ f, arg20.view.loc (c : Thread nD τ) ↦[arg20.view.set]{fullShare} arg20.view.writes (Elt F) f LS7) ∗ tbPt0 c tbM0_0 xt0) -∗ K ⟨⟩))
          ⊢ wp frame (wpE (defs₀ (F := F)) Variants.none c none) E (cc0_connector i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, fun E K => ?run⟩
  case run =>
    simp only [cc0_connector_eq_skeleton]; unfold cc0_connector_skel
    simp only [k0_part309_eq_skeleton, k0_part310_eq_skeleton, k0_part311_eq_skeleton, k0_part312_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, ⟨%fs2, %hfs2, HS2⟩, ⟨%fs3, %hfs3, HS3⟩, ⟨%fs4, %hfs4, HS4⟩, ⟨%ds5, %fs5, -, HS5⟩, ⟨%fs6, %hfs6, HS6⟩, ⟨%fs7, %hfs7, HS7⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg13.eq_unread hfs0; obtain rfl := harg14.eq_unread hfs1; obtain rfl := harg15.eq_unread hfs2; obtain rfl := harg16.eq_unread hfs3; obtain rfl := harg17.eq_unread hfs4; obtain rfl := harg19.eq_unread hfs6; obtain rfl := harg20.eq_unread hfs7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [HS0]
    · iexists _; isplitr; · ipureintro; exact harg13.read_unread _
      iexact HS0
    isplitl [HS1]
    · iexists _; isplitr; · ipureintro; exact harg14.read_unread _
      iexact HS1
    isplitl [HS2]
    · iexists _; isplitr; · ipureintro; exact harg15.read_unread _
      iexact HS2
    isplitl [HS3]; · iexists _; iexact HS3
    isplitl [HS4]; · iexists _; iexact HS4
    isplitl [HS5]
    · iexists _, _; isplitr; swap; · iexact HS5
      ipureintro; rfl
    isplitl [HS6]
    · iexists _, _; isplitr; swap; · iexact HS6
      ipureintro; rfl
    isplitl [HS7]; · iexists _; iexact HS7
    iexact HT0

end Cert.KernelIdeal.Gen

end
-- ==== Proof.IPow.lean ====
/- Powers of two as words of the exponent field, how many of them are at most a value, and the ladder of compares that
   finds that number. -/
module

public import Idealize.ShloMosaic.Lib.Pipeline.ValueKit

@[expose] public section

set_option maxRecDepth 16384

noncomputable section

namespace Cert.Quant

open Idealize.ShloMosaic

/-- A float32 word of no sign, no fraction and an unreserved exponent is a power of two. -/
theorem ieee_pow (b : BitVec 32) (k : ℕ) (hs : (b.extractLsb' 31 1 == 1#1) = false) (he : (b.extractLsb' 23 8).toNat = k)
    (hf : (b.extractLsb' 0 23).toNat = 0) (h : 0 < k ∧ k < 255) :
    Ideal.ieee 8 23 b = (((2 : ℝ) ^ ((k : ℤ) - 127) : ℝ) : EReal) := by
  have h1 : ¬ k = 2 ^ 8 - 1 := by omega
  have h0 : ¬ k = 0 := by omega
  have hp : (8388608 : ℝ) = (2 : ℝ) ^ (23 : ℤ) := by norm_num
  have key : (1 : ℝ) * ((2 ^ 23 + 0 : ℕ) : ℝ) * (2 : ℝ) ^ ((k : ℤ) - (2 ^ (8 - 1) - 1) - (23 : ℕ)) = (2 : ℝ) ^ ((k : ℤ) - 127) := by
    have e1 : ((2 ^ 23 + 0 : ℕ) : ℝ) = (2 : ℝ) ^ (23 : ℤ) := by norm_num
    rw [one_mul, e1, ← zpow_add₀ (by norm_num : (2 : ℝ) ≠ 0)]
    congr 1
    push_cast
    ring
  unfold Ideal.ieee
  simp only [hs, he, hf, if_neg h1, if_neg h0, Bool.false_eq_true, if_false]
  exact congrArg _ key

/-- The power of two whose biased exponent is `t`. -/
def p2 (t : ℕ) : EReal := (((2 : ℝ) ^ ((t : ℤ) - 127) : ℝ) : EReal)

theorem p2_le {s t : ℕ} : p2 s ≤ p2 t ↔ s ≤ t := by
  unfold p2
  rw [EReal.coe_le_coe_iff, zpow_le_zpow_iff_right₀ (by norm_num : (1 : ℝ) < 2)]
  omega

open Classical in
/-- How many of the powers of two of biased exponent 1 to 254 are at most `m`. -/
def cnt (m : EReal) : ℕ := ((Finset.univ : Finset (Fin 254)).filter fun k : Fin 254 => p2 ((k : ℕ) + 1) ≤ m).card

theorem cnt_le (m : EReal) : cnt m ≤ 254 := by
  classical
  exact (Finset.card_filter_le _ _).trans (by simp)

/-- A power of two is at most `m` just when its exponent is at most the count. -/
theorem le_cnt (m : EReal) (t : ℕ) (h1 : 1 ≤ t) (h2 : t ≤ 254) : p2 t ≤ m ↔ t ≤ cnt m := by
  classical
  constructor
  · intro h
    have : ((Finset.univ : Finset (Fin 254)).filter fun k : Fin 254 => (k : ℕ) < t) ⊆ (Finset.univ : Finset (Fin 254)).filter fun k : Fin 254 => p2 ((k : ℕ) + 1) ≤ m := by
      intro k hk
      simp only [Finset.mem_filter, Finset.mem_univ, true_and] at hk ⊢
      exact (p2_le.mpr (by omega)).trans h
    have hc := Finset.card_le_card this
    rw [Fin.card_filter_val_lt] at hc
    have : min t 254 = t := by omega
    unfold cnt
    omega
  · intro h
    by_contra hn
    have : ((Finset.univ : Finset (Fin 254)).filter fun k : Fin 254 => p2 ((k : ℕ) + 1) ≤ m) ⊆ (Finset.univ : Finset (Fin 254)).filter fun k : Fin 254 => (k : ℕ) < t - 1 := by
      intro k hk
      simp only [Finset.mem_filter, Finset.mem_univ, true_and] at hk ⊢
      by_contra hk'
      exact hn ((p2_le.mpr (by omega)).trans hk)
    have hc := Finset.card_le_card this
    rw [Fin.card_filter_val_lt] at hc
    unfold cnt at h
    omega

open Classical in
/-- One compare of the ladder. -/
def step (k : ℕ) (m : EReal) (a : ℕ) : ℕ := if p2 (a + k) ≤ m then a + k else a

/-- A step keeps the count within what the rest of the ladder can add. -/
theorem step_inv (m : EReal) (k S a : ℕ) (h1 : 1 ≤ k) (h2 : k ≤ S + 1)
    (h : a ≤ cnt m ∧ cnt m ≤ a + (k + S) ∧ a + (k + S) ≤ 254) :
    step k m a ≤ cnt m ∧ cnt m ≤ step k m a + S ∧ step k m a + S ≤ 254 := by
  have := le_cnt m (a + k) (by omega) (by omega)
  unfold step
  split <;> rename_i hs
  · have := this.mp hs; omega
  · have : ¬ a + k ≤ cnt m := fun h' => hs (this.mpr h'); omega

/-- The ladder's eight compares in turn. -/
def l1 (m : EReal) : ℕ := step 127 m 0
def l2 (m : EReal) : ℕ := step 64 m (l1 m)
def l3 (m : EReal) : ℕ := step 32 m (l2 m)
def l4 (m : EReal) : ℕ := step 16 m (l3 m)
def l5 (m : EReal) : ℕ := step 8 m (l4 m)
def l6 (m : EReal) : ℕ := step 4 m (l5 m)
def l7 (m : EReal) : ℕ := step 2 m (l6 m)
def l8 (m : EReal) : ℕ := step 1 m (l7 m)

theorem inv1 (m : EReal) : l1 m ≤ cnt m ∧ cnt m ≤ l1 m + 127 ∧ l1 m + 127 ≤ 254 :=
  step_inv m 127 127 0 (by omega) (by omega) ⟨Nat.zero_le _, by have := cnt_le m; omega, by omega⟩
theorem inv2 (m : EReal) : l2 m ≤ cnt m ∧ cnt m ≤ l2 m + 63 ∧ l2 m + 63 ≤ 254 := step_inv m 64 63 _ (by omega) (by omega) (inv1 m)
theorem inv3 (m : EReal) : l3 m ≤ cnt m ∧ cnt m ≤ l3 m + 31 ∧ l3 m + 31 ≤ 254 := step_inv m 32 31 _ (by omega) (by omega) (inv2 m)
theorem inv4 (m : EReal) : l4 m ≤ cnt m ∧ cnt m ≤ l4 m + 15 ∧ l4 m + 15 ≤ 254 := step_inv m 16 15 _ (by omega) (by omega) (inv3 m)
theorem inv5 (m : EReal) : l5 m ≤ cnt m ∧ cnt m ≤ l5 m + 7 ∧ l5 m + 7 ≤ 254 := step_inv m 8 7 _ (by omega) (by omega) (inv4 m)
theorem inv6 (m : EReal) : l6 m ≤ cnt m ∧ cnt m ≤ l6 m + 3 ∧ l6 m + 3 ≤ 254 := step_inv m 4 3 _ (by omega) (by omega) (inv5 m)
theorem inv7 (m : EReal) : l7 m ≤ cnt m ∧ cnt m ≤ l7 m + 1 ∧ l7 m + 1 ≤ 254 := step_inv m 2 1 _ (by omega) (by omega) (inv6 m)

/-- The ladder ends at the count. -/
theorem l8_eq (m : EReal) : l8 m = cnt m := by
  have h := step_inv m 1 0 _ (by omega) (by omega) (inv7 m)
  show step 1 m (l7 m) = cnt m
  omega

/-- The word of a number shifted into the exponent field, -/
theorem shl_fields : ∀ t : Fin 255,
    ((IntOp.shli ArithUnit.vector (BitVec.ofNat 32 t) 23#32).extractLsb' 31 1 == 1#1) = false
    ∧ ((IntOp.shli ArithUnit.vector (BitVec.ofNat 32 t) 23#32).extractLsb' 23 8).toNat = t
    ∧ ((IntOp.shli ArithUnit.vector (BitVec.ofNat 32 t) 23#32).extractLsb' 0 23).toNat = 0 := by
  decide +kernel

/-- the word of the inverse scale, -/
theorem inv_fields : ∀ t : Fin 255,
    ((IntOp.subi 2197815296#32 (IntOp.maxsi (IntOp.shli ArithUnit.vector (BitVec.ofNat 32 t) 23#32) 75497472#32)).extractLsb' 31 1 == 1#1) = false
    ∧ ((IntOp.subi 2197815296#32 (IntOp.maxsi (IntOp.shli ArithUnit.vector (BitVec.ofNat 32 t) 23#32) 75497472#32)).extractLsb' 23 8).toNat = 262 - max (t : ℕ) 9
    ∧ ((IntOp.subi 2197815296#32 (IntOp.maxsi (IntOp.shli ArithUnit.vector (BitVec.ofNat 32 t) 23#32) 75497472#32)).extractLsb' 0 23).toNat = 0 := by
  decide +kernel

/-- and the word of the scale. -/
theorem sc_fields : ∀ t : Fin 255,
    ((IntOp.subi (IntOp.maxsi (IntOp.shli ArithUnit.vector (BitVec.ofNat 32 t) 23#32) 75497472#32) 67108864#32).extractLsb' 31 1 == 1#1) = false
    ∧ ((IntOp.subi (IntOp.maxsi (IntOp.shli ArithUnit.vector (BitVec.ofNat 32 t) 23#32) 75497472#32) 67108864#32).extractLsb' 23 8).toNat = max (t : ℕ) 9 - 8
    ∧ ((IntOp.subi (IntOp.maxsi (IntOp.shli ArithUnit.vector (BitVec.ofNat 32 t) 23#32) 75497472#32) 67108864#32).extractLsb' 0 23).toNat = 0 := by
  decide +kernel

theorem bits_shl (t : ℕ) (h1 : 1 ≤ t) (h2 : t ≤ 254) :
    Ideal.ofBits FTy.f32 (IntOp.shli ArithUnit.vector (BitVec.ofNat 32 t) 23#32) = p2 t := by
  obtain ⟨hs, he, hf⟩ := shl_fields ⟨t, by omega⟩
  exact ieee_pow _ t hs he hf (by omega)

theorem bits_inv (t : ℕ) (h2 : t ≤ 254) :
    Ideal.ofBits FTy.f32 (IntOp.subi 2197815296#32 (IntOp.maxsi (IntOp.shli ArithUnit.vector (BitVec.ofNat 32 t) 23#32) 75497472#32)) = p2 (262 - max t 9) := by
  obtain ⟨hs, he, hf⟩ := inv_fields ⟨t, by omega⟩
  exact ieee_pow _ (262 - max t 9) hs he hf (by omega)

theorem bits_sc (t : ℕ) (h2 : t ≤ 254) :
    Ideal.ofBits FTy.f32 (IntOp.subi (IntOp.maxsi (IntOp.shli ArithUnit.vector (BitVec.ofNat 32 t) 23#32) 75497472#32) 67108864#32) = p2 (max t 9 - 8) := by
  obtain ⟨hs, he, hf⟩ := sc_fields ⟨t, by omega⟩
  exact ieee_pow _ (max t 9 - 8) hs he hf (by omega)

/-- The absolute value, as the programs take it. -/
def ab (x : EReal) : EReal := FloatOps.absf (F := Ideal) (φ := .f32) x

/-- The largest absolute value of a group. -/
def amax {n : ℕ} (t : Fin n → EReal) : EReal := Finset.univ.sup fun i => ab (t i)

/-- A value clipped to what the codes hold. -/
def clip (x : EReal) : EReal := min (Ideal.ofBits FTy.f32 0x43E00000#32) (max (Ideal.ofBits FTy.f32 0xC3E00000#32) x)

/-- The code of `g` in a group whose largest absolute value is `M`, -/
def code (M g : EReal) : EReal := clip (g * p2 (262 - max (cnt M) 9))

/-- its scale, -/
def scale (M : EReal) : EReal := p2 (max (cnt M) 9 - 8)

open Classical in
/-- and its exponent word. -/
def expo (M : EReal) : BitVec 32 := if 0 < M then IntOp.subi (BitVec.ofNat 32 (cnt M)) 8#32 else 127#32

end Cert.Quant
-- ==== Proof.IQuant.lean ====
/- The kernel's quantiser of 32 hidden features and 128 lanes, in one canonical form, read at an element. -/
module

public import proofs.«01_k».proof.Proof.Gen.KernelIdeal.Skeleton
public import proofs.«01_k».proof.Proof.IPow

@[expose] public section

set_option maxRecDepth 16384

noncomputable section

namespace Cert.KernelIdeal.Gen

open Idealize.ShloMosaic Idealize.ShloMosaic.TcCoe Idealize.ShloMosaic.Tactic Cert.Quant

/-- The GELU of one element. -/
def gelu1 (r : EReal) : EReal :=
  (Ideal.ofBits FTy.f32 0x3F000000#32 * r) * ((1 : EReal) + Ideal.erf (r * Ideal.ofBits FTy.f32 0x3F3504F3#32))

/-- The GELU of eight of the rows. -/
def gRow (o : ℕ) (hs : S32x128.Slices ![o, 0] S8x128) (h b : Vec Ideal S32x128 .f32) : FVec Ideal S8x128 .f32 :=
  mulf (mulf (broadcast S8x128 (Scalar.ofBits .f32 0x3F000000#32)) (extractStridedSlice S8x128 ![o, 0] (addf h b) hs))
    (addf (broadcast S8x128 (Scalar.ofBits .f32 0x3F800000#32))
      (erf (mulf (extractStridedSlice S8x128 ![o, 0] (addf h b) hs) (broadcast S8x128 (Scalar.ofBits .f32 0x3F3504F3#32)))))

theorem gRow_apply (o : ℕ) (hs) (h b : Vec Ideal S32x128 .f32) (ho : o + 8 ≤ 32) (s : Fin 8) (k : Fin 128) :
    gRow o hs h b (ix2 s k) = gelu1 ((show EReal from h (ix2 (⟨o + s, by omega⟩ : Fin 32) k)) + (show EReal from b (ix2 (⟨o + s, by omega⟩ : Fin 32) k))) := by
  unfold gelu1
  pointwise [gRow]
  rfl

/-- A value and the same eight rows turned by `s`, the larger. -/
def rollMax (s : BitVec 32) (v : FVec Ideal S8x128 .f32) : FVec Ideal S8x128 .f32 :=
  maximumf v (dynamicRotate 0 s none v rotates_S8x128_d0)

/-- The largest absolute value of the 32 rows, in every one of eight. -/
def top (a b c d : FVec Ideal S8x128 .f32) : FVec Ideal S8x128 .f32 :=
  rollMax 4#32 (rollMax 2#32 (rollMax 1#32 (maximumf (maximumf (absf a) (absf b)) (maximumf (absf c) (absf d)))))

/-- One compare of the ladder, on vectors. -/
def stepV (k : BitVec 32) (m : FVec Ideal S8x128 .f32) (n : IVec S8x128 32) : IVec S8x128 32 :=
  select (cmpf .oge m (bitcastToFloat .f32 (shli (addi n (broadcast S8x128 k)) (broadcast S8x128 23#32)))) (addi n (broadcast S8x128 k)) n

theorem stepV_apply (k : ℕ) (m : FVec Ideal S8x128 .f32) (n : IVec S8x128 32) (a : ℕ) (j : S8x128.Idx) (hn : n j = BitVec.ofNat 32 a) (h1 : 1 ≤ a + k) (h2 : a + k ≤ 254) :
    stepV (BitVec.ofNat 32 k) m n j = BitVec.ofNat 32 (step k (m j) a) := by
  have hw : IntOp.addi (n j) (BitVec.ofNat 32 k) = BitVec.ofNat 32 (a + k) := by
    rw [hn]; exact (BitVec.ofNat_add a k).symm
  pointwise [stepV]
  rw [hw, bits_shl _ h1 h2, hn]
  unfold step
  split <;> rfl

/-- The ladder on vectors. -/
def numV (m : FVec Ideal S8x128 .f32) : IVec S8x128 32 :=
  stepV 1#32 m (stepV 2#32 m (stepV 4#32 m (stepV 8#32 m (stepV 16#32 m (stepV 32#32 m (stepV 64#32 m (stepV 127#32 m (broadcast S8x128 0#32))))))))

theorem numV_apply (m : FVec Ideal S8x128 .f32) (j : S8x128.Idx) : numV m j = BitVec.ofNat 32 (cnt (m j)) := by
  rw [← l8_eq]
  have b1 := inv1 (m j)
  have b2 := inv2 (m j)
  have b3 := inv3 (m j)
  have b4 := inv4 (m j)
  have b5 := inv5 (m j)
  have b6 := inv6 (m j)
  have b7 := inv7 (m j)
  exact stepV_apply 1 m _ _ j (stepV_apply 2 m _ _ j (stepV_apply 4 m _ _ j (stepV_apply 8 m _ _ j (stepV_apply 16 m _ _ j
    (stepV_apply 32 m _ _ j (stepV_apply 64 m _ _ j (stepV_apply 127 m _ 0 j rfl (by omega) (by omega))
    (by show 1 ≤ l1 (m j) + 64; omega) (by show l1 (m j) + 64 ≤ 254; omega))
    (by show 1 ≤ l2 (m j) + 32; omega) (by show l2 (m j) + 32 ≤ 254; omega))
    (by show 1 ≤ l3 (m j) + 16; omega) (by show l3 (m j) + 16 ≤ 254; omega))
    (by show 1 ≤ l4 (m j) + 8; omega) (by show l4 (m j) + 8 ≤ 254; omega))
    (by show 1 ≤ l5 (m j) + 4; omega) (by show l5 (m j) + 4 ≤ 254; omega))
    (by show 1 ≤ l6 (m j) + 2; omega) (by show l6 (m j) + 2 ≤ 254; omega))
    (by show 1 ≤ l7 (m j) + 1; omega) (by show l7 (m j) + 1 ≤ 254; omega)

theorem rollMax_1 (v : FVec Ideal S8x128 .f32) (i : Fin 8) (k : Fin 128) :
    rollMax 1#32 v (ix2 i k) = max (show EReal from v (ix2 i k)) (show EReal from v (ix2 (⟨((i : ℕ) + 8 - 1) % 8, by omega⟩ : Fin 8) k)) := by
  pointwise [rollMax]
  try rfl

theorem rollMax_2 (v : FVec Ideal S8x128 .f32) (i : Fin 8) (k : Fin 128) :
    rollMax 2#32 v (ix2 i k) = max (show EReal from v (ix2 i k)) (show EReal from v (ix2 (⟨((i : ℕ) + 8 - 2) % 8, by omega⟩ : Fin 8) k)) := by
  pointwise [rollMax]
  try rfl

theorem rollMax_4 (v : FVec Ideal S8x128 .f32) (i : Fin 8) (k : Fin 128) :
    rollMax 4#32 v (ix2 i k) = max (show EReal from v (ix2 i k)) (show EReal from v (ix2 (⟨((i : ℕ) + 8 - 4) % 8, by omega⟩ : Fin 8) k)) := by
  pointwise [rollMax]
  try rfl

/-- A number of eight less `s`, around. -/
def back (s : ℕ) (i : Fin 8) : Fin 8 := ⟨((i : ℕ) + 8 - s) % 8, by omega⟩

/-- Three turns meet every one of the eight. -/
theorem turns (w : Fin 8 → EReal) (i : Fin 8) :
    max (max (max (w i) (w (back 1 i))) (max (w (back 2 i)) (w (back 1 (back 2 i)))))
      (max (max (w (back 4 i)) (w (back 1 (back 4 i)))) (max (w (back 2 (back 4 i))) (w (back 1 (back 2 (back 4 i)))))) = Finset.univ.sup w := by
  have hle : ∀ j, w j ≤ Finset.univ.sup w := fun j => Finset.le_sup (Finset.mem_univ j)
  have hc : ∀ i j : Fin 8, j = i ∨ j = back 1 i ∨ j = back 2 i ∨ j = back 1 (back 2 i) ∨ j = back 4 i ∨ j = back 1 (back 4 i) ∨ j = back 2 (back 4 i) ∨ j = back 1 (back 2 (back 4 i)) := by
    decide +kernel
  refine le_antisymm ?_ (Finset.sup_le fun j _ => ?_)
  · simp only [max_le_iff, hle, and_self]
  · rcases hc i j with h | h | h | h | h | h | h | h <;> rw [h] <;> simp only [le_max_iff, le_refl, true_or, or_true]

theorem top_apply (a b c d : FVec Ideal S8x128 .f32) (t : Fin 32 → Fin 128 → EReal)
    (ha : ∀ (s : Fin 8) k, a (ix2 s k) = t ⟨0 + s, by omega⟩ k) (hb : ∀ (s : Fin 8) k, b (ix2 s k) = t ⟨8 + s, by omega⟩ k)
    (hc : ∀ (s : Fin 8) k, c (ix2 s k) = t ⟨16 + s, by omega⟩ k) (hd : ∀ (s : Fin 8) k, d (ix2 s k) = t ⟨24 + s, by omega⟩ k)
    (s : Fin 8) (k : Fin 128) : top a b c d (ix2 s k) = amax fun i => t i k := by
  unfold top
  rw [rollMax_4, rollMax_2, rollMax_2, rollMax_1, rollMax_1, rollMax_1, rollMax_1]
  refine (turns (fun s => maximumf (maximumf (absf a) (absf b)) (maximumf (absf c) (absf d)) (ix2 s k)) s).trans ?_
  have hv : ∀ s : Fin 8, maximumf (maximumf (absf a) (absf b)) (maximumf (absf c) (absf d)) (ix2 s k)
      = max (max (ab (t ⟨0 + s, by omega⟩ k)) (ab (t ⟨8 + s, by omega⟩ k))) (max (ab (t ⟨16 + s, by omega⟩ k)) (ab (t ⟨24 + s, by omega⟩ k))) := by
    intro s
    rw [← ha, ← hb, ← hc, ← hd]
    rfl
  unfold amax
  have hle : ∀ i, ab (t i k) ≤ Finset.univ.sup fun i => ab (t i k) := fun i => Finset.le_sup (f := fun i => ab (t i k)) (Finset.mem_univ i)
  refine le_antisymm (Finset.sup_le fun s _ => ?_) (Finset.sup_le fun i _ => ?_)
  · rw [hv]
    simp only [max_le_iff, hle, and_self]
  · refine le_trans ?_ (Finset.le_sup (f := fun s => maximumf (maximumf (absf a) (absf b)) (maximumf (absf c) (absf d)) (ix2 s k))
      (Finset.mem_univ (⟨(i : ℕ) % 8, Nat.mod_lt _ (by decide)⟩ : Fin 8)))
    rw [hv]
    have h4 : ((i : ℕ) = 0 + (i : ℕ) % 8 ∨ (i : ℕ) = 8 + (i : ℕ) % 8) ∨ (i : ℕ) = 16 + (i : ℕ) % 8 ∨ (i : ℕ) = 24 + (i : ℕ) % 8 := by omega
    simp only [le_max_iff]
    exact h4.imp (Or.imp (fun h => le_of_eq (congrArg (fun i => ab (t i k)) (Fin.ext h))) (fun h => le_of_eq (congrArg (fun i => ab (t i k)) (Fin.ext h))))
      (Or.imp (fun h => le_of_eq (congrArg (fun i => ab (t i k)) (Fin.ext h))) (fun h => le_of_eq (congrArg (fun i => ab (t i k)) (Fin.ext h))))

/-- Eight rows scaled and clipped. -/
def clipV (r inv : FVec Ideal S8x128 .f32) : FVec Ideal S8x128 .f32 :=
  minimumf (broadcast S8x128 (Scalar.ofBits .f32 0x43E00000#32)) (maximumf (broadcast S8x128 (Scalar.ofBits .f32 0xC3E00000#32)) (mulf r inv))

theorem clipV_apply (r inv : FVec Ideal S8x128 .f32) (j) : clipV r inv j = clip ((show EReal from r j) * (show EReal from inv j)) := rfl

/-- Four runs of eight rows, one after another. -/
def cat (a b c d : FVec Ideal S8x128 .f32) : FVec Ideal S32x128 .f32 :=
  concatenate S32x128 0 [⟨S8x128, a⟩, ⟨S8x128, b⟩, ⟨S8x128, c⟩, ⟨S8x128, d⟩] concatenates_S8x128_S8x128_S8x128_S8x128_S32x128_d0

theorem cat_apply (a b c d : FVec Ideal S8x128 .f32) (t : Fin 32 → Fin 128 → EReal)
    (ha : ∀ (s : Fin 8) k, a (ix2 s k) = t ⟨0 + s, by omega⟩ k) (hb : ∀ (s : Fin 8) k, b (ix2 s k) = t ⟨8 + s, by omega⟩ k)
    (hc : ∀ (s : Fin 8) k, c (ix2 s k) = t ⟨16 + s, by omega⟩ k) (hd : ∀ (s : Fin 8) k, d (ix2 s k) = t ⟨24 + s, by omega⟩ k)
    (i : Fin 32) (k : Fin 128) : cat a b c d (ix2 i k) = t i k := by
  pointwise [cat]
  by_cases h1 : (i : ℕ) < 8
  · rw [dif_pos h1]
    exact (ha ⟨i, h1⟩ k).trans (congrArg (t · k) (Fin.ext (by show 0 + (i : ℕ) = i; omega)))
  rw [dif_neg h1]
  by_cases h2 : (i : ℕ) - 8 < 8
  · rw [dif_pos h2]
    exact (hb ⟨i - 8, h2⟩ k).trans (congrArg (t · k) (Fin.ext (by show 8 + ((i : ℕ) - 8) = i; omega)))
  rw [dif_neg h2]
  by_cases h3 : (i : ℕ) - 8 - 8 < 8
  · rw [dif_pos h3]
    exact (hc ⟨i - 8 - 8, h3⟩ k).trans (congrArg (t · k) (Fin.ext (by show 16 + ((i : ℕ) - 8 - 8) = i; omega)))
  rw [dif_neg h3]
  exact (hd ⟨i - 8 - 8 - 8, by omega⟩ k).trans (congrArg (t · k) (Fin.ext (by show 24 + ((i : ℕ) - 8 - 8 - 8) = i; omega)))

/-! ## The quantised run -/

/-- The hidden features of a run of 32. -/
def g32 (h b : Vec Ideal S32x128 .f32) (i : Fin 32) (k : Fin 128) : EReal :=
  gelu1 ((show EReal from h (ix2 i k)) + (show EReal from b (ix2 i k)))

/-- The run's largest absolute values. -/
def mV (h b : Vec Ideal S32x128 .f32) : FVec Ideal S8x128 .f32 :=
  top (gRow 0 slices_S32x128_o0_0_S8x128 h b) (gRow 8 slices_S32x128_o8_0_S8x128 h b) (gRow 16 slices_S32x128_o16_0_S8x128 h b) (gRow 24 slices_S32x128_o24_0_S8x128 h b)

theorem mV_apply (h b : Vec Ideal S32x128 .f32) (s : Fin 8) (k : Fin 128) : mV h b (ix2 s k) = amax fun i => g32 h b i k :=
  top_apply _ _ _ _ (g32 h b) (gRow_apply 0 _ h b (by omega)) (gRow_apply 8 _ h b (by omega)) (gRow_apply 16 _ h b (by omega)) (gRow_apply 24 _ h b (by omega)) s k

/-- The exponent field of a run, bounded below. -/
def fieldV (n : IVec S8x128 32) : IVec S8x128 32 := maxsi (shli n (broadcast S8x128 23#32)) (broadcast S8x128 75497472#32)

/-- The inverse scale and the scale of a run. -/
def invV (h b : Vec Ideal S32x128 .f32) : FVec Ideal S8x128 .f32 := bitcastToFloat .f32 (subi (broadcast S8x128 2197815296#32) (fieldV (numV (mV h b))))
def scV (h b : Vec Ideal S32x128 .f32) : FVec Ideal S8x128 .f32 := bitcastToFloat .f32 (subi (fieldV (numV (mV h b))) (broadcast S8x128 67108864#32))

theorem invV_apply (h b : Vec Ideal S32x128 .f32) (s : Fin 8) (k : Fin 128) : invV h b (ix2 s k) = p2 (262 - max (cnt (amax fun i => g32 h b i k)) 9) := by
  rw [← bits_inv _ (cnt_le _), ← mV_apply h b s k, ← numV_apply]
  rfl

theorem scV_apply (h b : Vec Ideal S32x128 .f32) (s : Fin 8) (k : Fin 128) : scV h b (ix2 s k) = scale (amax fun i => g32 h b i k) := by
  unfold scale
  rw [← bits_sc _ (cnt_le _), ← mV_apply h b s k, ← numV_apply]
  rfl

/-- The codes of a run. -/
def codeP (h b : Vec Ideal S32x128 .f32) : FVec Ideal S32x128 .bf16 :=
  extf .bf16 (truncf .fp8e4m3 (cat (clipV (gRow 0 slices_S32x128_o0_0_S8x128 h b) (invV h b)) (clipV (gRow 8 slices_S32x128_o8_0_S8x128 h b) (invV h b))
    (clipV (gRow 16 slices_S32x128_o16_0_S8x128 h b) (invV h b)) (clipV (gRow 24 slices_S32x128_o24_0_S8x128 h b) (invV h b))) bitsLt_fp8e4m3_f32) bitsLt_fp8e4m3_bf16

theorem clipRow_apply (o : ℕ) (hs) (h b : Vec Ideal S32x128 .f32) (ho : o + 8 ≤ 32) (s : Fin 8) (k : Fin 128) :
    clipV (gRow o hs h b) (invV h b) (ix2 s k) = code (amax fun i => g32 h b i k) (g32 h b ⟨o + s, by omega⟩ k) := by
  rw [clipV_apply, invV_apply, gRow_apply o hs h b ho]
  rfl

theorem codeP_apply (h b : Vec Ideal S32x128 .f32) (i : Fin 32) (k : Fin 128) :
    codeP h b (ix2 i k) = code (amax fun i => g32 h b i k) (g32 h b i k) :=
  cat_apply _ _ _ _ (fun i k => code (amax fun i => g32 h b i k) (g32 h b i k)) (clipRow_apply 0 _ h b (by omega)) (clipRow_apply 8 _ h b (by omega))
    (clipRow_apply 16 _ h b (by omega)) (clipRow_apply 24 _ h b (by omega)) i k

/-- The dequantised codes of a run. -/
def hPart (h b : Vec Ideal S32x128 .f32) : FVec Ideal S32x128 .bf16 :=
  mulf (codeP h b) (truncf .bf16 (cat (scV h b) (scV h b) (scV h b) (scV h b)) bitsLt_bf16_f32)

theorem hPart_apply (h b : Vec Ideal S32x128 .f32) (i : Fin 32) (k : Fin 128) :
    hPart h b (ix2 i k) = code (amax fun i => g32 h b i k) (g32 h b i k) * scale (amax fun i => g32 h b i k) :=
  Ideal.mul_congr (codeP_apply h b i k) (cat_apply _ _ _ _ (fun _ k => scale (amax fun i => g32 h b i k)) (scV_apply h b) (scV_apply h b) (scV_apply h b) (scV_apply h b) i k)

/-- The payload of a store into the dequantised hidden block: the run's rows in pairs. -/
def hPay (h b : Vec Ideal S32x128 .f32) : Vec Ideal S16x2x128 .bf16 :=
  interleaveRows S16x2x128 (shapeCast S16x1x128 (rowsOfParity 0 S16x128 (hPart h b) bitcasts_S32x128_w16_S16x128_w32) shapeCasts_S16x128_S16x1x128)
    (shapeCast S16x1x128 (rowsOfParity 1 S16x128 (hPart h b) bitcasts_S32x128_w16_S16x128_w32) shapeCasts_S16x128_S16x1x128) bitcasts_S16x2x128_w16_S16x1x128_w32

theorem hPay_apply (h b : Vec Ideal S32x128 .f32) (r : Fin 16) (k : Fin 2) (f : Fin 128) :
    hPay h b (ix3 r k f) = hPart h b (ix2 (⟨2 * (r : ℕ) + k, by omega⟩ : Fin 32) f) := by
  pointwise [hPay]
  fin_cases k
  · rw [if_pos (by decide)]; rfl
  · rw [if_neg (by decide)]

/-- The payload of a store of a run's exponents. -/
def ePay (h b : Vec Ideal S32x128 .f32) : IVec S1x1x128 32 :=
  shapeCast S1x1x128 (extractStridedSlice S1x128 ![0, 0] (select (cmpf .ogt (mV h b) (broadcast S8x128 (Scalar.ofBits .f32 0x00000000#32)))
    (subi (numV (mV h b)) (broadcast S8x128 8#32)) (broadcast S8x128 127#32)) slices_S8x128_o0_0_S1x128) shapeCasts_S1x128_S1x1x128

theorem ePay_apply (h b : Vec Ideal S32x128 .f32) (k : Fin 128) : ePay h b (ix3 (0 : Fin 1) (0 : Fin 1) k) = expo (amax fun i => g32 h b i k) := by
  unfold expo
  rw [← mV_apply h b 0 k, ← numV_apply]
  pointwise [ePay]

/-- The payload of a store of the codes of four runs: turned. -/
def cPay (h0 b0 h1 b1 h2 b2 h3 b3 : Vec Ideal S32x128 .f32) : FVec Ideal S128x128 .fp8e4m3 :=
  truncf .fp8e4m3 (transpose S128x128 [1, 0]
    (concatenate S128x128 0 [⟨S32x128, codeP h0 b0⟩, ⟨S32x128, codeP h1 b1⟩, ⟨S32x128, codeP h2 b2⟩, ⟨S32x128, codeP h3 b3⟩]
      concatenates_S32x128_S32x128_S32x128_S32x128_S128x128_d0) transposes_S128x128_p1_0_S128x128) bitsLt_fp8e4m3_bf16

theorem cPay_apply (h0 b0 h1 b1 h2 b2 h3 b3 : Vec Ideal S32x128 .f32) (t : Fin 128 → Fin 128 → EReal)
    (e0 : ∀ (i : Fin 32) k, codeP h0 b0 (ix2 i k) = t ⟨0 + i, by omega⟩ k) (e1 : ∀ (i : Fin 32) k, codeP h1 b1 (ix2 i k) = t ⟨32 + i, by omega⟩ k)
    (e2 : ∀ (i : Fin 32) k, codeP h2 b2 (ix2 i k) = t ⟨64 + i, by omega⟩ k) (e3 : ∀ (i : Fin 32) k, codeP h3 b3 (ix2 i k) = t ⟨96 + i, by omega⟩ k)
    (k i : Fin 128) : cPay h0 b0 h1 b1 h2 b2 h3 b3 (ix2 k i) = t i k := by
  unfold cPay
  generalize codeP h0 b0 = c0 at *
  generalize codeP h1 b1 = c1 at *
  generalize codeP h2 b2 = c2 at *
  generalize codeP h3 b3 = c3 at *
  pointwise []
  by_cases h1 : (i : ℕ) < 32
  · rw [dif_pos h1]
    exact (e0 ⟨i, h1⟩ k).trans (congrArg (t · k) (Fin.ext (by show 0 + (i : ℕ) = i; omega)))
  rw [dif_neg h1]
  by_cases h2 : (i : ℕ) - 32 < 32
  · rw [dif_pos h2]
    exact (e1 ⟨i - 32, h2⟩ k).trans (congrArg (t · k) (Fin.ext (by show 32 + ((i : ℕ) - 32) = i; omega)))
  rw [dif_neg h2]
  by_cases h3 : (i : ℕ) - 32 - 32 < 32
  · rw [dif_pos h3]
    exact (e2 ⟨i - 32 - 32, h3⟩ k).trans (congrArg (t · k) (Fin.ext (by show 64 + ((i : ℕ) - 32 - 32) = i; omega)))
  rw [dif_neg h3]
  exact (e3 ⟨i - 32 - 32 - 32, by omega⟩ k).trans (congrArg (t · k) (Fin.ext (by show 96 + ((i : ℕ) - 32 - 32 - 32) = i; omega)))

end Cert.KernelIdeal.Gen

end
-- ==== Proof.ISpec.lean ====
/- The contents the idealized kernel's buffers are proved to hold, as functions of the codes and the exponents, and the
   payloads of its stores in one canonical form each, read at an index. -/
module

public import proofs.«01_k».proof.Proof.IQuant
public import Idealize.ShloMosaic.Lib.Pipeline.ValueKit
public import Idealize.ShloMosaic.Lib.WholeRead

@[expose] public section

set_option maxRecDepth 16384

noncomputable section

namespace Cert.KernelIdeal.Gen

open Idealize.ShloMosaic Idealize.ShloMosaic.TcCoe Idealize.ShloMosaic.Tactic Cert.Quant

/-! ## The contents -/

/-- The scale an exponent byte stands for, as the kernel forms it: the byte shifted into the exponent field of a word
    read as a 32-bit float. -/
def pow2 (e : BitVec 8) : EReal := Ideal.ofBits FTy.f32 (IntOp.shli ArithUnit.vector (BitVec.setWidth 32 e) 23#32)

/-- The row of the codes that half `k` of packed word row `r` holds: even halves hold the patches of odd number. -/
def natRow (r k : ℕ) : ℕ := (2 * (r / 1024) + 1 - k) * 1024 + r % 1024

theorem natRow_lt {r k : ℕ} (hr : r < 2048) : natRow r k < 4096 := by unfold natRow; omega

/-- The unpacked block: the dequantised codes of an image, in the order of the packed words. -/
def unpacked (x : Vec Ideal S4096x256 .fp8e4m3) (e : Vec Ideal S128x256 .i8) : Vec Ideal S2048x2x256 .bf16 := fun j =>
  (show EReal from x (ix2 (⟨natRow (j 0) (j 1), natRow_lt (j 0).isLt⟩ : Fin 4096) (j 2 : Fin 256)))
    * pow2 (e (ix2 (⟨natRow (j 0) (j 1) / 32, by have := natRow_lt (k := j 1) (j 0).isLt; omega⟩ : Fin 128) (j 2 : Fin 256)))

/-- The prepared weights: the dequantised weight codes transposed, their columns in the order of the packed words, the
    features in pairs of rows. -/
def prepared (x : Vec Ideal S4096x896 .fp8e4m3) (e : Vec Ideal S128x896 .i8) : Vec Ideal S448x2x4096 .bf16 := fun j =>
  (show EReal from x (ix2 (⟨natRow ((j 2 : ℕ) / 2) ((j 2 : ℕ) % 2), natRow_lt (by have : (j 2 : ℕ) < 4096 := (j 2).isLt; omega)⟩ : Fin 4096)
      (⟨2 * (j 0 : ℕ) + (j 1 : ℕ), by have h0 : (j 0 : ℕ) < 448 := (j 0).isLt; have h1 : (j 1 : ℕ) < 2 := (j 1).isLt; omega⟩ : Fin 896)))
    * pow2 (e (ix2 (⟨natRow ((j 2 : ℕ) / 2) ((j 2 : ℕ) % 2) / 32, by
          have : natRow ((j 2 : ℕ) / 2) ((j 2 : ℕ) % 2) < 4096 := natRow_lt (by have : (j 2 : ℕ) < 4096 := (j 2).isLt; omega)
          omega⟩ : Fin 128)
      (⟨2 * (j 0 : ℕ) + (j 1 : ℕ), by have h0 : (j 0 : ℕ) < 448 := (j 0).isLt; have h1 : (j 1 : ℕ) < 2 := (j 1).isLt; omega⟩ : Fin 896)))

/-- The bias spread over the lanes. -/
def spreadBias (b : Vec Ideal S1x896 .f32) : Vec Ideal S896x128 .f32 := fun j => b (ix2 (0 : Fin 1) (j 0 : Fin 896))

/-- A product with the spread bias added: what the kernel writes out. -/
def withBias (h : Vec Ideal S896x256 .f32) (b : Vec Ideal S896x128 .f32) : Vec Ideal S896x256 .f32 := fun j =>
  (show EReal from h j) + (show EReal from b (ix2 (j 0 : Fin 896) (⟨(j 1 : ℕ) % 128, Nat.mod_lt _ (by decide)⟩ : Fin 128)))

/-- The prepared second weights: the dequantised codes transposed, the features in pairs of rows. -/
def prepared2 (x : Vec Ideal S896x896 .fp8e4m3) (e : Vec Ideal S28x896 .i8) : Vec Ideal S448x2x896 .bf16 := fun j =>
  (show EReal from x (ix2 (j 2 : Fin 896)
      (⟨2 * (j 0 : ℕ) + (j 1 : ℕ), by have h0 : (j 0 : ℕ) < 448 := (j 0).isLt; have h1 : (j 1 : ℕ) < 2 := (j 1).isLt; omega⟩ : Fin 896)))
    * pow2 (e (ix2 (⟨(j 2 : ℕ) / 32, by have : (j 2 : ℕ) < 896 := (j 2).isLt; omega⟩ : Fin 28)
      (⟨2 * (j 0 : ℕ) + (j 1 : ℕ), by have h0 : (j 0 : ℕ) < 448 := (j 0).isLt; have h1 : (j 1 : ℕ) < 2 := (j 1).isLt; omega⟩ : Fin 896)))

/-- The hidden features of a block, an element at a time: the GELU of a product with the spread bias. -/
def hid (h : Vec Ideal S896x256 .f32) (b : Vec Ideal S896x128 .f32) (n : Fin 896) (t : Fin 256) : EReal :=
  gelu1 (show EReal from withBias h b (ix2 n t))

/-- The largest absolute value of a group of 32 features at a position. -/
def grp {K : ℕ} (g : Fin 896 → Fin K → EReal) (q : Fin 28) (t : Fin K) : EReal := amax fun i : Fin 32 => g ⟨32 * q + i, by omega⟩ t

/-- The code of a feature at a position, -/
def codeOf {K : ℕ} (g : Fin 896 → Fin K → EReal) (n : Fin 896) (t : Fin K) : EReal := code (grp g ⟨n / 32, by omega⟩ t) (g n t)

/-- and the dequantised code. -/
def deqOf {K : ℕ} (g : Fin 896 → Fin K → EReal) (n : Fin 896) (t : Fin K) : EReal := codeOf g n t * scale (grp g ⟨n / 32, by omega⟩ t)

/-- The dequantised hidden block, its features in pairs of rows. -/
def hidden (g : Fin 896 → Fin 256 → EReal) : Vec Ideal S448x2x256 .bf16 := fun j =>
  deqOf g (⟨2 * (j 0 : ℕ) + (j 1 : ℕ), by have h0 : (j 0 : ℕ) < 448 := (j 0).isLt; have h1 : (j 1 : ℕ) < 2 := (j 1).isLt; omega⟩ : Fin 896) (j 2 : Fin 256)

/-- The hidden codes, turned: what the kernel writes out. -/
def codesT (g : Fin 896 → Fin 256 → EReal) : Vec Ideal S256x896 .fp8e4m3 := fun j => codeOf g (j 1 : Fin 896) (j 0 : Fin 256)

/-- The hidden exponents, turned: what the kernel writes out. -/
def exposT (g : Fin 896 → Fin 256 → EReal) : Vec Ideal S256x28 .i8 := fun j => BitVec.setWidth 8 (expo (grp g (j 1 : Fin 28) (j 0 : Fin 256)))

/-- The hidden exponents as the kernel keeps them: 28 of 32 rows of each half of the positions. -/
def exposW (g : Fin 896 → Fin 256 → EReal) : Vec Ideal S2x32x128 .i32 := fun j =>
  if h : (j 1 : ℕ) < 28 then
    expo (grp g ⟨(j 1 : ℕ), h⟩ (⟨128 * (j 0 : ℕ) + (j 2 : ℕ), by have h0 : (j 0 : ℕ) < 2 := (j 0).isLt; have h1 : (j 2 : ℕ) < 128 := (j 2).isLt; omega⟩ : Fin 256))
  else 0#32

/-- The second product transposed, with its bias added: what the kernel writes out. -/
def turned (v : Vec Ideal S896x256 .f32) (b : Vec Ideal S1x896 .f32) : Vec Ideal S256x896 .f32 := fun j =>
  (show EReal from v (ix2 (j 1 : Fin 896) (j 0 : Fin 256))) + (show EReal from b (ix2 (0 : Fin 1) (j 1 : Fin 896)))

/-! ## The payloads -/

/-- The payload of a store into the unpacked block: two runs of dequantised rows interleaved as words. -/
def atPay (eLo : Vec Ideal S4x256 .i8) (wLo : Vec Ideal S128x256 .fp8e4m3) (eHi : Vec Ideal S4x256 .i8) (wHi : Vec Ideal S128x256 .fp8e4m3) :
    Vec Ideal S128x2x256 .bf16 :=
  k0_pay1584 (F := Ideal)
    (rowsOfParity 0 S128x256 (interleaveRows S256x256 (truncf .bf16 (k0_pay1585 eLo wLo)) (truncf .bf16 (k0_pay1585 eHi wHi)) bitcasts_S256x256_w16_S128x256_w32) bitcasts_S256x256_w16_S128x256_w32)
    (rowsOfParity 1 S128x256 (interleaveRows S256x256 (truncf .bf16 (k0_pay1585 eLo wLo)) (truncf .bf16 (k0_pay1585 eHi wHi)) bitcasts_S256x256_w16_S128x256_w32) bitcasts_S256x256_w16_S128x256_w32)

/-- The payload of a store into the prepared weights: a tile of 128 features of the interleaved runs, transposed and
    split into rows of either parity. -/
def wPay (o : ℕ) (h : S256x896.Slices ![0, o] S256x128) (eLo : Vec Ideal S4x896 .i8) (wLo : Vec Ideal S128x896 .fp8e4m3)
    (eHi : Vec Ideal S4x896 .i8) (wHi : Vec Ideal S128x896 .fp8e4m3) : Vec Ideal S64x2x256 .bf16 :=
  k0_pay23 (F := Ideal)
    (rowsOfParity 0 S64x256 (transpose S128x256 [1, 0] (extractStridedSlice S256x128 ![0, o] (k0_pay4 (k0_pay2 eLo wLo) (k0_pay2 eHi wHi)) h) transposes_S256x128_p1_0_S128x256) bitcasts_S128x256_w16_S64x256_w32)
    (rowsOfParity 1 S64x256 (transpose S128x256 [1, 0] (extractStridedSlice S256x128 ![0, o] (k0_pay4 (k0_pay2 eLo wLo) (k0_pay2 eHi wHi)) h) transposes_S256x128_p1_0_S128x256) bitcasts_S128x256_w16_S64x256_w32)

/-- A run of 128 dequantised rows of an image, at an index: the code times the scale of its group of 32. -/
theorem part_apply (e : Vec Ideal S4x256 .i8) (w : Vec Ideal S128x256 .fp8e4m3) (r : Fin 128) (f : Fin 256) :
    k0_pay1585 (F := Ideal) e w (ix2 r f) = (show EReal from w (ix2 r f)) * pow2 (e (ix2 (⟨(r : ℕ) / 32, by omega⟩ : Fin 4) f)) := by
  pointwise [k0_pay1585]
  by_cases h1 : (r : ℕ) < 32
  · rw [dif_pos h1]
    refine Ideal.mul_congr rfl (congrArg pow2 (congrArg e ?_))
    idx_ext <;> omega
  rw [dif_neg h1]
  by_cases h2 : (r : ℕ) - 32 < 32
  · rw [dif_pos h2]
    refine Ideal.mul_congr (congrArg w ?_) (congrArg pow2 (congrArg e ?_)) <;> idx_ext <;> omega
  rw [dif_neg h2]
  by_cases h3 : (r : ℕ) - 32 - 32 < 32
  · rw [dif_pos h3]
    refine Ideal.mul_congr (congrArg w ?_) (congrArg pow2 (congrArg e ?_)) <;> idx_ext <;> omega
  rw [dif_neg h3]
  refine Ideal.mul_congr (congrArg w ?_) (congrArg pow2 (congrArg e ?_)) <;> idx_ext <;> omega

/-- The same of a run of the weights. -/
theorem wpart_apply (e : Vec Ideal S4x896 .i8) (w : Vec Ideal S128x896 .fp8e4m3) (r : Fin 128) (f : Fin 896) :
    k0_pay2 (F := Ideal) e w (ix2 r f) = (show EReal from w (ix2 r f)) * pow2 (e (ix2 (⟨(r : ℕ) / 32, by omega⟩ : Fin 4) f)) := by
  pointwise [k0_pay2]
  by_cases h1 : (r : ℕ) < 32
  · rw [dif_pos h1]
    refine Ideal.mul_congr rfl (congrArg pow2 (congrArg e ?_))
    idx_ext <;> omega
  rw [dif_neg h1]
  by_cases h2 : (r : ℕ) - 32 < 32
  · rw [dif_pos h2]
    refine Ideal.mul_congr (congrArg w ?_) (congrArg pow2 (congrArg e ?_)) <;> idx_ext <;> omega
  rw [dif_neg h2]
  by_cases h3 : (r : ℕ) - 32 - 32 < 32
  · rw [dif_pos h3]
    refine Ideal.mul_congr (congrArg w ?_) (congrArg pow2 (congrArg e ?_)) <;> idx_ext <;> omega
  rw [dif_neg h3]
  refine Ideal.mul_congr (congrArg w ?_) (congrArg pow2 (congrArg e ?_)) <;> idx_ext <;> omega

/-- A store into the unpacked block, at an index: the low run at the even halves and the high run at the odd ones. -/
theorem atPay_apply (eLo wLo eHi wHi) (r : Fin 128) (k : Fin 2) (f : Fin 256) :
    atPay eLo wLo eHi wHi (ix3 r k f) = if (k : ℕ) = 0 then k0_pay1585 (F := Ideal) eLo wLo (ix2 r f) else k0_pay1585 (F := Ideal) eHi wHi (ix2 r f) := by
  pointwise [atPay, k0_pay1584]
  fin_cases k
  · rw [if_pos (by decide), if_pos (by omega), if_pos rfl]
    exact congrArg _ (by idx_ext <;> omega)
  · rw [if_neg (by decide), if_neg (by omega), if_neg (by decide)]
    exact congrArg _ (by idx_ext <;> omega)

/-- A store into the prepared weights, at an index: the feature's column of the low run at even places and of the high
    run at odd ones. -/
theorem wPay_apply (o : ℕ) (h) (eLo wLo eHi wHi) (a : Fin 64) (k : Fin 2) (q : Fin 256) (ho : o + 128 ≤ 896) :
    wPay o h eLo wLo eHi wHi (ix3 a k q)
      = if (q : ℕ) % 2 = 0 then k0_pay2 (F := Ideal) eLo wLo (ix2 (⟨(q : ℕ) / 2, by omega⟩ : Fin 128) (⟨o + (2 * a + k), by omega⟩ : Fin 896))
        else k0_pay2 (F := Ideal) eHi wHi (ix2 (⟨(q : ℕ) / 2, by omega⟩ : Fin 128) (⟨o + (2 * a + k), by omega⟩ : Fin 896)) := by
  pointwise [wPay, k0_pay23, k0_pay4]
  fin_cases k
  · rw [if_pos (by decide)]; rfl
  · rw [if_neg (by decide)]

/-! ## The pieces -/

/-- Two indices of a matrix with equal coordinates. -/
theorem idx2_eq {n0 n1 : ℕ} {i j : (⟨2, ![n0, n1]⟩ : Shape).Idx} (h0 : (i 0 : ℕ) = j 0) (h1 : (i 1 : ℕ) = j 1) : i = j := by
  funext a; exact Fin.ext (by revert a; exact Fin.forall_fin_two.mpr ⟨h0, h1⟩)

/-- A store into the unpacked block is the block there: word row `r` holds the codes' rows `wl` and `wh` and the
    exponents' rows `el` and `eh`. -/
theorem at_piece (arg5 : Memref sig .tc .vmem S4096x256 .fp8e4m3) (harg5 : arg5.IsWhole) (arg6 : Memref sig .tc .vmem S128x256 .i8) (harg6 : arg6.IsWhole)
    (x3 : Vec Ideal S4096x256 .fp8e4m3) (x4 : Vec Ideal S128x256 .i8) (r wl wh el eh : ℕ)
    (hr : ∀ a, (![r, 0, 0] : Fin 3 → ℕ) a + S128x2x256.size a ≤ S2048x2x256.size a)
    (hwl : ∀ a, (![wl, 0] : Fin 2 → ℕ) a + S128x256.size a ≤ S4096x256.size a) (hwh : ∀ a, (![wh, 0] : Fin 2 → ℕ) a + S128x256.size a ≤ S4096x256.size a)
    (hel : ∀ a, (![el, 0] : Fin 2 → ℕ) a + S4x256.size a ≤ S128x256.size a) (heh : ∀ a, (![eh, 0] : Fin 2 → ℕ) a + S4x256.size a ≤ S128x256.size a)
    (e0 : r % 128 = 0) (e1 : wl = natRow r 0) (e2 : wh = natRow r 1) (e3 : wl = 32 * el) (e4 : wh = 32 * eh)
    (x : (Rect.unit (s := S2048x2x256) ![r, 0, 0] S128x2x256.size hr).shape.Idx) :
    atPay (View.readAt (Elt Ideal) arg6.view (Rect.unit (s := S128x256) ![el, 0] S4x256.size hel).toLoadRect (harg6.unread x4))
        (View.readAt (Elt Ideal) arg5.view (Rect.unit (s := S4096x256) ![wl, 0] S128x256.size hwl).toLoadRect (harg5.unread x3))
        (View.readAt (Elt Ideal) arg6.view (Rect.unit (s := S128x256) ![eh, 0] S4x256.size heh).toLoadRect (harg6.unread x4))
        (View.readAt (Elt Ideal) arg5.view (Rect.unit (s := S4096x256) ![wh, 0] S128x256.size hwh).toLoadRect (harg5.unread x3)) x
      = unpacked x3 x4 ((Rect.unit (s := S2048x2x256) ![r, 0, 0] S128x2x256.size hr).emb x) := by
  have hr0 : r + 128 ≤ 2048 := hr 0
  obtain ⟨i, k, f, rfl⟩ : ∃ (i : Fin 128) (k : Fin 2) (f : Fin 256), x = ix3 i k f := ⟨x 0, x 1, x 2, eq_ix3 x⟩
  rw [atPay_apply, part_apply, part_apply]
  simp only [Memref.IsWhole.readAt_unread]
  have hi := i.isLt
  have hj0 : (((Rect.unit (s := S2048x2x256) ![r, 0, 0] S128x2x256.size hr).emb (ix3 i k f) 0 : Fin 2048) : ℕ) = r + i :=
    Rect.idx_unit_val (s := S2048x2x256) ![r, 0, 0] S128x2x256.size hr (ix3 i k f) 0
  have hj1 : (((Rect.unit (s := S2048x2x256) ![r, 0, 0] S128x2x256.size hr).emb (ix3 i k f) 1 : Fin 2) : ℕ) = 0 + k :=
    Rect.idx_unit_val (s := S2048x2x256) ![r, 0, 0] S128x2x256.size hr (ix3 i k f) 1
  have hj2 : (((Rect.unit (s := S2048x2x256) ![r, 0, 0] S128x2x256.size hr).emb (ix3 i k f) 2 : Fin 256) : ℕ) = 0 + f :=
    Rect.idx_unit_val (s := S2048x2x256) ![r, 0, 0] S128x2x256.size hr (ix3 i k f) 2
  unfold natRow at e1 e2
  by_cases hk : (k : ℕ) = 0
  · rw [if_pos hk]
    refine Ideal.mul_congr (congrArg x3 (idx2_eq ?_ ?_)) (congrArg pow2 (congrArg x4 (idx2_eq ?_ ?_)))
    · refine (Rect.idx_unit_val (s := S4096x256) ![wl, 0] S128x256.size hwl (ix2 i f) 0).trans ?_
      show wl + (i : ℕ) = natRow _ _; rw [hj0, hj1]; unfold natRow; omega
    · refine (Rect.idx_unit_val (s := S4096x256) ![wl, 0] S128x256.size hwl (ix2 i f) 1).trans ?_
      show 0 + (f : ℕ) = _; exact hj2.symm
    · refine (Rect.idx_unit_val (s := S128x256) ![el, 0] S4x256.size hel (ix2 (⟨(i : ℕ) / 32, by omega⟩ : Fin 4) f) 0).trans ?_
      show el + (i : ℕ) / 32 = natRow _ _ / 32; rw [hj0, hj1]; unfold natRow; omega
    · refine (Rect.idx_unit_val (s := S128x256) ![el, 0] S4x256.size hel (ix2 (⟨(i : ℕ) / 32, by omega⟩ : Fin 4) f) 1).trans ?_
      show 0 + (f : ℕ) = _; exact hj2.symm
  · have hk1 : (k : ℕ) = 1 := by omega
    rw [if_neg hk]
    refine Ideal.mul_congr (congrArg x3 (idx2_eq ?_ ?_)) (congrArg pow2 (congrArg x4 (idx2_eq ?_ ?_)))
    · refine (Rect.idx_unit_val (s := S4096x256) ![wh, 0] S128x256.size hwh (ix2 i f) 0).trans ?_
      show wh + (i : ℕ) = natRow _ _; rw [hj0, hj1]; unfold natRow; omega
    · refine (Rect.idx_unit_val (s := S4096x256) ![wh, 0] S128x256.size hwh (ix2 i f) 1).trans ?_
      show 0 + (f : ℕ) = _; exact hj2.symm
    · refine (Rect.idx_unit_val (s := S128x256) ![eh, 0] S4x256.size heh (ix2 (⟨(i : ℕ) / 32, by omega⟩ : Fin 4) f) 0).trans ?_
      show eh + (i : ℕ) / 32 = natRow _ _ / 32; rw [hj0, hj1]; unfold natRow; omega
    · refine (Rect.idx_unit_val (s := S128x256) ![eh, 0] S4x256.size heh (ix2 (⟨(i : ℕ) / 32, by omega⟩ : Fin 4) f) 1).trans ?_
      show 0 + (f : ℕ) = _; exact hj2.symm

/-- A store into the prepared weights is the weights there: feature pairs from `a0` on (features from `o` on), packed
    columns from `q0` on. -/
theorem w_piece (arg2 : Memref sig .tc .vmem S4096x896 .fp8e4m3) (harg2 : arg2.IsWhole) (arg3 : Memref sig .tc .vmem S128x896 .i8) (harg3 : arg3.IsWhole)
    (x0 : Vec Ideal S4096x896 .fp8e4m3) (x1 : Vec Ideal S128x896 .i8) (a0 q0 o wl wh el eh : ℕ)
    (hr : ∀ a, (![a0, 0, q0] : Fin 3 → ℕ) a + S64x2x256.size a ≤ S448x2x4096.size a)
    (hs : S256x896.Slices ![0, o] S256x128)
    (hwl : ∀ a, (![wl, 0] : Fin 2 → ℕ) a + S128x896.size a ≤ S4096x896.size a) (hwh : ∀ a, (![wh, 0] : Fin 2 → ℕ) a + S128x896.size a ≤ S4096x896.size a)
    (hel : ∀ a, (![el, 0] : Fin 2 → ℕ) a + S4x896.size a ≤ S128x896.size a) (heh : ∀ a, (![eh, 0] : Fin 2 → ℕ) a + S4x896.size a ≤ S128x896.size a)
    (e0 : q0 % 256 = 0) (e1 : wl = natRow (q0 / 2) 0) (e2 : wh = natRow (q0 / 2) 1) (e3 : wl = 32 * el) (e4 : wh = 32 * eh)
    (e5 : o = 2 * a0)
    (x : (Rect.unit (s := S448x2x4096) ![a0, 0, q0] S64x2x256.size hr).shape.Idx) :
    wPay o hs (View.readAt (Elt Ideal) arg3.view (Rect.unit (s := S128x896) ![el, 0] S4x896.size hel).toLoadRect (harg3.unread x1))
        (View.readAt (Elt Ideal) arg2.view (Rect.unit (s := S4096x896) ![wl, 0] S128x896.size hwl).toLoadRect (harg2.unread x0))
        (View.readAt (Elt Ideal) arg3.view (Rect.unit (s := S128x896) ![eh, 0] S4x896.size heh).toLoadRect (harg3.unread x1))
        (View.readAt (Elt Ideal) arg2.view (Rect.unit (s := S4096x896) ![wh, 0] S128x896.size hwh).toLoadRect (harg2.unread x0)) x
      = prepared x0 x1 ((Rect.unit (s := S448x2x4096) ![a0, 0, q0] S64x2x256.size hr).emb x) := by
  have hr0 : a0 + 64 ≤ 448 := hr 0
  have hr2 : q0 + 256 ≤ 4096 := hr 2
  obtain ⟨i, k, q, rfl⟩ : ∃ (i : Fin 64) (k : Fin 2) (q : Fin 256), x = ix3 i k q := ⟨x 0, x 1, x 2, eq_ix3 x⟩
  rw [wPay_apply _ _ _ _ _ _ _ _ _ (by omega), wpart_apply, wpart_apply]
  simp only [Memref.IsWhole.readAt_unread]
  have hi := i.isLt
  have hk := k.isLt
  have hq := q.isLt
  have hj0 : (((Rect.unit (s := S448x2x4096) ![a0, 0, q0] S64x2x256.size hr).emb (ix3 i k q) 0 : Fin 448) : ℕ) = a0 + i :=
    Rect.idx_unit_val (s := S448x2x4096) ![a0, 0, q0] S64x2x256.size hr (ix3 i k q) 0
  have hj1 : (((Rect.unit (s := S448x2x4096) ![a0, 0, q0] S64x2x256.size hr).emb (ix3 i k q) 1 : Fin 2) : ℕ) = 0 + k :=
    Rect.idx_unit_val (s := S448x2x4096) ![a0, 0, q0] S64x2x256.size hr (ix3 i k q) 1
  have hj2 : (((Rect.unit (s := S448x2x4096) ![a0, 0, q0] S64x2x256.size hr).emb (ix3 i k q) 2 : Fin 4096) : ℕ) = q0 + q :=
    Rect.idx_unit_val (s := S448x2x4096) ![a0, 0, q0] S64x2x256.size hr (ix3 i k q) 2
  unfold natRow at e1 e2
  by_cases hp : (q : ℕ) % 2 = 0
  · rw [if_pos hp]
    refine Ideal.mul_congr (congrArg x0 (idx2_eq ?_ ?_)) (congrArg pow2 (congrArg x1 (idx2_eq ?_ ?_)))
    · refine (Rect.idx_unit_val (s := S4096x896) ![wl, 0] S128x896.size hwl _ 0).trans ?_
      show wl + (q : ℕ) / 2 = natRow _ _; rw [hj2]; unfold natRow; omega
    · refine (Rect.idx_unit_val (s := S4096x896) ![wl, 0] S128x896.size hwl _ 1).trans ?_
      show 0 + (o + (2 * (i : ℕ) + k)) = 2 * _ + _; rw [hj0, hj1]; omega
    · refine (Rect.idx_unit_val (s := S128x896) ![el, 0] S4x896.size hel _ 0).trans ?_
      show el + (q : ℕ) / 2 / 32 = natRow _ _ / 32; rw [hj2]; unfold natRow; omega
    · refine (Rect.idx_unit_val (s := S128x896) ![el, 0] S4x896.size hel _ 1).trans ?_
      show 0 + (o + (2 * (i : ℕ) + k)) = 2 * _ + _; rw [hj0, hj1]; omega
  · rw [if_neg hp]
    refine Ideal.mul_congr (congrArg x0 (idx2_eq ?_ ?_)) (congrArg pow2 (congrArg x1 (idx2_eq ?_ ?_)))
    · refine (Rect.idx_unit_val (s := S4096x896) ![wh, 0] S128x896.size hwh _ 0).trans ?_
      show wh + (q : ℕ) / 2 = natRow _ _; rw [hj2]; unfold natRow; omega
    · refine (Rect.idx_unit_val (s := S4096x896) ![wh, 0] S128x896.size hwh _ 1).trans ?_
      show 0 + (o + (2 * (i : ℕ) + k)) = 2 * _ + _; rw [hj0, hj1]; omega
    · refine (Rect.idx_unit_val (s := S128x896) ![eh, 0] S4x896.size heh _ 0).trans ?_
      show eh + (q : ℕ) / 2 / 32 = natRow _ _ / 32; rw [hj2]; unfold natRow; omega
    · refine (Rect.idx_unit_val (s := S128x896) ![eh, 0] S4x896.size heh _ 1).trans ?_
      show 0 + (o + (2 * (i : ℕ) + k)) = 2 * _ + _; rw [hj0, hj1]; omega

/-- A store into the spread bias is the spread bias there. -/
theorem b_piece (arg4 : Memref sig .tc .vmem S1x896 .f32) (harg4 : arg4.IsWhole) (x2 : Vec Ideal S1x896 .f32) (o : ℕ)
    (hr : ∀ a, (![o, 0] : Fin 2 → ℕ) a + S128x128.size a ≤ S896x128.size a)
    (hb : ∀ a, (![0, o] : Fin 2 → ℕ) a + S1x128.size a ≤ S1x896.size a)
    (x : (Rect.unit (s := S896x128) ![o, 0] S128x128.size hr).shape.Idx) :
    k0_pay255 (F := Ideal) (View.readAt (Elt Ideal) arg4.view (Rect.unit (s := S1x896) ![0, o] S1x128.size hb).toLoadRect (harg4.unread x2)) x
      = spreadBias x2 ((Rect.unit (s := S896x128) ![o, 0] S128x128.size hr).emb x) := by
  obtain ⟨i, k, rfl⟩ : ∃ (i k : Fin 128), x = ix2 i k := ⟨x 0, x 1, eq_ix2 x⟩
  pointwise [k0_pay255]
  simp only [Memref.IsWhole.readAt_unread]
  refine congrArg x2 (idx2_eq ?_ ?_)
  · exact Rect.idx_unit_val (s := S1x896) ![0, o] S1x128.size hb (ix2 (0 : Fin 1) i) 0
  · exact (Rect.idx_unit_val (s := S1x896) ![0, o] S1x128.size hb (ix2 (0 : Fin 1) i) 1).trans
      (Rect.idx_unit_val (s := S896x128) ![o, 0] S128x128.size hr (ix2 i k) 0).symm

/-- Pieces that each agree with one function, one more of them. -/
theorem pieces_cons {S : Shape} {e : EltTy} {G : S.Idx → Elt Ideal e} (r : Rect S) (w : r.shape.Idx → Elt Ideal e)
    (L : List (View.Piece (Elt Ideal) S e)) (h1 : ∀ x, w x = G (r.emb x)) (h2 : ∀ p ∈ L, ∀ x : p.1.shape.Idx, p.2 x = G (p.1.emb x)) :
    ∀ p ∈ (⟨r, w⟩ : View.Piece (Elt Ideal) S e) :: L, ∀ x : p.1.shape.Idx, p.2 x = G (p.1.emb x) := by
  intro p hp
  rcases List.mem_cons.mp hp with rfl | hp
  · exact h1
  · exact h2 p hp

end Cert.KernelIdeal.Gen

end
-- ==== Proof.ISpec2.lean ====
/- The payloads of the kernel's stores into the two outputs, the prepared second weights and the unpacked hidden block, in
   one canonical form each, read at an index. -/
module

public import proofs.«01_k».proof.Proof.ISpec

@[expose] public section

set_option maxRecDepth 16384

noncomputable section

namespace Cert.KernelIdeal.Gen

open Idealize.ShloMosaic Idealize.ShloMosaic.TcCoe Idealize.ShloMosaic.Tactic Cert.Quant

/-- The run of 32 features from `o` on and 128 lanes from `l` on, read from the product and the spread bias. -/
theorem g32_eq (argb : Memref sig .tc .vmem S896x128 .f32) (hargb : argb.IsWhole) (argh : Memref sig .tc .vmem S896x256 .f32) (hargh : argh.IsWhole)
    (b : Vec Ideal S896x128 .f32) (h : Vec Ideal S896x256 .f32) (o l : ℕ) (hl : l % 128 = 0)
    (hr : ∀ a, (![o, l] : Fin 2 → ℕ) a + S32x128.size a ≤ S896x256.size a)
    (hb : ∀ a, (![o, 0] : Fin 2 → ℕ) a + S32x128.size a ≤ S896x128.size a) (i : Fin 32) (k : Fin 128) (n : Fin 896) (t : Fin 256)
    (hn : (n : ℕ) = o + i) (ht : (t : ℕ) = l + k) :
    g32 (View.readAt (Elt Ideal) argh.view (Rect.unit (s := S896x256) ![o, l] S32x128.size hr).toLoadRect (hargh.unread h))
        (View.readAt (Elt Ideal) argb.view (Rect.unit (s := S896x128) ![o, 0] S32x128.size hb).toLoadRect (hargb.unread b)) i k
      = hid h b n t := by
  have hk := k.isLt
  unfold g32 hid
  simp only [Memref.IsWhole.readAt_unread]
  refine congrArg gelu1 (Ideal.add_congr (congrArg h (idx2_eq ?_ ?_)) (congrArg b (idx2_eq ?_ ?_)))
  · exact (Rect.idx_unit_val (s := S896x256) ![o, l] S32x128.size hr (ix2 i k) 0).trans hn.symm
  · exact (Rect.idx_unit_val (s := S896x256) ![o, l] S32x128.size hr (ix2 i k) 1).trans ht.symm
  · exact (Rect.idx_unit_val (s := S896x128) ![o, 0] S32x128.size hb (ix2 i k) 0).trans hn.symm
  · refine (Rect.idx_unit_val (s := S896x128) ![o, 0] S32x128.size hb (ix2 i k) 1).trans ?_
    show 0 + (k : ℕ) = (t : ℕ) % 128
    omega

/-- Its largest absolute values. -/
theorem amax_eq (argb : Memref sig .tc .vmem S896x128 .f32) (hargb : argb.IsWhole) (argh : Memref sig .tc .vmem S896x256 .f32) (hargh : argh.IsWhole)
    (b : Vec Ideal S896x128 .f32) (h : Vec Ideal S896x256 .f32) (o l : ℕ) (hl : l % 128 = 0)
    (hr : ∀ a, (![o, l] : Fin 2 → ℕ) a + S32x128.size a ≤ S896x256.size a)
    (hb : ∀ a, (![o, 0] : Fin 2 → ℕ) a + S32x128.size a ≤ S896x128.size a) (k : Fin 128) (q : Fin 28) (t : Fin 256)
    (hq : o = 32 * q) (ht : (t : ℕ) = l + k) :
    (amax fun i => g32 (View.readAt (Elt Ideal) argh.view (Rect.unit (s := S896x256) ![o, l] S32x128.size hr).toLoadRect (hargh.unread h))
        (View.readAt (Elt Ideal) argb.view (Rect.unit (s := S896x128) ![o, 0] S32x128.size hb).toLoadRect (hargb.unread b)) i k)
      = grp (hid h b) q t :=
  congrArg amax (funext fun i => g32_eq argb hargb argh hargh b h o l hl hr hb i k _ t (by show 32 * (q : ℕ) + i = o + i; omega) ht)

/-- Its codes. -/
theorem codeP_eq (argb : Memref sig .tc .vmem S896x128 .f32) (hargb : argb.IsWhole) (argh : Memref sig .tc .vmem S896x256 .f32) (hargh : argh.IsWhole)
    (b : Vec Ideal S896x128 .f32) (h : Vec Ideal S896x256 .f32) (o l : ℕ) (hl : l % 128 = 0) (ho : o % 32 = 0)
    (hr : ∀ a, (![o, l] : Fin 2 → ℕ) a + S32x128.size a ≤ S896x256.size a)
    (hb : ∀ a, (![o, 0] : Fin 2 → ℕ) a + S32x128.size a ≤ S896x128.size a) (i : Fin 32) (k : Fin 128) (n : Fin 896) (t : Fin 256)
    (hn : (n : ℕ) = o + i) (ht : (t : ℕ) = l + k) :
    codeP (View.readAt (Elt Ideal) argh.view (Rect.unit (s := S896x256) ![o, l] S32x128.size hr).toLoadRect (hargh.unread h))
        (View.readAt (Elt Ideal) argb.view (Rect.unit (s := S896x128) ![o, 0] S32x128.size hb).toLoadRect (hargb.unread b)) (ix2 i k)
      = codeOf (hid h b) n t := by
  rw [codeP_apply, amax_eq argb hargb argh hargh b h o l hl hr hb k ⟨n / 32, by omega⟩ t (by show o = 32 * ((n : ℕ) / 32); omega) ht,
    g32_eq argb hargb argh hargh b h o l hl hr hb i k n t hn ht]
  rfl

/-- A store into the dequantised hidden block is the block there. -/
theorem h_piece (argb : Memref sig .tc .vmem S896x128 .f32) (hargb : argb.IsWhole) (argh : Memref sig .tc .vmem S896x256 .f32) (hargh : argh.IsWhole)
    (b : Vec Ideal S896x128 .f32) (h : Vec Ideal S896x256 .f32) (r l : ℕ) (hl : l % 128 = 0) (h0 : r % 16 = 0)
    (hs : ∀ a, (![r, 0, l] : Fin 3 → ℕ) a + S16x2x128.size a ≤ S448x2x256.size a)
    (hr : ∀ a, (![2 * r, l] : Fin 2 → ℕ) a + S32x128.size a ≤ S896x256.size a)
    (hb : ∀ a, (![2 * r, 0] : Fin 2 → ℕ) a + S32x128.size a ≤ S896x128.size a)
    (x : (Rect.unit (s := S448x2x256) ![r, 0, l] S16x2x128.size hs).shape.Idx) :
    hPay (View.readAt (Elt Ideal) argh.view (Rect.unit (s := S896x256) ![2 * r, l] S32x128.size hr).toLoadRect (hargh.unread h))
        (View.readAt (Elt Ideal) argb.view (Rect.unit (s := S896x128) ![2 * r, 0] S32x128.size hb).toLoadRect (hargb.unread b)) x
      = hidden (hid h b) ((Rect.unit (s := S448x2x256) ![r, 0, l] S16x2x128.size hs).emb x) := by
  obtain ⟨i, k, f, rfl⟩ : ∃ (i : Fin 16) (k : Fin 2) (f : Fin 128), x = ix3 i k f := ⟨x 0, x 1, x 2, eq_ix3 x⟩
  have hi := i.isLt
  have hk := k.isLt
  have hj0 : (((Rect.unit (s := S448x2x256) ![r, 0, l] S16x2x128.size hs).emb (ix3 i k f) 0 : Fin 448) : ℕ) = r + i :=
    Rect.idx_unit_val (s := S448x2x256) ![r, 0, l] S16x2x128.size hs (ix3 i k f) 0
  have hj1 : (((Rect.unit (s := S448x2x256) ![r, 0, l] S16x2x128.size hs).emb (ix3 i k f) 1 : Fin 2) : ℕ) = 0 + k :=
    Rect.idx_unit_val (s := S448x2x256) ![r, 0, l] S16x2x128.size hs (ix3 i k f) 1
  have hj2 : (((Rect.unit (s := S448x2x256) ![r, 0, l] S16x2x128.size hs).emb (ix3 i k f) 2 : Fin 256) : ℕ) = l + f :=
    Rect.idx_unit_val (s := S448x2x256) ![r, 0, l] S16x2x128.size hs (ix3 i k f) 2
  rw [hPay_apply]
  unfold hidden
  generalize (Rect.unit (s := S448x2x256) ![r, 0, l] S16x2x128.size hs).emb (ix3 i k f) = j at *
  have hn : 2 * (j 0 : ℕ) + (j 1 : ℕ) = 2 * r + (2 * (i : ℕ) + k) := by omega
  have hlt : 2 * (j 0 : ℕ) + (j 1 : ℕ) < 896 := by have h0 : (j 0 : ℕ) < 448 := (j 0).isLt; have h1 : (j 1 : ℕ) < 2 := (j 1).isLt; omega
  rw [hPart_apply, ← codeP_apply, codeP_eq argb hargb argh hargh b h (2 * r) l hl (by omega) hr hb ⟨2 * (i : ℕ) + k, by omega⟩ f ⟨2 * (j 0 : ℕ) + (j 1 : ℕ), hlt⟩ (j 2) hn hj2,
    amax_eq argb hargb argh hargh b h (2 * r) l hl hr hb f ⟨(2 * (j 0 : ℕ) + (j 1 : ℕ)) / 32, by omega⟩ (j 2) (by show 2 * r = 32 * ((2 * (j 0 : ℕ) + (j 1 : ℕ)) / 32); omega) hj2]
  rfl

/-- A store of the turned codes is the codes there. -/
theorem c_piece (argb : Memref sig .tc .vmem S896x128 .f32) (hargb : argb.IsWhole) (argh : Memref sig .tc .vmem S896x256 .f32) (hargh : argh.IsWhole)
    (b : Vec Ideal S896x128 .f32) (h : Vec Ideal S896x256 .f32) (o l o1 o2 o3 : ℕ) (hl : l % 128 = 0) (h0 : o % 32 = 0)
    (e1 : o1 = o + 32) (e2 : o2 = o + 64) (e3 : o3 = o + 96)
    (hs : ∀ a, (![l, o] : Fin 2 → ℕ) a + S128x128.size a ≤ S256x896.size a)
    (hr0 : ∀ a, (![o, l] : Fin 2 → ℕ) a + S32x128.size a ≤ S896x256.size a) (hb0 : ∀ a, (![o, 0] : Fin 2 → ℕ) a + S32x128.size a ≤ S896x128.size a)
    (hr1 : ∀ a, (![o1, l] : Fin 2 → ℕ) a + S32x128.size a ≤ S896x256.size a) (hb1 : ∀ a, (![o1, 0] : Fin 2 → ℕ) a + S32x128.size a ≤ S896x128.size a)
    (hr2 : ∀ a, (![o2, l] : Fin 2 → ℕ) a + S32x128.size a ≤ S896x256.size a) (hb2 : ∀ a, (![o2, 0] : Fin 2 → ℕ) a + S32x128.size a ≤ S896x128.size a)
    (hr3 : ∀ a, (![o3, l] : Fin 2 → ℕ) a + S32x128.size a ≤ S896x256.size a) (hb3 : ∀ a, (![o3, 0] : Fin 2 → ℕ) a + S32x128.size a ≤ S896x128.size a)
    (x : (Rect.unit (s := S256x896) ![l, o] S128x128.size hs).shape.Idx) :
    cPay (View.readAt (Elt Ideal) argh.view (Rect.unit (s := S896x256) ![o, l] S32x128.size hr0).toLoadRect (hargh.unread h))
        (View.readAt (Elt Ideal) argb.view (Rect.unit (s := S896x128) ![o, 0] S32x128.size hb0).toLoadRect (hargb.unread b))
        (View.readAt (Elt Ideal) argh.view (Rect.unit (s := S896x256) ![o1, l] S32x128.size hr1).toLoadRect (hargh.unread h))
        (View.readAt (Elt Ideal) argb.view (Rect.unit (s := S896x128) ![o1, 0] S32x128.size hb1).toLoadRect (hargb.unread b))
        (View.readAt (Elt Ideal) argh.view (Rect.unit (s := S896x256) ![o2, l] S32x128.size hr2).toLoadRect (hargh.unread h))
        (View.readAt (Elt Ideal) argb.view (Rect.unit (s := S896x128) ![o2, 0] S32x128.size hb2).toLoadRect (hargb.unread b))
        (View.readAt (Elt Ideal) argh.view (Rect.unit (s := S896x256) ![o3, l] S32x128.size hr3).toLoadRect (hargh.unread h))
        (View.readAt (Elt Ideal) argb.view (Rect.unit (s := S896x128) ![o3, 0] S32x128.size hb3).toLoadRect (hargb.unread b)) x
      = codesT (hid h b) ((Rect.unit (s := S256x896) ![l, o] S128x128.size hs).emb x) := by
  obtain ⟨k, i, rfl⟩ : ∃ (k i : Fin 128), x = ix2 k i := ⟨x 0, x 1, eq_ix2 x⟩
  have hso : o + 128 ≤ 896 := hs 1
  have hsl : l + 128 ≤ 256 := hs 0
  have hj0 : (((Rect.unit (s := S256x896) ![l, o] S128x128.size hs).emb (ix2 k i) 0 : Fin 256) : ℕ) = l + k :=
    Rect.idx_unit_val (s := S256x896) ![l, o] S128x128.size hs (ix2 k i) 0
  have hj1 : (((Rect.unit (s := S256x896) ![l, o] S128x128.size hs).emb (ix2 k i) 1 : Fin 896) : ℕ) = o + i :=
    Rect.idx_unit_val (s := S256x896) ![l, o] S128x128.size hs (ix2 k i) 1
  unfold codesT
  generalize (Rect.unit (s := S256x896) ![l, o] S128x128.size hs).emb (ix2 k i) = j at *
  refine (cPay_apply _ _ _ _ _ _ _ _ (fun i k => codeOf (hid h b) ⟨o + i, by omega⟩ ⟨l + k, by omega⟩) ?_ ?_ ?_ ?_ k i).trans ?_
  · exact fun i k => codeP_eq argb hargb argh hargh b h o l hl h0 hr0 hb0 i k _ _ (by show o + (0 + (i : ℕ)) = _; omega) rfl
  · exact fun i k => codeP_eq argb hargb argh hargh b h o1 l hl (by omega) hr1 hb1 i k _ _ (by show o + (32 + (i : ℕ)) = _; omega) rfl
  · exact fun i k => codeP_eq argb hargb argh hargh b h o2 l hl (by omega) hr2 hb2 i k _ _ (by show o + (64 + (i : ℕ)) = _; omega) rfl
  · exact fun i k => codeP_eq argb hargb argh hargh b h o3 l hl (by omega) hr3 hb3 i k _ _ (by show o + (96 + (i : ℕ)) = _; omega) rfl
  · exact congrArg₂ (codeOf (hid h b)) (Fin.ext hj1.symm) (Fin.ext hj0.symm)

/-- A store of a run's exponents is the exponents there. -/
theorem e_piece (argb : Memref sig .tc .vmem S896x128 .f32) (hargb : argb.IsWhole) (argh : Memref sig .tc .vmem S896x256 .f32) (hargh : argh.IsWhole)
    (b : Vec Ideal S896x128 .f32) (h : Vec Ideal S896x256 .f32) (p q : ℕ) (hq : q < 28)
    (hs : ∀ a, (![p, q, 0] : Fin 3 → ℕ) a + S1x1x128.size a ≤ S2x32x128.size a)
    (hr : ∀ a, (![32 * q, 128 * p] : Fin 2 → ℕ) a + S32x128.size a ≤ S896x256.size a)
    (hb : ∀ a, (![32 * q, 0] : Fin 2 → ℕ) a + S32x128.size a ≤ S896x128.size a)
    (x : (Rect.unit (s := S2x32x128) ![p, q, 0] S1x1x128.size hs).shape.Idx) :
    ePay (View.readAt (Elt Ideal) argh.view (Rect.unit (s := S896x256) ![32 * q, 128 * p] S32x128.size hr).toLoadRect (hargh.unread h))
        (View.readAt (Elt Ideal) argb.view (Rect.unit (s := S896x128) ![32 * q, 0] S32x128.size hb).toLoadRect (hargb.unread b)) x
      = exposW (hid h b) ((Rect.unit (s := S2x32x128) ![p, q, 0] S1x1x128.size hs).emb x) := by
  obtain ⟨i, i', k, rfl⟩ : ∃ (i i' : Fin 1) (k : Fin 128), x = ix3 i i' k := ⟨x 0, x 1, x 2, eq_ix3 x⟩
  obtain rfl : i = 0 := Subsingleton.elim _ _
  obtain rfl : i' = 0 := Subsingleton.elim _ _
  have hj0 : (((Rect.unit (s := S2x32x128) ![p, q, 0] S1x1x128.size hs).emb (ix3 (0 : Fin 1) (0 : Fin 1) k) 0 : Fin 2) : ℕ) = p + 0 :=
    Rect.idx_unit_val (s := S2x32x128) ![p, q, 0] S1x1x128.size hs (ix3 (0 : Fin 1) (0 : Fin 1) k) 0
  have hj1 : (((Rect.unit (s := S2x32x128) ![p, q, 0] S1x1x128.size hs).emb (ix3 (0 : Fin 1) (0 : Fin 1) k) 1 : Fin 32) : ℕ) = q + 0 :=
    Rect.idx_unit_val (s := S2x32x128) ![p, q, 0] S1x1x128.size hs (ix3 (0 : Fin 1) (0 : Fin 1) k) 1
  have hj2 : (((Rect.unit (s := S2x32x128) ![p, q, 0] S1x1x128.size hs).emb (ix3 (0 : Fin 1) (0 : Fin 1) k) 2 : Fin 128) : ℕ) = 0 + k :=
    Rect.idx_unit_val (s := S2x32x128) ![p, q, 0] S1x1x128.size hs (ix3 (0 : Fin 1) (0 : Fin 1) k) 2
  unfold exposW
  generalize (Rect.unit (s := S2x32x128) ![p, q, 0] S1x1x128.size hs).emb (ix3 (0 : Fin 1) (0 : Fin 1) k) = j at *
  rw [ePay_apply, dif_pos (by omega)]
  exact congrArg expo (amax_eq argb hargb argh hargh b h (32 * q) (128 * p) (by omega) hr hb k ⟨(j 1 : ℕ), by omega⟩ _ (by show 32 * q = 32 * (j 1 : ℕ); omega)
    (by show 128 * (j 0 : ℕ) + (j 2 : ℕ) = _; omega))

/-- A store into the exponents' output, at an index. -/
theorem heP_apply (v : Vec Ideal S1x32x128 .i32) (i : Fin 128) (k : Fin 28) :
    k0_pay903 (F := Ideal) v (ix2 i k) = BitVec.setWidth 8 (v (ix3 (0 : Fin 1) (⟨k, by omega⟩ : Fin 32) i)) := by
  pointwise [k0_pay903]

/-- A store into the second output is the second product turned, with its bias, there. -/
theorem v_piece (argb : Memref sig .tc .vmem S1x896 .f32) (hargb : argb.IsWhole) (argv : Memref sig .tc .vmem S896x256 .f32) (hargv : argv.IsWhole)
    (b : Vec Ideal S1x896 .f32) (v : Vec Ideal S896x256 .f32) (l o : ℕ)
    (hr : ∀ a, (![l, o] : Fin 2 → ℕ) a + S128x128.size a ≤ S256x896.size a)
    (hv : ∀ a, (![o, l] : Fin 2 → ℕ) a + S128x128.size a ≤ S896x256.size a)
    (hb : ∀ a, (![0, o] : Fin 2 → ℕ) a + S1x128.size a ≤ S1x896.size a)
    (x : (Rect.unit (s := S256x896) ![l, o] S128x128.size hr).shape.Idx) :
    k0_pay288 (F := Ideal) (View.readAt (Elt Ideal) argv.view (Rect.unit (s := S896x256) ![o, l] S128x128.size hv).toLoadRect (hargv.unread v))
        (View.readAt (Elt Ideal) argb.view (Rect.unit (s := S1x896) ![0, o] S1x128.size hb).toLoadRect (hargb.unread b)) x
      = turned v b ((Rect.unit (s := S256x896) ![l, o] S128x128.size hr).emb x) := by
  obtain ⟨i, k, rfl⟩ : ∃ (i k : Fin 128), x = ix2 i k := ⟨x 0, x 1, eq_ix2 x⟩
  pointwise [k0_pay288]
  simp only [Memref.IsWhole.readAt_unread]
  refine Ideal.add_congr (congrArg v (idx2_eq ?_ ?_)) (congrArg b (idx2_eq ?_ ?_))
  · exact (Rect.idx_unit_val (s := S896x256) ![o, l] S128x128.size hv (ix2 k i) 0).trans
      (Rect.idx_unit_val (s := S256x896) ![l, o] S128x128.size hr (ix2 i k) 1).symm
  · exact (Rect.idx_unit_val (s := S896x256) ![o, l] S128x128.size hv (ix2 k i) 1).trans
      (Rect.idx_unit_val (s := S256x896) ![l, o] S128x128.size hr (ix2 i k) 0).symm
  · exact Rect.idx_unit_val (s := S1x896) ![0, o] S1x128.size hb (ix2 (0 : Fin 1) k) 0
  · exact (Rect.idx_unit_val (s := S1x896) ![0, o] S1x128.size hb (ix2 (0 : Fin 1) k) 1).trans
      (Rect.idx_unit_val (s := S256x896) ![l, o] S128x128.size hr (ix2 i k) 1).symm

/-- A run of 128 dequantised rows of the second weights, whose scales are rows `q` to `q + 3`. -/
def w2Part (q0 q1 q2 q3 : ℕ) (h0 : S28x896.Slices ![q0, 0] S1x896) (h1 : S28x896.Slices ![q1, 0] S1x896) (h2 : S28x896.Slices ![q2, 0] S1x896)
    (h3 : S28x896.Slices ![q3, 0] S1x896) (e : Vec Ideal S28x896 .i8) (w : Vec Ideal S128x896 .fp8e4m3) : FVec Ideal S128x896 .f32 :=
  concatenate S128x896 0
    [⟨S32x896, mulf (extractStridedSlice S32x896 ![0, 0] (k0_pay265 w) slices_S128x896_o0_0_S32x896) (broadcastTo S32x896 (extractStridedSlice S1x896 ![q0, 0] (k0_pay261 e) h0) broadcasts_S1x896_S32x896)⟩,
     ⟨S32x896, mulf (extractStridedSlice S32x896 ![32, 0] (k0_pay265 w) slices_S128x896_o32_0_S32x896) (broadcastTo S32x896 (extractStridedSlice S1x896 ![q1, 0] (k0_pay261 e) h1) broadcasts_S1x896_S32x896)⟩,
     ⟨S32x896, mulf (extractStridedSlice S32x896 ![64, 0] (k0_pay265 w) slices_S128x896_o64_0_S32x896) (broadcastTo S32x896 (extractStridedSlice S1x896 ![q2, 0] (k0_pay261 e) h2) broadcasts_S1x896_S32x896)⟩,
     ⟨S32x896, mulf (extractStridedSlice S32x896 ![96, 0] (k0_pay265 w) slices_S128x896_o96_0_S32x896) (broadcastTo S32x896 (extractStridedSlice S1x896 ![q3, 0] (k0_pay261 e) h3) broadcasts_S1x896_S32x896)⟩]
    concatenates_S32x896_S32x896_S32x896_S32x896_S128x896_d0

/-- The payload of a store into the prepared second weights: the run turned, its rows in pairs. -/
def w2Pay (q0 q1 q2 q3 : ℕ) (h0 : S28x896.Slices ![q0, 0] S1x896) (h1 : S28x896.Slices ![q1, 0] S1x896) (h2 : S28x896.Slices ![q2, 0] S1x896)
    (h3 : S28x896.Slices ![q3, 0] S1x896) (e : Vec Ideal S28x896 .i8) (w : Vec Ideal S128x896 .fp8e4m3) : Vec Ideal S448x2x128 .bf16 :=
  k0_pay287 (F := Ideal)
    (rowsOfParity 0 S448x128 (truncf .bf16 (transpose S896x128 [1, 0] (w2Part q0 q1 q2 q3 h0 h1 h2 h3 e w) transposes_S128x896_p1_0_S896x128) bitsLt_bf16_f32) bitcasts_S896x128_w16_S448x128_w32)
    (rowsOfParity 1 S448x128 (truncf .bf16 (transpose S896x128 [1, 0] (w2Part q0 q1 q2 q3 h0 h1 h2 h3 e w) transposes_S128x896_p1_0_S896x128) bitsLt_bf16_f32) bitcasts_S896x128_w16_S448x128_w32)

theorem w2Part_apply (q q1 q2 q3 : ℕ) (h0 h1 h2 h3) (e : Vec Ideal S28x896 .i8) (w : Vec Ideal S128x896 .fp8e4m3) (hq : q < 25)
    (g1 : q1 = q + 1) (g2 : q2 = q + 2) (g3 : q3 = q + 3) (r : Fin 128) (f : Fin 896) :
    w2Part q q1 q2 q3 h0 h1 h2 h3 e w (ix2 r f) = (show EReal from w (ix2 r f)) * pow2 (e (ix2 (⟨q + (r : ℕ) / 32, by omega⟩ : Fin 28) f)) := by
  subst g1 g2 g3
  pointwise [w2Part, k0_pay265, k0_pay261]
  by_cases h1 : (r : ℕ) < 32
  · rw [dif_pos h1]
    refine Ideal.mul_congr rfl (congrArg pow2 (congrArg e ?_))
    idx_ext <;> omega
  rw [dif_neg h1]
  by_cases h2 : (r : ℕ) - 32 < 32
  · rw [dif_pos h2]
    refine Ideal.mul_congr (congrArg w ?_) (congrArg pow2 (congrArg e ?_)) <;> idx_ext <;> omega
  rw [dif_neg h2]
  by_cases h3 : (r : ℕ) - 32 - 32 < 32
  · rw [dif_pos h3]
    refine Ideal.mul_congr (congrArg w ?_) (congrArg pow2 (congrArg e ?_)) <;> idx_ext <;> omega
  rw [dif_neg h3]
  refine Ideal.mul_congr (congrArg w ?_) (congrArg pow2 (congrArg e ?_)) <;> idx_ext <;> omega

theorem w2Pay_apply (q0 q1 q2 q3 : ℕ) (h0 h1 h2 h3) (e : Vec Ideal S28x896 .i8) (w : Vec Ideal S128x896 .fp8e4m3) (a : Fin 448) (k : Fin 2) (p : Fin 128) :
    w2Pay q0 q1 q2 q3 h0 h1 h2 h3 e w (ix3 a k p) = w2Part q0 q1 q2 q3 h0 h1 h2 h3 e w (ix2 p (⟨2 * (a : ℕ) + k, by omega⟩ : Fin 896)) := by
  pointwise [w2Pay, k0_pay287]
  fin_cases k
  · rw [if_pos (by decide)]; rfl
  · rw [if_neg (by decide)]

/-- A store into the prepared second weights is the weights there. -/
theorem w2_piece (argw : Memref sig .tc .vmem S896x896 .fp8e4m3) (hargw : argw.IsWhole) (arge : Memref sig .tc .vmem S28x896 .i8) (harge : arge.IsWhole)
    (x2 : Vec Ideal S896x896 .fp8e4m3) (x3 : Vec Ideal S28x896 .i8) (l q q1 q2 q3 : ℕ)
    (hr : ∀ a, (![0, 0, l] : Fin 3 → ℕ) a + S448x2x128.size a ≤ S448x2x896.size a)
    (h0 : S28x896.Slices ![q, 0] S1x896) (h1 : S28x896.Slices ![q1, 0] S1x896) (h2 : S28x896.Slices ![q2, 0] S1x896) (h3 : S28x896.Slices ![q3, 0] S1x896)
    (he : ∀ a, (![0, 0] : Fin 2 → ℕ) a + S28x896.size a ≤ S28x896.size a)
    (hw : ∀ a, (![l, 0] : Fin 2 → ℕ) a + S128x896.size a ≤ S896x896.size a)
    (e1 : l = 32 * q) (hq : q < 25) (g1 : q1 = q + 1) (g2 : q2 = q + 2) (g3 : q3 = q + 3)
    (x : (Rect.unit (s := S448x2x896) ![0, 0, l] S448x2x128.size hr).shape.Idx) :
    w2Pay q q1 q2 q3 h0 h1 h2 h3 (View.readAt (Elt Ideal) arge.view (Rect.unit (s := S28x896) ![0, 0] S28x896.size he).toLoadRect (harge.unread x3))
        (View.readAt (Elt Ideal) argw.view (Rect.unit (s := S896x896) ![l, 0] S128x896.size hw).toLoadRect (hargw.unread x2)) x
      = prepared2 x2 x3 ((Rect.unit (s := S448x2x896) ![0, 0, l] S448x2x128.size hr).emb x) := by
  obtain ⟨i, k, p, rfl⟩ : ∃ (i : Fin 448) (k : Fin 2) (p : Fin 128), x = ix3 i k p := ⟨x 0, x 1, x 2, eq_ix3 x⟩
  rw [w2Pay_apply, w2Part_apply q q1 q2 q3 _ _ _ _ _ _ hq g1 g2 g3]
  simp only [Memref.IsWhole.readAt_unread]
  have hj0 : (((Rect.unit (s := S448x2x896) ![0, 0, l] S448x2x128.size hr).emb (ix3 i k p) 0 : Fin 448) : ℕ) = 0 + i :=
    Rect.idx_unit_val (s := S448x2x896) ![0, 0, l] S448x2x128.size hr (ix3 i k p) 0
  have hj1 : (((Rect.unit (s := S448x2x896) ![0, 0, l] S448x2x128.size hr).emb (ix3 i k p) 1 : Fin 2) : ℕ) = 0 + k :=
    Rect.idx_unit_val (s := S448x2x896) ![0, 0, l] S448x2x128.size hr (ix3 i k p) 1
  have hj2 : (((Rect.unit (s := S448x2x896) ![0, 0, l] S448x2x128.size hr).emb (ix3 i k p) 2 : Fin 896) : ℕ) = l + p :=
    Rect.idx_unit_val (s := S448x2x896) ![0, 0, l] S448x2x128.size hr (ix3 i k p) 2
  refine Ideal.mul_congr (congrArg x2 (idx2_eq ?_ ?_)) (congrArg pow2 (congrArg x3 (idx2_eq ?_ ?_)))
  · exact (Rect.idx_unit_val (s := S896x896) ![l, 0] S128x896.size hw _ 0).trans hj2.symm
  · refine (Rect.idx_unit_val (s := S896x896) ![l, 0] S128x896.size hw _ 1).trans ?_
    show 0 + (2 * (i : ℕ) + k) = 2 * _ + _; rw [hj0, hj1]; omega
  · refine (Rect.idx_unit_val (s := S28x896) ![0, 0] S28x896.size he _ 0).trans ?_
    show 0 + (q + (p : ℕ) / 32) = _ / 32; rw [hj2]; omega
  · refine (Rect.idx_unit_val (s := S28x896) ![0, 0] S28x896.size he _ 1).trans ?_
    show 0 + (2 * (i : ℕ) + k) = 2 * _ + _; rw [hj0, hj1]; omega

end Cert.KernelIdeal.Gen

end
-- ==== Proof.IValB.lean ====
/- What a later point's stores leave in the unpacked block, the products, the quantised hidden block and the outputs. -/
module

public import proofs.«01_k».proof.Proof.IRunB
public import proofs.«01_k».proof.Proof.ISpec2

@[expose] public section

set_option maxRecDepth 16384

noncomputable section

namespace Cert.KernelIdeal.Gen

open Idealize.ShloMosaic Idealize.ShloMosaic.TcCoe Idealize.ShloMosaic.Tactic Cert.Quant

/-- One more store of 128 word rows into the unpacked block. -/
theorem at_cons (arg5 : Memref sig .tc .vmem S4096x256 .fp8e4m3) (harg5 : arg5.IsWhole) (arg6 : Memref sig .tc .vmem S128x256 .i8) (harg6 : arg6.IsWhole)
    (x3 : Vec Ideal S4096x256 .fp8e4m3) (x4 : Vec Ideal S128x256 .i8) (r : ℕ)
    (hr : ∀ a, (![r, 0, 0] : Fin 3 → ℕ) a + S128x2x256.size a ≤ S2048x2x256.size a)
    (hwl : ∀ a, (![natRow r 0, 0] : Fin 2 → ℕ) a + S128x256.size a ≤ S4096x256.size a) (hwh : ∀ a, (![natRow r 1, 0] : Fin 2 → ℕ) a + S128x256.size a ≤ S4096x256.size a)
    (hel : ∀ a, (![natRow r 0 / 32, 0] : Fin 2 → ℕ) a + S4x256.size a ≤ S128x256.size a) (heh : ∀ a, (![natRow r 1 / 32, 0] : Fin 2 → ℕ) a + S4x256.size a ≤ S128x256.size a)
    (e0 : r % 128 = 0) (L : List (View.Piece (Elt Ideal) S2048x2x256 .bf16))
    (h2 : ∀ p ∈ L, ∀ x : p.1.shape.Idx, p.2 x = unpacked x3 x4 (p.1.emb x)) :
    ∀ p ∈ (⟨Rect.unit (s := S2048x2x256) ![r, 0, 0] S128x2x256.size hr,
        atPay (View.readAt (Elt Ideal) arg6.view (Rect.unit (s := S128x256) ![natRow r 0 / 32, 0] S4x256.size hel).toLoadRect (harg6.unread x4))
          (View.readAt (Elt Ideal) arg5.view (Rect.unit (s := S4096x256) ![natRow r 0, 0] S128x256.size hwl).toLoadRect (harg5.unread x3))
          (View.readAt (Elt Ideal) arg6.view (Rect.unit (s := S128x256) ![natRow r 1 / 32, 0] S4x256.size heh).toLoadRect (harg6.unread x4))
          (View.readAt (Elt Ideal) arg5.view (Rect.unit (s := S4096x256) ![natRow r 1, 0] S128x256.size hwh).toLoadRect (harg5.unread x3))⟩
        : View.Piece (Elt Ideal) S2048x2x256 .bf16) :: L, ∀ x : p.1.shape.Idx, p.2 x = unpacked x3 x4 (p.1.emb x) :=
  pieces_cons _ _ _ (at_piece arg5 harg5 arg6 harg6 x3 x4 r _ _ _ _ hr hwl hwh hel heh e0 rfl rfl (by unfold natRow; omega) (by unfold natRow; omega)) h2

/-- One more store of 128 positions and 128 features into the second output. -/
theorem v_cons (argb : Memref sig .tc .vmem S1x896 .f32) (hargb : argb.IsWhole) (argv : Memref sig .tc .vmem S896x256 .f32) (hargv : argv.IsWhole)
    (b : Vec Ideal S1x896 .f32) (v : Vec Ideal S896x256 .f32) (l o : ℕ)
    (hr : ∀ a, (![l, o] : Fin 2 → ℕ) a + S128x128.size a ≤ S256x896.size a)
    (hv : ∀ a, (![o, l] : Fin 2 → ℕ) a + S128x128.size a ≤ S896x256.size a)
    (hb : ∀ a, (![0, o] : Fin 2 → ℕ) a + S1x128.size a ≤ S1x896.size a)
    (L : List (View.Piece (Elt Ideal) S256x896 .f32))
    (h2 : ∀ p ∈ L, ∀ x : p.1.shape.Idx, p.2 x = turned v b (p.1.emb x)) :
    ∀ p ∈ (⟨Rect.unit (s := S256x896) ![l, o] S128x128.size hr,
        k0_pay288 (F := Ideal) (View.readAt (Elt Ideal) argv.view (Rect.unit (s := S896x256) ![o, l] S128x128.size hv).toLoadRect (hargv.unread v))
        (View.readAt (Elt Ideal) argb.view (Rect.unit (s := S1x896) ![0, o] S1x128.size hb).toLoadRect (hargb.unread b))⟩
        : View.Piece (Elt Ideal) S256x896 .f32) :: L, ∀ x : p.1.shape.Idx, p.2 x = turned v b (p.1.emb x) :=
  pieces_cons _ _ _ (v_piece argb hargb argv hargv b v l o hr hv hb) h2

/-- One more store of 16 word rows and 128 lanes into the dequantised hidden block. -/
theorem h_cons (argb : Memref sig .tc .vmem S896x128 .f32) (hargb : argb.IsWhole) (argh : Memref sig .tc .vmem S896x256 .f32) (hargh : argh.IsWhole)
    (b : Vec Ideal S896x128 .f32) (h : Vec Ideal S896x256 .f32) (r l : ℕ)
    (hs : ∀ a, (![r, 0, l] : Fin 3 → ℕ) a + S16x2x128.size a ≤ S448x2x256.size a)
    (hr : ∀ a, (![2 * r, l] : Fin 2 → ℕ) a + S32x128.size a ≤ S896x256.size a)
    (hb : ∀ a, (![2 * r, 0] : Fin 2 → ℕ) a + S32x128.size a ≤ S896x128.size a)
    (e0 : l % 128 = 0 ∧ r % 16 = 0) (w : (Rect.unit (s := S448x2x256) ![r, 0, l] S16x2x128.size hs).shape.Idx → Elt Ideal .bf16)
    (hw : w = hPay (View.readAt (Elt Ideal) argh.view (Rect.unit (s := S896x256) ![2 * r, l] S32x128.size hr).toLoadRect (hargh.unread h))
        (View.readAt (Elt Ideal) argb.view (Rect.unit (s := S896x128) ![2 * r, 0] S32x128.size hb).toLoadRect (hargb.unread b)))
    (L : List (View.Piece (Elt Ideal) S448x2x256 .bf16))
    (h2 : ∀ p ∈ L, ∀ x : p.1.shape.Idx, p.2 x = hidden (hid h b) (p.1.emb x)) :
    ∀ p ∈ (⟨Rect.unit (s := S448x2x256) ![r, 0, l] S16x2x128.size hs, w⟩ : View.Piece (Elt Ideal) S448x2x256 .bf16) :: L,
      ∀ x : p.1.shape.Idx, p.2 x = hidden (hid h b) (p.1.emb x) := by
  subst hw
  exact pieces_cons _ _ _ (h_piece argb hargb argh hargh b h r l e0.1 e0.2 hs hr hb) h2

/-- One more store of a run's exponents. -/
theorem e_cons (argb : Memref sig .tc .vmem S896x128 .f32) (hargb : argb.IsWhole) (argh : Memref sig .tc .vmem S896x256 .f32) (hargh : argh.IsWhole)
    (b : Vec Ideal S896x128 .f32) (h : Vec Ideal S896x256 .f32) (p q : ℕ)
    (hs : ∀ a, (![p, q, 0] : Fin 3 → ℕ) a + S1x1x128.size a ≤ S2x32x128.size a)
    (hr : ∀ a, (![32 * q, 128 * p] : Fin 2 → ℕ) a + S32x128.size a ≤ S896x256.size a)
    (hb : ∀ a, (![32 * q, 0] : Fin 2 → ℕ) a + S32x128.size a ≤ S896x128.size a)
    (e0 : q < 28) (w : (Rect.unit (s := S2x32x128) ![p, q, 0] S1x1x128.size hs).shape.Idx → Elt Ideal .i32)
    (hw : w = ePay (View.readAt (Elt Ideal) argh.view (Rect.unit (s := S896x256) ![32 * q, 128 * p] S32x128.size hr).toLoadRect (hargh.unread h))
        (View.readAt (Elt Ideal) argb.view (Rect.unit (s := S896x128) ![32 * q, 0] S32x128.size hb).toLoadRect (hargb.unread b)))
    (L : List (View.Piece (Elt Ideal) S2x32x128 .i32))
    (h2 : ∀ z ∈ L, ∀ x : z.1.shape.Idx, z.2 x = exposW (hid h b) (z.1.emb x)) :
    ∀ z ∈ (⟨Rect.unit (s := S2x32x128) ![p, q, 0] S1x1x128.size hs, w⟩ : View.Piece (Elt Ideal) S2x32x128 .i32) :: L,
      ∀ x : z.1.shape.Idx, z.2 x = exposW (hid h b) (z.1.emb x) := by
  subst hw
  exact pieces_cons _ _ _ (e_piece argb hargb argh hargh b h p q e0 hs hr hb) h2

/-- One more store of 128 positions and 128 features into the output of the codes. -/
theorem c_cons (argb : Memref sig .tc .vmem S896x128 .f32) (hargb : argb.IsWhole) (argh : Memref sig .tc .vmem S896x256 .f32) (hargh : argh.IsWhole)
    (b : Vec Ideal S896x128 .f32) (h : Vec Ideal S896x256 .f32) (l o : ℕ)
    (hs : ∀ a, (![l, o] : Fin 2 → ℕ) a + S128x128.size a ≤ S256x896.size a)
    (hr0 : ∀ a, (![o, l] : Fin 2 → ℕ) a + S32x128.size a ≤ S896x256.size a) (hb0 : ∀ a, (![o, 0] : Fin 2 → ℕ) a + S32x128.size a ≤ S896x128.size a)
    (hr1 : ∀ a, (![(o + 32), l] : Fin 2 → ℕ) a + S32x128.size a ≤ S896x256.size a) (hb1 : ∀ a, (![(o + 32), 0] : Fin 2 → ℕ) a + S32x128.size a ≤ S896x128.size a)
    (hr2 : ∀ a, (![(o + 64), l] : Fin 2 → ℕ) a + S32x128.size a ≤ S896x256.size a) (hb2 : ∀ a, (![(o + 64), 0] : Fin 2 → ℕ) a + S32x128.size a ≤ S896x128.size a)
    (hr3 : ∀ a, (![(o + 96), l] : Fin 2 → ℕ) a + S32x128.size a ≤ S896x256.size a) (hb3 : ∀ a, (![(o + 96), 0] : Fin 2 → ℕ) a + S32x128.size a ≤ S896x128.size a)
    (e0 : l % 128 = 0 ∧ o % 32 = 0) (w : (Rect.unit (s := S256x896) ![l, o] S128x128.size hs).shape.Idx → Elt Ideal .fp8e4m3)
    (hw : w = cPay (View.readAt (Elt Ideal) argh.view (Rect.unit (s := S896x256) ![o, l] S32x128.size hr0).toLoadRect (hargh.unread h))
        (View.readAt (Elt Ideal) argb.view (Rect.unit (s := S896x128) ![o, 0] S32x128.size hb0).toLoadRect (hargb.unread b))
        (View.readAt (Elt Ideal) argh.view (Rect.unit (s := S896x256) ![(o + 32), l] S32x128.size hr1).toLoadRect (hargh.unread h))
        (View.readAt (Elt Ideal) argb.view (Rect.unit (s := S896x128) ![(o + 32), 0] S32x128.size hb1).toLoadRect (hargb.unread b))
        (View.readAt (Elt Ideal) argh.view (Rect.unit (s := S896x256) ![(o + 64), l] S32x128.size hr2).toLoadRect (hargh.unread h))
        (View.readAt (Elt Ideal) argb.view (Rect.unit (s := S896x128) ![(o + 64), 0] S32x128.size hb2).toLoadRect (hargb.unread b))
        (View.readAt (Elt Ideal) argh.view (Rect.unit (s := S896x256) ![(o + 96), l] S32x128.size hr3).toLoadRect (hargh.unread h))
        (View.readAt (Elt Ideal) argb.view (Rect.unit (s := S896x128) ![(o + 96), 0] S32x128.size hb3).toLoadRect (hargb.unread b)))
    (L : List (View.Piece (Elt Ideal) S256x896 .fp8e4m3))
    (h2 : ∀ p ∈ L, ∀ x : p.1.shape.Idx, p.2 x = codesT (hid h b) (p.1.emb x)) :
    ∀ p ∈ (⟨Rect.unit (s := S256x896) ![l, o] S128x128.size hs, w⟩ : View.Piece (Elt Ideal) S256x896 .fp8e4m3) :: L,
      ∀ x : p.1.shape.Idx, p.2 x = codesT (hid h b) (p.1.emb x) := by
  subst hw
  exact pieces_cons _ _ _ (c_piece argb hargb argh hargh b h o l _ _ _ e0.1 e0.2 rfl rfl rfl hs hr0 hb0 hr1 hb1 hr2 hb2 hr3 hb3) h2

/-- One more store of 128 positions into the output of the exponents: what is read of the exponents kept. -/
theorem x_cons {argE : Memref sig .tc .vmem S2x32x128 .i32} (V : argE.view.ty.Contents (Elt Ideal)) (g : Fin 896 → Fin 256 → EReal) (p : Fin 2)
    (hV : ∀ y : S2x32x128.Idx, (y 0 : ℕ) = p → (y 1 : ℕ) < 28 → argE.view.read (Elt Ideal) V y = exposW g y)
    (hs : ∀ a, (![128 * (p : ℕ), 0] : Fin 2 → ℕ) a + S128x28.size a ≤ S256x28.size a)
    (hr : ∀ a, (![(p : ℕ), 0, 0] : Fin 3 → ℕ) a + S1x32x128.size a ≤ S2x32x128.size a)
    (w : (Rect.unit (s := S256x28) ![128 * (p : ℕ), 0] S128x28.size hs).shape.Idx → Elt Ideal .i8)
    (hw : w = k0_pay903 (F := Ideal) (View.readAt (Elt Ideal) argE.view (Rect.unit (s := S2x32x128) ![(p : ℕ), 0, 0] S1x32x128.size hr).toLoadRect V))
    (L : List (View.Piece (Elt Ideal) S256x28 .i8))
    (h2 : ∀ z ∈ L, ∀ x : z.1.shape.Idx, z.2 x = exposT g (z.1.emb x)) :
    ∀ z ∈ (⟨Rect.unit (s := S256x28) ![128 * (p : ℕ), 0] S128x28.size hs, w⟩ : View.Piece (Elt Ideal) S256x28 .i8) :: L,
      ∀ x : z.1.shape.Idx, z.2 x = exposT g (z.1.emb x) := by
  subst hw
  refine pieces_cons _ _ _ (fun x => ?_) h2
  obtain ⟨i, k, rfl⟩ : ∃ (i : Fin 128) (k : Fin 28), x = ix2 i k := ⟨x 0, x 1, eq_ix2 x⟩
  have hk := k.isLt
  have hp := p.isLt
  have hj0 : (((Rect.unit (s := S256x28) ![128 * (p : ℕ), 0] S128x28.size hs).emb (ix2 i k) 0 : Fin 256) : ℕ) = 128 * p + i :=
    Rect.idx_unit_val (s := S256x28) ![128 * (p : ℕ), 0] S128x28.size hs (ix2 i k) 0
  have hj1 : (((Rect.unit (s := S256x28) ![128 * (p : ℕ), 0] S128x28.size hs).emb (ix2 i k) 1 : Fin 28) : ℕ) = 0 + k :=
    Rect.idx_unit_val (s := S256x28) ![128 * (p : ℕ), 0] S128x28.size hs (ix2 i k) 1
  generalize (Rect.unit (s := S256x28) ![128 * (p : ℕ), 0] S128x28.size hs).emb (ix2 i k) = j at *
  rw [heP_apply]
  have hy : (Rect.unit (s := S2x32x128) ![(p : ℕ), 0, 0] S1x32x128.size hr).toLoadRect.idx (ix3 (0 : Fin 1) (⟨k, by omega⟩ : Fin 32) i)
      = ix3 p (⟨k, by omega⟩ : Fin 32) i := by
    funext a; refine Fin.ext ?_
    refine (Rect.idx_unit_val (s := S2x32x128) ![(p : ℕ), 0, 0] S1x32x128.size hr (ix3 (0 : Fin 1) (⟨k, by omega⟩ : Fin 32) i) a).trans ?_
    fin_cases a
    · exact Nat.add_zero _
    · exact Nat.zero_add _
    · exact Nat.zero_add _
  refine (congrArg (BitVec.setWidth 8) ((congrArg (argE.view.read (Elt Ideal) V) hy).trans (hV _ rfl hk))).trans ?_
  unfold exposW exposT
  rw [dif_pos (show ((ix3 p (⟨k, by omega⟩ : Fin 32) i : S2x32x128.Idx) 1 : ℕ) < 28 from hk)]
  refine congrArg (fun z => BitVec.setWidth 8 (expo z)) (congrArg₂ (grp g) (Fin.ext ?_) (Fin.ext ?_))
  · show (k : ℕ) = (j 1 : ℕ); omega
  · show 128 * (p : ℕ) + (i : ℕ) = (j 0 : ℕ); omega

variable (c : Dev nD) (i : grid0.Coords)
  (arg2 : Memref sig .tc .vmem S4096x896 .fp8e4m3) (harg2 : arg2.IsWhole)
  (arg3 : Memref sig .tc .vmem S128x896 .i8) (harg3 : arg3.IsWhole)
  (arg4 : Memref sig .tc .vmem S896x896 .fp8e4m3) (harg4 : arg4.IsWhole)
  (arg5 : Memref sig .tc .vmem S28x896 .i8) (harg5 : arg5.IsWhole)
  (arg6 : Memref sig .tc .vmem S1x896 .f32) (harg6 : arg6.IsWhole)
  (arg7 : Memref sig .tc .vmem S1x896 .f32) (harg7 : arg7.IsWhole)
  (arg8 : Memref sig .tc .vmem S4096x256 .fp8e4m3) (harg8 : arg8.IsWhole)
  (arg9 : Memref sig .tc .vmem S128x256 .i8) (harg9 : arg9.IsWhole)
  (arg10 : Memref sig .tc .vmem S256x896 .fp8e4m3) (harg10 : arg10.IsWhole)
  (arg11 : Memref sig .tc .vmem S256x28 .i8) (harg11 : arg11.IsWhole)
  (arg12 : Memref sig .tc .vmem S256x896 .f32) (harg12 : arg12.IsWhole)
  (arg13 : Memref sig .tc .vmem S448x2x4096 .bf16) (harg13 : arg13.IsWhole)
  (arg14 : Memref sig .tc .vmem S448x2x896 .bf16) (harg14 : arg14.IsWhole)
  (arg15 : Memref sig .tc .vmem S896x128 .f32) (harg15 : arg15.IsWhole)
  (arg16 : Memref sig .tc .vmem S2048x2x256 .bf16) (harg16 : arg16.IsWhole)
  (arg17 : Memref sig .tc .vmem S896x256 .f32) (harg17 : arg17.IsWhole)
  (arg18 : Memref sig .tc .vmem S448x2x256 .bf16) (harg18 : arg18.IsWhole)
  (arg19 : Memref sig .tc .vmem S2x32x128 .i32) (harg19 : arg19.IsWhole)
  (arg20 : Memref sig .tc .vmem S896x256 .f32) (harg20 : arg20.IsWhole)
  (x0 : Vec Ideal S4096x896 .fp8e4m3)
  (x1 : Vec Ideal S128x896 .i8)
  (x2 : Vec Ideal S896x896 .fp8e4m3)
  (x3 : Vec Ideal S28x896 .i8)
  (x4 : Vec Ideal S1x896 .f32)
  (x5 : Vec Ideal S1x896 .f32)
  (x6 : Vec Ideal S4096x256 .fp8e4m3)
  (x7 : Vec Ideal S128x256 .i8)
  (xt0 : TbBuf0 (F := Ideal) c tbM0_0)
  (xs0 : Vec Ideal S448x2x4096 .bf16)
  (xs1 : Vec Ideal S448x2x896 .bf16)
  (xs2 : Vec Ideal S896x128 .f32)
  (xs3 : Vec Ideal S2048x2x256 .bf16)
  (xs4 : Vec Ideal S896x256 .f32)
  (xs6 : Vec Ideal S2x32x128 .i32)
  (xs7 : Vec Ideal S896x256 .f32)

/-! ## The dequantised hidden block and the exponents kept -/

/-- The stores of a later point into the dequantised hidden block cover it, -/
theorem hB_cover (y) : ∃ p ∈ (irunB.sl.HS5_56 (F := Ideal) c arg15 harg15 arg17 harg17 xs2 xs4), y ∈ p.1.set :=
  View.cover_of_tiledL (irunB.sl.HS5_56 (F := Ideal) c arg15 harg15 arg17 harg17 xs2 xs4) S16x2x128.size (by sl_kernel_rfl) y

set_option maxHeartbeats 8000000 in
/-- and leave it at what it is to hold. -/
theorem hB_canon : View.canon (irunB.sl.HS5_56 (F := Ideal) c arg15 harg15 arg17 harg17 xs2 xs4) = hidden (hid xs4 xs2) := by
  funext y
  refine View.canon_apply_of_pieces (hidden (hid xs4 xs2)) _ ?_ y (hB_cover c arg15 harg15 arg17 harg17 xs2 xs4 y)
  iterate 56 refine h_cons arg15 harg15 arg17 harg17 xs2 xs4 _ _ _ (by decide) (by decide) (by decide) _ (by sl_kernel_rfl) _ ?_
  exact fun p hp => absurd hp List.not_mem_nil

/-- An element of a rectangle is not before it. -/
theorem unit_off {off size : Fin S2x32x128.rank → ℕ} (inb) {y : S2x32x128.Idx} (hy : y ∈ (Rect.unit (s := S2x32x128) off size inb).set) (a : Fin S2x32x128.rank) :
    off a ≤ (y a : ℕ) := ((Rect.mem_set_unit.mp hy) a).1

/-- The rows the stores of the first half leave as they were, -/
def rest0 : List (View.Piece (Elt Ideal) S2x32x128 .i32) :=
  [⟨Rect.unit (s := S2x32x128) ![0, 28, 0] (![1, 4, 128] : Fin 3 → ℕ) (by decide), fun _ => 0#32⟩,
    ⟨Rect.unit (s := S2x32x128) ![1, 0, 0] (![1, 32, 128] : Fin 3 → ℕ) (by decide), fun _ => 0#32⟩]

/-- and those the stores of both halves leave. -/
def rest1 : List (View.Piece (Elt Ideal) S2x32x128 .i32) :=
  [⟨Rect.unit (s := S2x32x128) ![0, 28, 0] (![2, 4, 128] : Fin 3 → ℕ) (by decide), fun _ => 0#32⟩]

/-- The stores of the first half's exponents cover its first 28 rows, -/
theorem e0_cover (y : S2x32x128.Idx) (h0 : (y 0 : ℕ) = 0) (h1 : (y 1 : ℕ) < 28) : ∃ p ∈ (irunB.sl.HS6_28 (F := Ideal) c arg15 harg15 arg17 harg17 xs2 xs4), y ∈ p.1.set := by
  obtain ⟨p, hp, hy⟩ := View.cover_of_tiledBy ((irunB.sl.HS6_28 (F := Ideal) c arg15 harg15 arg17 harg17 xs2 xs4) ++ rest0) S1x1x128.size (by sl_kernel_rfl) y
  rcases List.mem_append.mp hp with hp | hp
  · exact ⟨p, hp, hy⟩
  · exfalso
    rcases List.mem_cons.mp hp with rfl | hp
    · have h : 28 ≤ (y 1 : ℕ) := unit_off (by decide) hy 1
      omega
    · obtain rfl := List.mem_singleton.mp hp
      have h : 1 ≤ (y 0 : ℕ) := unit_off (by decide) hy 0
      omega

/-- and those of both halves' the first 28 rows of both. -/
theorem e1_cover (y : S2x32x128.Idx) (h1 : (y 1 : ℕ) < 28) : ∃ p ∈ (irunB.sl.HS6_56 (F := Ideal) c arg15 harg15 arg17 harg17 xs2 xs4), y ∈ p.1.set := by
  obtain ⟨p, hp, hy⟩ := View.cover_of_tiledBy ((irunB.sl.HS6_56 (F := Ideal) c arg15 harg15 arg17 harg17 xs2 xs4) ++ rest1) S1x1x128.size (by sl_kernel_rfl) y
  rcases List.mem_append.mp hp with hp | hp
  · exact ⟨p, hp, hy⟩
  · exfalso
    obtain rfl := List.mem_singleton.mp hp
    have h : 28 ≤ (y 1 : ℕ) := unit_off (by decide) hy 1
    omega

set_option maxHeartbeats 8000000 in
/-- They leave the exponents there, -/
theorem e0_read (V : arg19.view.ty.Contents (Elt Ideal)) (y : S2x32x128.Idx) (h0 : (y 0 : ℕ) = 0) (h1 : (y 1 : ℕ) < 28) :
    arg19.view.read (Elt Ideal) (arg19.view.writes (Elt Ideal) V (irunB.sl.HS6_28 (F := Ideal) c arg15 harg15 arg17 harg17 xs2 xs4)) y = exposW (hid xs4 xs2) y := by
  refine View.read_writes_apply_of_pieces _ _ (exposW (hid xs4 xs2)) _ ?_ y (e0_cover c arg15 harg15 arg17 harg17 xs2 xs4 y h0 h1)
  iterate 28 refine e_cons arg15 harg15 arg17 harg17 xs2 xs4 _ _ _ (by decide) (by decide) (by decide) _ (by sl_kernel_rfl) _ ?_
  exact fun p hp => absurd hp List.not_mem_nil

set_option maxHeartbeats 8000000 in
/-- of both halves. -/
theorem e1_read (V : arg19.view.ty.Contents (Elt Ideal)) (y : S2x32x128.Idx) (h1 : (y 1 : ℕ) < 28) :
    arg19.view.read (Elt Ideal) (arg19.view.writes (Elt Ideal) V (irunB.sl.HS6_56 (F := Ideal) c arg15 harg15 arg17 harg17 xs2 xs4)) y = exposW (hid xs4 xs2) y := by
  refine View.read_writes_apply_of_pieces _ _ (exposW (hid xs4 xs2)) _ ?_ y (e1_cover c arg15 harg15 arg17 harg17 xs2 xs4 y h1)
  iterate 56 refine e_cons arg15 harg15 arg17 harg17 xs2 xs4 _ _ _ (by decide) (by decide) (by decide) _ (by sl_kernel_rfl) _ ?_
  exact fun p hp => absurd hp List.not_mem_nil

/-! ## The outputs and the blocks between points -/

/-- The stores of a later point into the output of the codes cover it, -/
theorem cB_cover (hc0 : ¬cond0_0 i) (y) : ∃ p ∈ (irunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0 xs0 xs1 xs2 xs3 xs4 xs6 xs7).1, y ∈ p.1.set :=
  View.cover_of_tiledL (irunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0 xs0 xs1 xs2 xs3 xs4 xs6 xs7).1 S128x128.size (by sl_kernel_rfl) y

set_option maxHeartbeats 8000000 in
/-- and leave it at what it is to hold. -/
theorem cB_canon (hc0 : ¬cond0_0 i) : View.canon (irunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0 xs0 xs1 xs2 xs3 xs4 xs6 xs7).1 = codesT (hid xs4 xs2) := by
  funext y
  refine View.canon_apply_of_pieces (codesT (hid xs4 xs2)) _ ?_ y (cB_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 xt0 xs0 xs1 xs2 xs3 xs4 xs6 xs7 hc0 y)
  iterate 14 refine c_cons arg15 harg15 arg17 harg17 xs2 xs4 _ _ _ (by decide) (by decide) (by decide) (by decide) (by decide) (by decide) (by decide) (by decide) (by decide) _ (by sl_kernel_rfl) _ ?_
  exact fun p hp => absurd hp List.not_mem_nil

/-- The stores of a later point into the output of the exponents cover it, -/
theorem xB_cover (hc0 : ¬cond0_0 i) (y) : ∃ p ∈ (irunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0 xs0 xs1 xs2 xs3 xs4 xs6 xs7).2.1, y ∈ p.1.set :=
  View.cover_of_tiledL (irunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0 xs0 xs1 xs2 xs3 xs4 xs6 xs7).2.1 S128x28.size (by sl_kernel_rfl) y

set_option maxHeartbeats 8000000 in
/-- and leave it at what it is to hold. -/
theorem xB_canon (hc0 : ¬cond0_0 i) : View.canon (irunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0 xs0 xs1 xs2 xs3 xs4 xs6 xs7).2.1 = exposT (hid xs4 xs2) := by
  funext y
  refine View.canon_apply_of_pieces (exposT (hid xs4 xs2)) _ ?_ y (xB_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 xt0 xs0 xs1 xs2 xs3 xs4 xs6 xs7 hc0 y)
  refine x_cons (arg19.view.writes (Elt Ideal) (harg19.unread xs6) (irunB.sl.HS6_56 (F := Ideal) c arg15 harg15 arg17 harg17 xs2 xs4)) (hid xs4 xs2) 1
    (fun y _ h => e1_read c arg15 harg15 arg17 harg17 arg19 xs2 xs4 _ y h) (by decide) (by decide) _ (by sl_kernel_rfl) _ ?_
  refine x_cons (arg19.view.writes (Elt Ideal) (harg19.unread xs6) (irunB.sl.HS6_28 (F := Ideal) c arg15 harg15 arg17 harg17 xs2 xs4)) (hid xs4 xs2) 0
    (fun y h0 h => e0_read c arg15 harg15 arg17 harg17 arg19 xs2 xs4 _ y h0 h) (by decide) (by decide) _ (by sl_kernel_rfl) _ ?_
  exact fun p hp => absurd hp List.not_mem_nil

/-- The stores of a later point into the output of the second product cover it, -/
theorem vB_cover (hc0 : ¬cond0_0 i) (y) : ∃ p ∈ (irunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0 xs0 xs1 xs2 xs3 xs4 xs6 xs7).2.2.1, y ∈ p.1.set :=
  View.cover_of_tiledL (irunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0 xs0 xs1 xs2 xs3 xs4 xs6 xs7).2.2.1 S128x128.size (by sl_kernel_rfl) y

set_option maxHeartbeats 8000000 in
/-- and leave it at what it is to hold. -/
theorem vB_canon (hc0 : ¬cond0_0 i) : View.canon (irunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0 xs0 xs1 xs2 xs3 xs4 xs6 xs7).2.2.1 = turned xs7 x5 := by
  funext y
  refine View.canon_apply_of_pieces (turned xs7 x5) _ ?_ y (vB_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 xt0 xs0 xs1 xs2 xs3 xs4 xs6 xs7 hc0 y)
  iterate 14 refine v_cons arg7 harg7 arg20 harg20 x5 xs7 _ _ _ _ _ _ ?_
  exact fun p hp => absurd hp List.not_mem_nil

/-- The stores of a later point into the unpacked block cover it, -/
theorem atB_cover (hc0 : ¬cond0_0 i) (y) : ∃ p ∈ (irunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0 xs0 xs1 xs2 xs3 xs4 xs6 xs7).2.2.2.1, y ∈ p.1.set :=
  View.cover_of_tiledL (irunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0 xs0 xs1 xs2 xs3 xs4 xs6 xs7).2.2.2.1 S128x2x256.size (by sl_kernel_rfl) y

set_option maxHeartbeats 8000000 in
/-- and leave it at what it is to hold. -/
theorem atB_canon (hc0 : ¬cond0_0 i) : View.canon (irunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0 xs0 xs1 xs2 xs3 xs4 xs6 xs7).2.2.2.1 = unpacked x6 x7 := by
  funext y
  refine View.canon_apply_of_pieces (unpacked x6 x7) _ ?_ y (atB_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 xt0 xs0 xs1 xs2 xs3 xs4 xs6 xs7 hc0 y)
  iterate 16 refine at_cons arg8 harg8 arg9 harg9 x6 x7 _ _ _ _ _ _ (by decide) _ ?_
  exact fun p hp => absurd hp List.not_mem_nil

/-- The store of a later point into the first product covers it, -/
theorem htB_cover (hc0 : ¬cond0_0 i) (y) : ∃ p ∈ (irunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0 xs0 xs1 xs2 xs3 xs4 xs6 xs7).2.2.2.2.1, y ∈ p.1.set :=
  View.cover_of_wholeMem (irunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0 xs0 xs1 xs2 xs3 xs4 xs6 xs7).2.2.2.2.1 (by sl_whole_mem) y

/-- and leaves it at the product of the prepared weights and the unpacked block before. -/
theorem htB_canon (hc0 : ¬cond0_0 i) : View.canon (irunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0 xs0 xs1 xs2 xs3 xs4 xs6 xs7).2.2.2.2.1 = k0_pay1514 (F := Ideal) xs0 xs3 := by
  have h : (irunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0 xs0 xs1 xs2 xs3 xs4 xs6 xs7).2.2.2.2.1 = [⟨Rect.unit (s := S896x256) ![0, 0] S896x256.size inb_S896x256_S896x256_0_0, k0_pay1514 (F := Ideal)
      (View.readAt (Elt Ideal) arg13.view (Rect.unit (s := S448x2x4096) ![0, 0, 0] S448x2x4096.size inb_S448x2x4096_S448x2x4096_0_0_0).toLoadRect (harg13.unread xs0))
      (View.readAt (Elt Ideal) arg16.view (Rect.unit (s := S2048x2x256) ![0, 0, 0] S2048x2x256.size inb_S2048x2x256_S2048x2x256_0_0_0).toLoadRect (harg16.unread xs3))⟩] := rfl
  rw [h, View.canon_unit_zero (by funext a; fin_cases a <;> rfl)]
  have h8 : (View.readAt (Elt Ideal) arg13.view (Rect.unit (s := S448x2x4096) ![0, 0, 0] S448x2x4096.size inb_S448x2x4096_S448x2x4096_0_0_0).toLoadRect (harg13.unread xs0)) = xs0 := by
    exact (funext fun x => harg13.readAt_unread xs0 _ x).trans (View.ld_unit_zero (by funext a; fin_cases a <;> rfl) _ xs0)
  have h10 : (View.readAt (Elt Ideal) arg16.view (Rect.unit (s := S2048x2x256) ![0, 0, 0] S2048x2x256.size inb_S2048x2x256_S2048x2x256_0_0_0).toLoadRect (harg16.unread xs3)) = xs3 := by
    exact (funext fun x => harg16.readAt_unread xs3 _ x).trans (View.ld_unit_zero (by funext a; fin_cases a <;> rfl) _ xs3)
  exact congrArg₂ (fun a b => k0_pay1514 (F := Ideal) a b) h8 h10

/-- The store of a later point into the second product covers it, -/
theorem vtB_cover (hc0 : ¬cond0_0 i) (y) : ∃ p ∈ (irunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0 xs0 xs1 xs2 xs3 xs4 xs6 xs7).2.2.2.2.2.1, y ∈ p.1.set :=
  View.cover_of_wholeMem (irunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0 xs0 xs1 xs2 xs3 xs4 xs6 xs7).2.2.2.2.2.1 (by sl_whole_mem) y

/-- The product is kept as it is, -/
theorem pay1513_eq (v : Vec Ideal S896x256 .f32) : k0_pay1513 (F := Ideal) v = v := by
  funext j
  obtain ⟨n, t, rfl⟩ : ∃ (n : Fin 896) (t : Fin 256), j = ix2 n t := ⟨j 0, j 1, eq_ix2 j⟩
  pointwise [k0_pay1513]

/-- and leaves it at the product of the prepared second weights and the hidden block just quantised. -/
theorem vtB_canon (hc0 : ¬cond0_0 i) : View.canon (irunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0 xs0 xs1 xs2 xs3 xs4 xs6 xs7).2.2.2.2.2.1 = k0_pay1512 (F := Ideal) xs1 (hidden (hid xs4 xs2)) := by
  have h : (irunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0 xs0 xs1 xs2 xs3 xs4 xs6 xs7).2.2.2.2.2.1 = [⟨Rect.unit (s := S896x256) ![0, 0] S896x256.size inb_S896x256_S896x256_0_0, k0_pay1513 (F := Ideal) (k0_pay1512 (F := Ideal)
      (View.readAt (Elt Ideal) arg14.view (Rect.unit (s := S448x2x896) ![0, 0, 0] S448x2x896.size inb_S448x2x896_S448x2x896_0_0_0).toLoadRect (harg14.unread xs1))
      (arg18.view.readCov (irunB.sl.HS5_56 (F := Ideal) c arg15 harg15 arg17 harg17 xs2 xs4) (Rect.unit (s := S448x2x256) ![0, 0, 0] S448x2x256.size inb_S448x2x256_S448x2x256_0_0_0).toLoadRect))⟩] := rfl
  rw [h, pay1513_eq, View.canon_unit_zero (by funext a; fin_cases a <;> rfl)]
  have h1 : (View.readAt (Elt Ideal) arg14.view (Rect.unit (s := S448x2x896) ![0, 0, 0] S448x2x896.size inb_S448x2x896_S448x2x896_0_0_0).toLoadRect (harg14.unread xs1)) = xs1 := by
    exact (funext fun x => harg14.readAt_unread xs1 _ x).trans (View.ld_unit_zero (by funext a; fin_cases a <;> rfl) _ xs1)
  have h2 : arg18.view.readCov (irunB.sl.HS5_56 (F := Ideal) c arg15 harg15 arg17 harg17 xs2 xs4) (Rect.unit (s := S448x2x256) ![0, 0, 0] S448x2x256.size inb_S448x2x256_S448x2x256_0_0_0).toLoadRect = hidden (hid xs4 xs2) :=
    (View.readCov_eq_canon_ld _ _ _ (hB_cover c arg15 harg15 arg17 harg17 xs2 xs4)).trans
      ((View.ld_unit_zero (by funext a; fin_cases a <;> rfl) _ _).trans (hB_canon c arg15 harg15 arg17 harg17 xs2 xs4))
  exact congrArg₂ (fun a b => k0_pay1512 (F := Ideal) a b) h1 h2

end Cert.KernelIdeal.Gen

end
-- ==== Proof.IValA.lean ====
/- What the first point's stores leave in the prepared weights, the spread bias and the unpacked block. -/
module

public import proofs.«01_k».proof.Proof.IRunA
public import proofs.«01_k».proof.Proof.IValB

@[expose] public section

set_option maxRecDepth 16384

noncomputable section

namespace Cert.KernelIdeal.Gen

open Idealize.ShloMosaic Idealize.ShloMosaic.TcCoe Idealize.ShloMosaic.Tactic

/-- One more store into the prepared weights. -/
theorem w_cons (arg2 : Memref sig .tc .vmem S4096x896 .fp8e4m3) (harg2 : arg2.IsWhole) (arg3 : Memref sig .tc .vmem S128x896 .i8) (harg3 : arg3.IsWhole)
    (x0 : Vec Ideal S4096x896 .fp8e4m3) (x1 : Vec Ideal S128x896 .i8) (a0 q0 : ℕ)
    (hr : ∀ a, (![a0, 0, q0] : Fin 3 → ℕ) a + S64x2x256.size a ≤ S448x2x4096.size a)
    (hs : S256x896.Slices ![0, 2 * a0] S256x128)
    (hwl : ∀ a, (![natRow (q0 / 2) 0, 0] : Fin 2 → ℕ) a + S128x896.size a ≤ S4096x896.size a) (hwh : ∀ a, (![natRow (q0 / 2) 1, 0] : Fin 2 → ℕ) a + S128x896.size a ≤ S4096x896.size a)
    (hel : ∀ a, (![natRow (q0 / 2) 0 / 32, 0] : Fin 2 → ℕ) a + S4x896.size a ≤ S128x896.size a) (heh : ∀ a, (![natRow (q0 / 2) 1 / 32, 0] : Fin 2 → ℕ) a + S4x896.size a ≤ S128x896.size a)
    (e0 : q0 % 256 = 0) (L : List (View.Piece (Elt Ideal) S448x2x4096 .bf16))
    (h2 : ∀ p ∈ L, ∀ x : p.1.shape.Idx, p.2 x = prepared x0 x1 (p.1.emb x)) :
    ∀ p ∈ (⟨Rect.unit (s := S448x2x4096) ![a0, 0, q0] S64x2x256.size hr,
        wPay (2 * a0) hs (View.readAt (Elt Ideal) arg3.view (Rect.unit (s := S128x896) ![natRow (q0 / 2) 0 / 32, 0] S4x896.size hel).toLoadRect (harg3.unread x1))
          (View.readAt (Elt Ideal) arg2.view (Rect.unit (s := S4096x896) ![natRow (q0 / 2) 0, 0] S128x896.size hwl).toLoadRect (harg2.unread x0))
          (View.readAt (Elt Ideal) arg3.view (Rect.unit (s := S128x896) ![natRow (q0 / 2) 1 / 32, 0] S4x896.size heh).toLoadRect (harg3.unread x1))
          (View.readAt (Elt Ideal) arg2.view (Rect.unit (s := S4096x896) ![natRow (q0 / 2) 1, 0] S128x896.size hwh).toLoadRect (harg2.unread x0))⟩
        : View.Piece (Elt Ideal) S448x2x4096 .bf16) :: L, ∀ x : p.1.shape.Idx, p.2 x = prepared x0 x1 (p.1.emb x) :=
  pieces_cons _ _ _ (w_piece arg2 harg2 arg3 harg3 x0 x1 a0 q0 _ _ _ _ _ hr hs hwl hwh hel heh e0 rfl rfl (by unfold natRow; omega) (by unfold natRow; omega) rfl) h2

/-- One more store of 128 features into the spread bias. -/
theorem b_cons (arg4 : Memref sig .tc .vmem S1x896 .f32) (harg4 : arg4.IsWhole) (x2 : Vec Ideal S1x896 .f32) (o : ℕ)
    (hr : ∀ a, (![o, 0] : Fin 2 → ℕ) a + S128x128.size a ≤ S896x128.size a)
    (hb : ∀ a, (![0, o] : Fin 2 → ℕ) a + S1x128.size a ≤ S1x896.size a)
    (L : List (View.Piece (Elt Ideal) S896x128 .f32))
    (h2 : ∀ p ∈ L, ∀ x : p.1.shape.Idx, p.2 x = spreadBias x2 (p.1.emb x)) :
    ∀ p ∈ (⟨Rect.unit (s := S896x128) ![o, 0] S128x128.size hr,
        k0_pay255 (F := Ideal) (View.readAt (Elt Ideal) arg4.view (Rect.unit (s := S1x896) ![0, o] S1x128.size hb).toLoadRect (harg4.unread x2))⟩
        : View.Piece (Elt Ideal) S896x128 .f32) :: L, ∀ x : p.1.shape.Idx, p.2 x = spreadBias x2 (p.1.emb x) :=
  pieces_cons _ _ _ (b_piece arg4 harg4 x2 o hr hb) h2

/-- One more store of 128 hidden features into the prepared second weights. -/
theorem w2_cons (argw : Memref sig .tc .vmem S896x896 .fp8e4m3) (hargw : argw.IsWhole) (arge : Memref sig .tc .vmem S28x896 .i8) (harge : arge.IsWhole)
    (x2 : Vec Ideal S896x896 .fp8e4m3) (x3 : Vec Ideal S28x896 .i8) (l : ℕ)
    (hr : ∀ a, (![0, 0, l] : Fin 3 → ℕ) a + S448x2x128.size a ≤ S448x2x896.size a)
    (h0 : S28x896.Slices ![l / 32, 0] S1x896) (h1 : S28x896.Slices ![l / 32 + 1, 0] S1x896) (h2 : S28x896.Slices ![l / 32 + 2, 0] S1x896) (h3 : S28x896.Slices ![l / 32 + 3, 0] S1x896)
    (he : ∀ a, (![0, 0] : Fin 2 → ℕ) a + S28x896.size a ≤ S28x896.size a)
    (hw : ∀ a, (![l, 0] : Fin 2 → ℕ) a + S128x896.size a ≤ S896x896.size a)
    (e0 : l % 32 = 0 ∧ l < 800) (L : List (View.Piece (Elt Ideal) S448x2x896 .bf16))
    (g : ∀ p ∈ L, ∀ x : p.1.shape.Idx, p.2 x = prepared2 x2 x3 (p.1.emb x)) :
    ∀ p ∈ (⟨Rect.unit (s := S448x2x896) ![0, 0, l] S448x2x128.size hr,
        w2Pay (l / 32) (l / 32 + 1) (l / 32 + 2) (l / 32 + 3) h0 h1 h2 h3 (View.readAt (Elt Ideal) arge.view (Rect.unit (s := S28x896) ![0, 0] S28x896.size he).toLoadRect (harge.unread x3))
        (View.readAt (Elt Ideal) argw.view (Rect.unit (s := S896x896) ![l, 0] S128x896.size hw).toLoadRect (hargw.unread x2))⟩
        : View.Piece (Elt Ideal) S448x2x896 .bf16) :: L, ∀ x : p.1.shape.Idx, p.2 x = prepared2 x2 x3 (p.1.emb x) :=
  pieces_cons _ _ _ (w2_piece argw hargw arge harge x2 x3 l _ _ _ _ hr h0 h1 h2 h3 he hw (by omega) (by omega) rfl rfl rfl) g

variable (c : Dev nD) (i : grid0.Coords)
  (arg2 : Memref sig .tc .vmem S4096x896 .fp8e4m3) (harg2 : arg2.IsWhole)
  (arg3 : Memref sig .tc .vmem S128x896 .i8) (harg3 : arg3.IsWhole)
  (arg4 : Memref sig .tc .vmem S896x896 .fp8e4m3) (harg4 : arg4.IsWhole)
  (arg5 : Memref sig .tc .vmem S28x896 .i8) (harg5 : arg5.IsWhole)
  (arg6 : Memref sig .tc .vmem S1x896 .f32) (harg6 : arg6.IsWhole)
  (arg7 : Memref sig .tc .vmem S1x896 .f32) (harg7 : arg7.IsWhole)
  (arg8 : Memref sig .tc .vmem S4096x256 .fp8e4m3) (harg8 : arg8.IsWhole)
  (arg9 : Memref sig .tc .vmem S128x256 .i8) (harg9 : arg9.IsWhole)
  (arg10 : Memref sig .tc .vmem S256x896 .fp8e4m3) (harg10 : arg10.IsWhole)
  (arg11 : Memref sig .tc .vmem S256x28 .i8) (harg11 : arg11.IsWhole)
  (arg12 : Memref sig .tc .vmem S256x896 .f32) (harg12 : arg12.IsWhole)
  (arg13 : Memref sig .tc .vmem S448x2x4096 .bf16) (harg13 : arg13.IsWhole)
  (arg14 : Memref sig .tc .vmem S448x2x896 .bf16) (harg14 : arg14.IsWhole)
  (arg15 : Memref sig .tc .vmem S896x128 .f32) (harg15 : arg15.IsWhole)
  (arg16 : Memref sig .tc .vmem S2048x2x256 .bf16) (harg16 : arg16.IsWhole)
  (arg17 : Memref sig .tc .vmem S896x256 .f32) (harg17 : arg17.IsWhole)
  (arg18 : Memref sig .tc .vmem S448x2x256 .bf16) (harg18 : arg18.IsWhole)
  (arg19 : Memref sig .tc .vmem S2x32x128 .i32) (harg19 : arg19.IsWhole)
  (arg20 : Memref sig .tc .vmem S896x256 .f32) (harg20 : arg20.IsWhole)
  (x0 : Vec Ideal S4096x896 .fp8e4m3)
  (x1 : Vec Ideal S128x896 .i8)
  (x2 : Vec Ideal S896x896 .fp8e4m3)
  (x3 : Vec Ideal S28x896 .i8)
  (x4 : Vec Ideal S1x896 .f32)
  (x5 : Vec Ideal S1x896 .f32)
  (x6 : Vec Ideal S4096x256 .fp8e4m3)
  (x7 : Vec Ideal S128x256 .i8)
  (xt0 : TbBuf0 (F := Ideal) c tbM0_0)

/-- The stores of the first point into the prepared weights cover it, -/
theorem wA_cover (hc0 : cond0_0 i) (y) :
    ∃ p ∈ (irunA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0).1, y ∈ p.1.set :=
  View.cover_of_tiledL (irunA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0).1 S64x2x256.size (by sl_kernel_rfl) y

set_option maxHeartbeats 8000000 in
/-- and leave it at what it is to hold. -/
theorem wA_canon (hc0 : cond0_0 i) :
    View.canon (irunA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0).1 = prepared x0 x1 := by
  funext y
  refine View.canon_apply_of_pieces (prepared x0 x1) _ ?_ y (wA_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 xt0 hc0 y)
  iterate 112 refine w_cons arg2 harg2 arg3 harg3 x0 x1 _ _ _ (by decide) _ _ _ _ (by decide) _ ?_
  exact fun p hp => absurd hp List.not_mem_nil

/-- The stores of the first point into the prepared second weights cover it, -/
theorem w2A_cover (hc0 : cond0_0 i) (y) :
    ∃ p ∈ (irunA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0).2.1, y ∈ p.1.set :=
  View.cover_of_tiledL (irunA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0).2.1 S448x2x128.size (by sl_kernel_rfl) y

set_option maxHeartbeats 8000000 in
/-- and leave it at what it is to hold. -/
theorem w2A_canon (hc0 : cond0_0 i) :
    View.canon (irunA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0).2.1 = prepared2 x2 x3 := by
  funext y
  refine View.canon_apply_of_pieces (prepared2 x2 x3) _ ?_ y (w2A_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 xt0 hc0 y)
  iterate 7 refine w2_cons arg4 harg4 arg5 harg5 x2 x3 _ _ (by decide) (by decide) (by decide) (by decide) _ _ (by decide) _ ?_
  exact fun p hp => absurd hp List.not_mem_nil

/-- The stores of the first point into the spread bias cover it, -/
theorem bA_cover (hc0 : cond0_0 i) (y) :
    ∃ p ∈ (irunA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0).2.2.1, y ∈ p.1.set :=
  View.cover_of_tiledL (irunA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0).2.2.1 S128x128.size (by sl_kernel_rfl) y

set_option maxHeartbeats 8000000 in
/-- and leave it at what it is to hold. -/
theorem bA_canon (hc0 : cond0_0 i) :
    View.canon (irunA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0).2.2.1 = spreadBias x4 := by
  funext y
  refine View.canon_apply_of_pieces (spreadBias x4) _ ?_ y (bA_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 xt0 hc0 y)
  iterate 7 refine b_cons arg6 harg6 x4 _ _ _ _ ?_
  exact fun p hp => absurd hp List.not_mem_nil

/-- The stores of the first point into the unpacked block cover it, -/
theorem atA_cover (hc0 : cond0_0 i) (y) :
    ∃ p ∈ (irunA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0).2.2.2.1, y ∈ p.1.set :=
  View.cover_of_tiledL (irunA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0).2.2.2.1 S128x2x256.size (by sl_kernel_rfl) y

set_option maxHeartbeats 8000000 in
/-- and leave it at what it is to hold. -/
theorem atA_canon (hc0 : cond0_0 i) :
    View.canon (irunA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xt0).2.2.2.1 = unpacked x6 x7 := by
  funext y
  refine View.canon_apply_of_pieces (unpacked x6 x7) _ ?_ y (atA_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 xt0 hc0 y)
  iterate 16 refine at_cons arg8 harg8 arg9 harg9 x6 x7 _ _ _ _ _ _ (by decide) _ ?_
  exact fun p hp => absurd hp List.not_mem_nil

end Cert.KernelIdeal.Gen

end
-- ==== Proof.IFrame.lean ====
/- The idealized kernel's run: what its scratch buffers hold between points, the body obligation with the outputs at
   what a point of number 2 or more leaves, and the launch. -/
module

public import proofs.«01_k».proof.Proof.IValA
public import Idealize.ShloMosaic.Lib.Claim
public import Idealize.ShloMosaic.Lib.Pipeline.DatRel
public import Idealize.ShloMosaic.Lib.Pipeline.ArrRel

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Stores that cover a buffer leave it owned at what they leave. -/
theorem owns_of_writes {s : Shape} {e : EltTy} (c : Dev nD) (mr : Memref sig .tc .vmem s e) (L : List (View.Piece (Elt Ideal) s e)) (X : s.Idx → Elt Ideal e)
    (hcov : ∀ y, ∃ p ∈ L, y ∈ p.1.set) (hcan : View.canon L = X) :
    (iprop(∃ f, mr.view.loc (c : Thread nD τ) ↦[mr.view.set]{fullShare} mr.view.writes (Elt Ideal) f L) : sProp 𝕄) ⊢ owns (c : Thread nD τ) mr fullShare X := by
  unfold owns
  iintro ⟨%f, H⟩
  iexists _
  isplitr
  · ipureintro; exact (View.read_writes_eq_canon mr.view f L hcov).trans hcan
  iexact H

/-! ## What the buffers hold -/

/-- The grid point of a number (reduced modulo the grid's length). -/
def pt (hO : Ok m) (n : ℕ) : Fin (cfgM m hO).N := ⟨n % 160, Nat.lt_of_lt_of_eq (Nat.mod_lt _ (by decide)) N_0.symm⟩

theorem pt_val (hO : Ok m) (t : Fin (cfgM m hO).N) : pt m hO t.val = t :=
  Fin.ext (Nat.mod_eq_of_lt (Nat.lt_of_lt_of_eq t.isLt N_0))

/-- The prepared first weights, of the blocks at the first point, -/
def Wm (hO : Ok m) (c : Dev nD) : Vec Ideal S448x2x4096 .bf16 := prepared (iblk m hO c 0 (pt m hO 0)) (iblk m hO c 1 (pt m hO 0))
/-- the second, -/
def W2m (hO : Ok m) (c : Dev nD) : Vec Ideal S448x2x896 .bf16 := prepared2 (iblk m hO c 2 (pt m hO 0)) (iblk m hO c 3 (pt m hO 0))
/-- and the spread bias. -/
def Bm (hO : Ok m) (c : Dev nD) : Vec Ideal S896x128 .f32 := spreadBias (iblk m hO c 4 (pt m hO 0))
/-- The unpacked block of activations of point `n`. -/
def Am (hO : Ok m) (c : Dev nD) (n : ℕ) : Vec Ideal S2048x2x256 .bf16 := unpacked (iblk m hO c 6 (pt m hO n)) (iblk m hO c 7 (pt m hO n))
/-- The first product, of the activations of point `n`, -/
def P1 (hO : Ok m) (c : Dev nD) (n : ℕ) : Vec Ideal S896x256 .f32 := k0_pay1514 (F := Ideal) (Wm m hO c) (Am m hO c n)
/-- its hidden features, -/
def Gm (hO : Ok m) (c : Dev nD) (n : ℕ) : Fin 896 → Fin 256 → EReal := hid (P1 m hO c n) (Bm m hO c)
/-- and the second product, of the hidden features quantised. -/
def P2 (hO : Ok m) (c : Dev nD) (n : ℕ) : Vec Ideal S896x256 .f32 := k0_pay1512 (F := Ideal) (W2m m hO c) (hidden (Gm m hO c n))

/-- What the scratch buffers hold before point `n`: from point 1 on the prepared weights, the spread bias and the unpacked
    block of the point before; from point 2 on the first product of the point before that; from point 3 on the second
    product of the point before that one. Of the quantised hidden block and its exponents, which a point stores before it
    reads them, nothing is said. -/
def Inv (hO : Ok m) (c : Dev nD) (n : ℕ) (d0 : Vec Ideal S448x2x4096 .bf16) (d1 : Vec Ideal S448x2x896 .bf16) (d2 : Vec Ideal S896x128 .f32) (d3 : Vec Ideal S2048x2x256 .bf16) (d4 : Vec Ideal S896x256 .f32) (d5 : Vec Ideal S448x2x256 .bf16) (d6 : Vec Ideal S2x32x128 .i32) (d7 : Vec Ideal S896x256 .f32) : Prop :=
  (1 ≤ n → d0 = Wm m hO c ∧ d1 = W2m m hO c ∧ d2 = Bm m hO c ∧ d3 = Am m hO c (n - 1)) ∧ (2 ≤ n → d4 = P1 m hO c (n - 2))
    ∧ (3 ≤ n → d7 = P2 m hO c (n - 3))

/-- The invariant between points: the scratch at contents that `Inv` admits, the generator register, the table's half. -/
def PhiI (hO : Ok m) (c : Dev nD) (n : ℕ) : sProp 𝕄 :=
  iprop(((∃ d0 d1 d2 d3 d4 d5 d6 d7, ⌜Inv m hO c n d0 d1 d2 d3 d4 d5 d6 d7⌝ ∗ owns (c : Thread nD τ) scM0_0 fullShare d0 ∗ owns (c : Thread nD τ) scM0_1 fullShare d1 ∗ owns (c : Thread nD τ) scM0_2 fullShare d2 ∗ owns (c : Thread nD τ) scM0_3 fullShare d3 ∗ owns (c : Thread nD τ) scM0_4 fullShare d4 ∗ owns (c : Thread nD τ) scM0_5 fullShare d5 ∗ owns (c : Thread nD τ) scM0_6 fullShare d6 ∗ owns (c : Thread nD τ) scM0_7 fullShare d7)
    ∗ (∃ r, prngReg c r)) ∗ Pipeline.ΦT pre0 (tbl m) c)

/-- The output windows are the ones held to a relation. -/
def marked0 : Fin 11 → Bool := fun w => w.val == 8 || w.val == 9 || w.val == 10

/-- What a point of number 2 or more leaves in the output of the codes, -/
def outVal (hO : Ok m) (c : Dev nD) (n : ℕ) : Vec Ideal S256x896 .fp8e4m3 := codesT (Gm m hO c (n - 2))
/-- in the output of the exponents, -/
def outVal1 (hO : Ok m) (c : Dev nD) (n : ℕ) : Vec Ideal S256x28 .i8 := exposT (Gm m hO c (n - 2))
/-- and, of number 3 or more, in the output of the second product. -/
def outVal2 (hO : Ok m) (c : Dev nD) (n : ℕ) : Vec Ideal S256x896 .f32 := turned (P2 m hO c (n - 3)) (iblk m hO c 5 (pt m hO n))

/-- The relation the outputs are held to; nothing is said of the other windows, nor of the outputs at the first points. -/
def RlI (hO : Ok m) (c : Dev nD) (w : Fin (cfgM m hO).W) (t : Fin (cfgM m hO).N) (X : ((cfgM m hO).win w).block.Idx → Elt Ideal ((cfgM m hO).win w).elt) : Prop :=
  match w with
  | ⟨8, _⟩ => 2 ≤ t.val → X = outVal m hO c t.val
  | ⟨9, _⟩ => 2 ≤ t.val → X = outVal1 m hO c t.val
  | ⟨10, _⟩ => 3 ≤ t.val → X = outVal2 m hO c t.val
  | _ => True

/-- The proof data of the one pipeline on core `c`. -/
def dats (hO : Ok m) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, h⟩ => Pipeline.Dat.unnamed (cfg := (cfgM m hO)) ⟨8, h⟩ t
    | ⟨9, h⟩ => Pipeline.Dat.unnamed (cfg := (cfgM m hO)) ⟨9, h⟩ t
    | ⟨10, h⟩ => Pipeline.Dat.unnamed (cfg := (cfgM m hO)) ⟨10, h⟩ t
  Φ t := PhiI m hO c t.val
  q _ := fullShare
  owed _ := 0

/-- The proof data read relationally. -/
abbrev rdats (hO : Ok m) (c : Dev nD) := (dats m hO 0 c).toRRel marked0 (RlI m hO c)

/-- The proof data's arrays are the region-entry contents. -/
theorem A_eq (hO : Ok m) (c : Dev nD) (w : Fin (cfgM m hO).W) : (dats m hO 0 c).A w = V m c (Pipeline.arrRef spec0 w) := by
  dsimp only [dats]

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl

/-- Each input's current staging buffer holds its block at every point, fetched there or not. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

/-! ## The body obligation, at a generic point -/

/-- What the body is called with at point `t` (the library's body obligation's precondition, the windows one by one), -/
def bodyPre (hO : Ok m) (c : Dev nD) (t : Fin (cfgM m hO).N) : sProp 𝕄 :=
  iprop(PhiI m hO c t.val ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, ⌜(rdats m hO c).Finds 8 t d⌝ ∗ owns (c : Thread nD τ) (ms0_8 m hO t) fullShare d)
    ∗ (∃ d, ⌜(rdats m hO c).Finds 9 t d⌝ ∗ owns (c : Thread nD τ) (ms0_9 m hO t) fullShare d)
    ∗ (∃ d, ⌜(rdats m hO c).Finds 10 t d⌝ ∗ owns (c : Thread nD τ) (ms0_10 m hO t) fullShare d))

/-- and what it returns. -/
def bodyPost (hO : Ok m) (c : Dev nD) (t : Fin (cfgM m hO).N) : sProp 𝕄 :=
  iprop(PhiI m hO c (t.val + 1) ∗ (dats m hO 0 c).owesAt () t.castSucc
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ (∃ d, ⌜RlI m hO c 8 t d⌝ ∗ owns (c : Thread nD τ) (ms0_8 m hO t) fullShare d)
    ∗ (∃ d, ⌜RlI m hO c 9 t d⌝ ∗ owns (c : Thread nD τ) (ms0_9 m hO t) fullShare d)
    ∗ (∃ d, ⌜RlI m hO c 10 t d⌝ ∗ owns (c : Thread nD τ) (ms0_10 m hO t) fullShare d))

/-- The scratch after the first point. -/
theorem Inv_first (hO : Ok m) (c : Dev nD) (t : Fin (cfgM m hO).N) (h : t.val = 0) (d4 d5 d6 d7) :
    Inv m hO c (t.val + 1) (prepared (iblk m hO c 0 t) (iblk m hO c 1 t)) (prepared2 (iblk m hO c 2 t) (iblk m hO c 3 t)) (spreadBias (iblk m hO c 4 t))
      (unpacked (iblk m hO c 6 t) (iblk m hO c 7 t)) d4 d5 d6 d7 := by
  have e : pt m hO 0 = t := by rw [← h]; exact pt_val m hO t
  refine ⟨fun _ => ⟨?_, ?_, ?_, ?_⟩, fun h2 => absurd h2 (by omega), fun h2 => absurd h2 (by omega)⟩
  · unfold Wm; rw [e]
  · unfold W2m; rw [e]
  · unfold Bm; rw [e]
  · unfold Am; rw [Nat.add_sub_cancel, pt_val]

/-- The scratch after a later point. -/
theorem Inv_next (hO : Ok m) (c : Dev nD) (t : Fin (cfgM m hO).N) (h : 1 ≤ t.val) (d0 d1 d2 d3 d4 d5 d6 d7 d5' d6') (hI : Inv m hO c t.val d0 d1 d2 d3 d4 d5 d6 d7) :
    Inv m hO c (t.val + 1) d0 d1 d2 (unpacked (iblk m hO c 6 t) (iblk m hO c 7 t)) (k0_pay1514 (F := Ideal) d0 d3) d5' d6'
      (k0_pay1512 (F := Ideal) d1 (hidden (hid d4 d2))) := by
  obtain ⟨e0, e1, e2, e3⟩ := hI.1 h
  refine ⟨fun _ => ⟨e0, e1, e2, ?_⟩, fun _ => ?_, fun h3 => ?_⟩
  · unfold Am; rw [Nat.add_sub_cancel, pt_val]
  · unfold P1; rw [e0, e3, show t.val + 1 - 2 = t.val - 1 by omega]
  · have e4 := hI.2.1 (by omega)
    unfold P2 Gm; rw [e1, e2, e4, show t.val + 1 - 3 = t.val - 2 by omega]

/-- The output of the codes after a later point, -/
theorem out_next (hO : Ok m) (c : Dev nD) (t : Fin (cfgM m hO).N) (d0 d1 d2 d3 d4 d5 d6 d7) (hI : Inv m hO c t.val d0 d1 d2 d3 d4 d5 d6 d7) : RlI m hO c 8 t (codesT (hid d4 d2)) := by
  show 2 ≤ t.val → _
  intro h
  rw [hI.2.1 h, (hI.1 (by omega)).2.2.1]
  rfl

/-- of the exponents, -/
theorem out1_next (hO : Ok m) (c : Dev nD) (t : Fin (cfgM m hO).N) (d0 d1 d2 d3 d4 d5 d6 d7) (hI : Inv m hO c t.val d0 d1 d2 d3 d4 d5 d6 d7) : RlI m hO c 9 t (exposT (hid d4 d2)) := by
  show 2 ≤ t.val → _
  intro h
  rw [hI.2.1 h, (hI.1 (by omega)).2.2.1]
  rfl

/-- and of the second product. -/
theorem out2_next (hO : Ok m) (c : Dev nD) (t : Fin (cfgM m hO).N) (d0 d1 d2 d3 d4 d5 d6 d7) (hI : Inv m hO c t.val d0 d1 d2 d3 d4 d5 d6 d7) : RlI m hO c 10 t (turned d7 (iblk m hO c 5 t)) := by
  show 3 ≤ t.val → _
  intro h
  rw [hI.2.2 h]
  unfold outVal2
  rw [pt_val]

set_option maxHeartbeats 12800000 in
/-- The body at the first point: the weights are prepared, the bias is spread and the first block is unpacked. -/
theorem sound_body_A (hO : Ok m) (c : Dev nD) (t : Fin (cfgM m hO).N) (h0 : t.val % 160 = 0) :
    bodyPre m hO c t ⊢ wp frame (wpE (defs₀ (F := Ideal)) Variants.none c none) Set.univ (bodyAt0 (adm m hO) t) (fun _ => bodyPost m hO c t) := by
  have ht : t.val < 160 := Nat.lt_of_lt_of_eq t.isLt N_0
  unfold bodyPre bodyPost bodyAt0 PhiI
  simp only [before0_0, before0_1, before0_2, before0_3, before0_4, before0_5, before0_6, before0_7]
  rw [after0_0, after0_1, after0_2, after0_3, after0_4, after0_5, after0_6, after0_7, PhiT0_eq]
  iintro ⟨⟨⟨⟨%d0, %d1, %d2, %d3, %d4, %d5, %d6, %d7, %hI, HS0, HS1, HS2, HS3, HS4, HS5, HS6, HS7⟩, Hg⟩, HT0⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%o8, -, H8⟩, ⟨%o9, -, H9⟩, ⟨%o10, -, H10⟩⟩
  iapply ((irunA (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (tbl m 0)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexists _; iexact HS0
  isplitl [HS1]; · iexists _; iexact HS1
  isplitl [HS2]; · iexists _; iexact HS2
  isplitl [HS3]; · iexists _; iexact HS3
  isplitl [HS4]; · iexists _; iexact HS4
  isplitl [HS5]; · iexists _; iexact HS5
  isplitl [HS6]; · iexists _; iexact HS6
  isplitl [HS7]; · iexists _; iexact HS7
  isplitl [HT0]; · iexact HT0
  iintro ⟨H0, H1, H2, H3, H4, H5, H6, H7, ⟨%o8', H8⟩, ⟨%o9', H9⟩, ⟨%o10', H10⟩, HS0, HS1, HS2, HS3, ⟨%d4', HS4⟩, ⟨%d5', HS5⟩, ⟨%d6', HS6⟩, ⟨%d7', HS7⟩, HT0⟩
  isplitl [HS0 HS1 HS2 HS3 HS4 HS5 HS6 HS7 Hg HT0]
  · isplitl [HS0 HS1 HS2 HS3 HS4 HS5 HS6 HS7 Hg]
    · isplitl [HS0 HS1 HS2 HS3 HS4 HS5 HS6 HS7]
      · iexists _, _, _, _, _, _, _, _
        isplitr
        · ipureintro; exact Inv_first m hO c t (by omega) d4' d5' d6' d7'
        isplitl [HS0]
        · iapply (owns_of_writes c scM0_0 _ _ (wA_cover c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) ((hcond0_0 t).mpr h0)) (wA_canon c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) ((hcond0_0 t).mpr h0)))
          iexact HS0
        isplitl [HS1]
        · iapply (owns_of_writes c scM0_1 _ _ (w2A_cover c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) ((hcond0_0 t).mpr h0)) (w2A_canon c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) ((hcond0_0 t).mpr h0)))
          iexact HS1
        isplitl [HS2]
        · iapply (owns_of_writes c scM0_2 _ _ (bA_cover c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) ((hcond0_0 t).mpr h0)) (bA_canon c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) ((hcond0_0 t).mpr h0)))
          iexact HS2
        isplitl [HS3]
        · iapply (owns_of_writes c scM0_3 _ _ (atA_cover c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) ((hcond0_0 t).mpr h0)) (atA_canon c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) ((hcond0_0 t).mpr h0)))
          iexact HS3
        isplitl [HS4]; · iexact HS4
        isplitl [HS5]; · iexact HS5
        isplitl [HS6]; · iexact HS6
        iexact HS7
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists o8'
    isplitr
    · ipureintro; exact fun h2 : 2 ≤ t.val => absurd h2 (by omega)
    iexact H8
  isplitl [H9]
  · iexists o9'
    isplitr
    · ipureintro; exact fun h2 : 2 ≤ t.val => absurd h2 (by omega)
    iexact H9
  iexists o10'
  isplitr
  · ipureintro; exact fun h2 : 3 ≤ t.val => absurd h2 (by omega)
  iexact H10

set_option maxHeartbeats 12800000 in
/-- The body at a later point: the blocks are unpacked, the products are taken and what the products before come to is written out. -/
theorem sound_body_B (hO : Ok m) (c : Dev nD) (t : Fin (cfgM m hO).N) (h0 : ¬t.val % 160 = 0) :
    bodyPre m hO c t ⊢ wp frame (wpE (defs₀ (F := Ideal)) Variants.none c none) Set.univ (bodyAt0 (adm m hO) t) (fun _ => bodyPost m hO c t) := by
  have ht : t.val < 160 := Nat.lt_of_lt_of_eq t.isLt N_0
  unfold bodyPre bodyPost bodyAt0 PhiI
  simp only [before0_0, before0_1, before0_2, before0_3, before0_4, before0_5, before0_6, before0_7]
  rw [after0_0, after0_1, after0_2, after0_3, after0_4, after0_5, after0_6, after0_7, PhiT0_eq]
  iintro ⟨⟨⟨⟨%d0, %d1, %d2, %d3, %d4, %d5, %d6, %d7, %hI, HS0, HS1, HS2, HS3, HS4, HS5, HS6, HS7⟩, Hg⟩, HT0⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%o8, -, H8⟩, ⟨%o9, -, H9⟩, ⟨%o10, -, H10⟩⟩
  iapply ((irunB (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (tbl m 0) d0 d1 d2 d3 d4 d6 d7).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  isplitl [HS5]; · iexists _; iexact HS5
  isplitl [HS6]; · iexact HS6
  isplitl [HS7]; · iexact HS7
  isplitl [HT0]; · iexact HT0
  iintro ⟨H0, H1, H2, H3, H4, H5, H6, H7, H8, H9, H10, HS0, HS1, HS2, HS3, HS4, ⟨%d5', HS5⟩, ⟨%d6', HS6⟩, HS7, HT0⟩
  isplitl [HS0 HS1 HS2 HS3 HS4 HS5 HS6 HS7 Hg HT0]
  · isplitl [HS0 HS1 HS2 HS3 HS4 HS5 HS6 HS7 Hg]
    · isplitl [HS0 HS1 HS2 HS3 HS4 HS5 HS6 HS7]
      · iexists _, _, _, _, _, _, _, _
        isplitr
        · ipureintro; exact Inv_next m hO c t (by omega) d0 d1 d2 d3 d4 d5 d6 d7 d5' d6' hI
        isplitl [HS0]; · iexact HS0
        isplitl [HS1]; · iexact HS1
        isplitl [HS2]; · iexact HS2
        isplitl [HS3]
        · iapply (owns_of_writes c scM0_3 _ _ (atB_cover c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) d0 d1 d2 d3 d4 d6 d7 (fun h => h0 ((hcond0_0 t).mp h))) (atB_canon c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) d0 d1 d2 d3 d4 d6 d7 (fun h => h0 ((hcond0_0 t).mp h))))
          iexact HS3
        isplitl [HS4]
        · iapply (owns_of_writes c scM0_4 _ _ (htB_cover c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) d0 d1 d2 d3 d4 d6 d7 (fun h => h0 ((hcond0_0 t).mp h))) (htB_canon c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) d0 d1 d2 d3 d4 d6 d7 (fun h => h0 ((hcond0_0 t).mp h))))
          iexact HS4
        isplitl [HS5]; · iexact HS5
        isplitl [HS6]; · iexact HS6
        iapply (owns_of_writes c scM0_7 _ _ (vtB_cover c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) d0 d1 d2 d3 d4 d6 d7 (fun h => h0 ((hcond0_0 t).mp h))) (vtB_canon c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) d0 d1 d2 d3 d4 d6 d7 (fun h => h0 ((hcond0_0 t).mp h))))
        iexact HS7
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _
    isplitr
    · ipureintro; exact out_next m hO c t d0 d1 d2 d3 d4 d5 d6 d7 hI
    iapply (owns_of_writes c (ms0_8 m hO t) _ _ (cB_cover c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) d0 d1 d2 d3 d4 d6 d7 (fun h => h0 ((hcond0_0 t).mp h))) (cB_canon c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) d0 d1 d2 d3 d4 d6 d7 (fun h => h0 ((hcond0_0 t).mp h))))
    iexact H8
  isplitl [H9]
  · iexists _
    isplitr
    · ipureintro; exact out1_next m hO c t d0 d1 d2 d3 d4 d5 d6 d7 hI
    iapply (owns_of_writes c (ms0_9 m hO t) _ _ (xB_cover c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) d0 d1 d2 d3 d4 d6 d7 (fun h => h0 ((hcond0_0 t).mp h))) (xB_canon c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) d0 d1 d2 d3 d4 d6 d7 (fun h => h0 ((hcond0_0 t).mp h))))
    iexact H9
  iexists _
  isplitr
  · ipureintro; exact out2_next m hO c t d0 d1 d2 d3 d4 d5 d6 d7 hI
  iapply (owns_of_writes c (ms0_10 m hO t) _ _ (vB_cover c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) d0 d1 d2 d3 d4 d6 d7 (fun h => h0 ((hcond0_0 t).mp h))) (vB_canon c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) d0 d1 d2 d3 d4 d6 d7 (fun h => h0 ((hcond0_0 t).mp h))))
  iexact H10

/-- The body at any point. -/
theorem sound_body (hO : Ok m) (c : Dev nD) (t : Fin (cfgM m hO).N) :
    bodyPre m hO c t ⊢ wp frame (wpE (defs₀ (F := Ideal)) Variants.none c none) Set.univ (bodyAt0 (adm m hO) t) (fun _ => bodyPost m hO c t) := by
  by_cases h0 : t.val % 160 = 0
  · exact sound_body_A m hO c t h0
  · exact sound_body_B m hO c t h0

/-- The body table's row at point `t`'s slots is the body as `bodyAt0` spells it. -/
theorem defs₀_row (hO : Ok m) (t : Fin (cfgM m hO).N) :
    defs₀ (F := Ideal) .tc (cfgM m hO).body ((cfgM m hO).bodyArgs t ((cfgM m hO).slots t)) = bodyAt0 (adm m hO) t := by
  unfold defs₀; rw [Defs.onTc_tc]

/-- The library's body obligation with the outputs held to their relation, at every point: the body's triple restated. -/
theorem body_obligation (hO : Ok m) (c : Dev nD) : Pipeline.BodyObligationRel (dats m hO 0 c) (defs₀ (F := Ideal)) Variants.none () Set.univ marked0 (RlI m hO c) := fun t => by
  rw [bigSep_W0, bigSep_W0, defs₀_row m hO]
  exact triple_restated (sound_body m hO c t) rfl .rfl fun _ => .rfl

/-- What the launch hands the region is the invariant before point 0. -/
theorem hin (hO : Ok m) (c : Dev nD) : iprop(Pipeline.ΦA spec0 c ∗ Pipeline.ΦT pre0 (tbl m) c) ⊢ (rdats m hO c).Φ 0 := by
  show _ ⊢ PhiI m hO c 0
  unfold PhiI
  rw [PhiA0_eq]
  iintro ⟨⟨⟨⟨%d0, HS0⟩, ⟨%d1, HS1⟩, ⟨%d2, HS2⟩, ⟨%d3, HS3⟩, ⟨%d4, HS4⟩, ⟨%d5, HS5⟩, ⟨%d6, HS6⟩, ⟨%d7, HS7⟩⟩, Hg⟩, HT⟩
  isplitl [HS0 HS1 HS2 HS3 HS4 HS5 HS6 HS7 Hg]
  · isplitl [HS0 HS1 HS2 HS3 HS4 HS5 HS6 HS7]
    · iexists d0, d1, d2, d3, d4, d5, d6, d7
      isplitr
      · ipureintro; exact ⟨fun h => absurd h (by omega), fun h => absurd h (by omega), fun h => absurd h (by omega)⟩
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    iexact Hg
  iexact HT

/-- After the last point the invariant gives the scratch and the generator register back. -/
theorem hout (hO : Ok m) (c : Dev nD) : (rdats m hO c).Φ (Fin.last (cfgM m hO).N) ⊢ Pipeline.ΦA spec0 c := by
  show PhiI m hO c _ ⊢ _
  unfold PhiI
  rw [PhiA0_eq]
  iintro ⟨⟨⟨%d0, %d1, %d2, %d3, %d4, %d5, %d6, %d7, -, HS0, HS1, HS2, HS3, HS4, HS5, HS6, HS7⟩, Hg⟩, -⟩
  isplitl [HS0 HS1 HS2 HS3 HS4 HS5 HS6 HS7]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7
  iexact Hg

/-! ## The run and the frame -/

set_option backward.isDefEq.respectTransparency.types false in
/-- The run: every execution terminates with the arrays at contents that the relational data admit and every semaphore at
    zero. -/
theorem run_main_quiescent (hO : Ok m) : θ_run defs (onTc (τ := τ) (main (F := Ideal))) (s₀ m ρ) (fun r => (Pipeline.RDat.FramePost ((Pipeline.pin pcfgs fun _ => adm m hO) 0) (rdats m hO) (V m)) r ∧ r.2.sem = fun _ => 0) :=
  Pipeline.RDat.θ_run_frameP_track (Q' := _) pcfgs (fun _ => adm m hO) (0 : Fin 1) launch0 defs₀ Variants.none (rdats m hO) m ρ main
    (hbody := fun c => (body_obligation m hO c).toRRel) (hshare := fun c => (dats m hO 0 c).share_full fun _ => rfl)
    (howed := fun _ _ => rfl) (V := V m) (hmain := hmain m Variants.none) (hA := A_eq m hO) (hpf := V_pre m) (hin := hin m hO) (hout := hout m hO)

/-- The run without the counters. -/
theorem run_main (hO : Ok m) : θ_run defs (onTc (τ := τ) (main (F := Ideal))) (s₀ m ρ) (Pipeline.RDat.FramePost ((Pipeline.pin pcfgs fun _ => adm m hO) 0) (rdats m hO) (V m)) :=
  (θ_run defs _ _).mono (fun _ h => h.1) (run_main_quiescent m ρ hO)

/-- `frame` without the counters: the argument arrays end unchanged. -/
theorem unchanged (hO : Ok m) : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (rdats m hO) (A_eq m hO) (run_main m ρ hO)

/-- THE FRAME: every execution terminates, the argument arrays end unchanged and every semaphore ends at zero, for every
    contents of the prefetched table under the side condition of it (`Ok`). -/
theorem frame (hO : Ok m) : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO) ((θ_run defs _ _).mono (fun _ h => h.2) (run_main_quiescent m ρ hO))

end Cert.KernelIdeal.Gen

end
-- ==== Proof.IDot.lean ====
/- The two products the kernel forms from the prepared weights and the unpacked blocks, as one sum each. -/
module

public import proofs.«01_k».proof.Proof.ISpec

@[expose] public section

set_option maxRecDepth 16384

noncomputable section

namespace Cert.KernelIdeal.Gen

open Idealize.ShloMosaic Idealize.ShloMosaic.TcCoe Idealize.ShloMosaic.Tactic

/-- The dequantised product of feature `d` and patch position `t` at row `n` of the codes. -/
def term {K : ℕ} (x : Vec Ideal S4096x896 .fp8e4m3) (e : Vec Ideal S128x896 .i8) (y : Vec Ideal ⟨2, ![4096, K]⟩ .fp8e4m3) (f : Vec Ideal ⟨2, ![128, K]⟩ .i8)
    (d : Fin 896) (t : Fin K) (n : Fin 4096) : EReal :=
  ((show EReal from x (ix2 n d)) * pow2 (e (ix2 (⟨n / 32, by omega⟩ : Fin 128) d)))
    * ((show EReal from y (ix2 n t)) * pow2 (f (ix2 (⟨n / 32, by omega⟩ : Fin 128) t)))

/-- The order of the packed words is a rearrangement of the rows of the codes. -/
def rowOrder : Fin 4096 ≃ Fin 4096 where
  toFun q := ⟨natRow (q / 2) (q % 2), natRow_lt (by omega)⟩
  invFun n := ⟨2 * (n / 1024 / 2 * 1024 + n % 1024) + (1 - n / 1024 % 2), by omega⟩
  left_inv q := by
    apply Fin.ext
    rcases Nat.mod_two_eq_zero_or_one q.val with h | h <;> simp only [natRow, h] <;> omega
  right_inv n := by
    apply Fin.ext
    rcases Nat.mod_two_eq_zero_or_one (n.val / 1024) with h | h
    · simp only [natRow, h]
      rw [show (2 * (n.val / 1024 / 2 * 1024 + n.val % 1024) + (1 - 0)) % 2 = 1 by omega,
        show (2 * (n.val / 1024 / 2 * 1024 + n.val % 1024) + (1 - 0)) / 2 = n.val / 1024 / 2 * 1024 + n.val % 1024 by omega]
      omega
    · simp only [natRow, h]
      rw [show (2 * (n.val / 1024 / 2 * 1024 + n.val % 1024) + (1 - 1)) % 2 = 0 by omega,
        show (2 * (n.val / 1024 / 2 * 1024 + n.val % 1024) + (1 - 1)) / 2 = n.val / 1024 / 2 * 1024 + n.val % 1024 by omega]
      omega

/-- The product of the prepared weights and an unpacked block, at an element: the sum over the rows of the codes, in
    their own order, of the products of the dequantised codes. -/
theorem dot1_apply (x : Vec Ideal S4096x896 .fp8e4m3) (e : Vec Ideal S128x896 .i8) (y : Vec Ideal S4096x256 .fp8e4m3) (f : Vec Ideal S128x256 .i8)
    (j : S896x256.Idx) :
    k0_pay1514 (F := Ideal) (prepared x e) (unpacked y f) j = ∑ n : Fin 4096, term x e y f (j 0) (j 1) n := by
  rw [← Equiv.sum_comp rowOrder]
  pointwise [k0_pay1514]
  refine Finset.sum_congr rfl fun q _ => ?_
  have hw : ∀ (k : Fin 2), (j 0 : ℕ) % 2 = k →
      prepared x e (ix3 (⟨(j 0 : ℕ) / 2, by have : (j 0 : ℕ) < 896 := (j 0).isLt; omega⟩ : Fin 448) k q)
      = (show EReal from x (ix2 (rowOrder q) (j 0))) * pow2 (e (ix2 (⟨rowOrder q / 32, by omega⟩ : Fin 128) (j 0))) := by
    intro k hk
    have hd : 2 * ((j 0 : ℕ) / 2) + (k : ℕ) = (j 0 : ℕ) := by omega
    exact congrArg (fun d : Fin 896 => (show EReal from x (ix2 (rowOrder q) d)) * pow2 (e (ix2 (⟨rowOrder q / 32, by omega⟩ : Fin 128) d)))
      (a₁ := ⟨2 * ((j 0 : ℕ) / 2) + (k : ℕ), by have : (j 0 : ℕ) < 896 := (j 0).isLt; omega⟩) (Fin.ext hd)
  have hx : ∀ (k : Fin 2), (q : ℕ) % 2 = k →
      unpacked y f (ix3 (⟨(q : ℕ) / 2, by omega⟩ : Fin 2048) k (j 1))
      = (show EReal from y (ix2 (rowOrder q) (j 1))) * pow2 (f (ix2 (⟨rowOrder q / 32, by omega⟩ : Fin 128) (j 1))) := by
    intro k hk
    exact congrArg (fun n : Fin 4096 => (show EReal from y (ix2 n (j 1))) * pow2 (f (ix2 (⟨n / 32, by omega⟩ : Fin 128) (j 1))))
      (a₁ := ⟨natRow (q / 2) k, natRow_lt (by omega)⟩) (a₂ := rowOrder q) (Fin.ext (by rw [← hk]; rfl))
  unfold term
  congr 1
  · split
    · exact hw 0 (by assumption)
    · exact hw 1 (by show _ = 1; omega)
  · split
    · exact hx 0 (by assumption)
    · exact hx 1 (by show _ = 1; omega)

/-- The product at row `n` of the second weights of hidden feature `n` at position `t` and output feature `d`. -/
def term2 {K : ℕ} (x : Vec Ideal S896x896 .fp8e4m3) (e : Vec Ideal S28x896 .i8) (g : Fin 896 → Fin K → EReal)
    (d : Fin 896) (t : Fin K) (n : Fin 896) : EReal :=
  ((show EReal from x (ix2 n d)) * pow2 (e (ix2 (⟨n / 32, by omega⟩ : Fin 28) d))) * deqOf g n t

theorem hidden_apply (g : Fin 896 → Fin 256 → EReal) (a : Fin 448) (k : Fin 2) (t : Fin 256) :
    hidden g (ix3 a k t) = deqOf g (⟨2 * (a : ℕ) + k, by omega⟩ : Fin 896) t := rfl

attribute [local irreducible] deqOf hidden

/-- The product of the prepared second weights and a dequantised hidden block, at an element. -/
theorem dot2_apply (x : Vec Ideal S896x896 .fp8e4m3) (e : Vec Ideal S28x896 .i8) (g : Fin 896 → Fin 256 → EReal)
    (j : S896x256.Idx) :
    k0_pay1512 (F := Ideal) (prepared2 x e) (hidden g) j = ∑ n : Fin 896, term2 x e g (j 0) (j 1) n := by
  pointwise [k0_pay1512]
  refine Finset.sum_congr rfl fun q _ => ?_
  have hw : ∀ (k : Fin 2), (j 0 : ℕ) % 2 = k →
      prepared2 x e (ix3 (⟨(j 0 : ℕ) / 2, by have : (j 0 : ℕ) < 896 := (j 0).isLt; omega⟩ : Fin 448) k q)
      = (show EReal from x (ix2 q (j 0))) * pow2 (e (ix2 (⟨q / 32, by omega⟩ : Fin 28) (j 0))) := by
    intro k hk
    have hd : 2 * ((j 0 : ℕ) / 2) + (k : ℕ) = (j 0 : ℕ) := by omega
    exact congrArg (fun d : Fin 896 => (show EReal from x (ix2 q d)) * pow2 (e (ix2 (⟨q / 32, by omega⟩ : Fin 28) d)))
      (a₁ := ⟨2 * ((j 0 : ℕ) / 2) + (k : ℕ), by have : (j 0 : ℕ) < 896 := (j 0).isLt; omega⟩) (Fin.ext hd)
  have hx : ∀ (k : Fin 2), (q : ℕ) % 2 = k →
      hidden g (ix3 (⟨(q : ℕ) / 2, by omega⟩ : Fin 448) k (j 1)) = deqOf g q (j 1) := by
    intro k hk
    refine (hidden_apply g _ k (j 1)).trans ?_
    exact congrArg (fun n : Fin 896 => deqOf g n (j 1)) (a₁ := ⟨2 * ((q : ℕ) / 2) + k, by omega⟩) (a₂ := q)
      (Fin.ext (by show 2 * ((q : ℕ) / 2) + k = q; omega))
  unfold term2
  congr 1
  · split
    · exact hw 0 (by assumption)
    · exact hw 1 (by show _ = 1; omega)
  · split
    · exact hx 0 (by assumption)
    · exact hx 1 (by show _ = 1; omega)

end Cert.KernelIdeal.Gen
-- ==== Proof.ITable.lean ====
/- The table the region prefetches: the image each step's blocks belong to, and the region's side condition on the table,
   from the precondition. -/
module

public import proofs.«01_k».proof.Proof.IBase
public import proofs.«01_k».proof.Proof.Pre

@[expose] public section

namespace Cert.KernelIdeal.Gen

open Idealize.ShloMosaic Idealize.ShloMosaic.TcCoe

variable {F : FTy → Type} [FloatOps F]

/-- The position in the image order that step `n` works on, `l` steps behind. -/
def lag (n l : ℕ) : Fin 156 := ⟨min (n - l) 155, by omega⟩

/-- The step's word clamped as the index maps clamp it, one step behind -/
theorem clamp1 : ∀ n : Fin 160, (Scalar.minsi 155#32 (Scalar.maxsi 0#32 (Scalar.subi (BitVec.ofNat 32 n.val) 1#32))).toNat = (lag n.val 1).val := by
  decide

/-- three -/
theorem clamp3 : ∀ n : Fin 160, (Scalar.minsi 155#32 (Scalar.maxsi 0#32 (Scalar.subi (BitVec.ofNat 32 n.val) 3#32))).toNat = (lag n.val 3).val := by
  decide

/-- and four. -/
theorem clamp4 : ∀ n : Fin 160, (Scalar.minsi 155#32 (Scalar.maxsi 0#32 (Scalar.subi (BitVec.ofNat 32 n.val) 4#32))).toNat = (lag n.val 4).val := by
  decide

/-- The one index of a unit rectangle in the sixth row of the table. -/
theorem first_emb (k : ℕ) (q : Fin 156) (hk : k = q.val) (h : ∀ a, (![5, k] : Fin 2 → ℕ) a + S1x1.size a ≤ S6x156.size a) (h1 : 0 < S1x1.numel) :
    (Rect.unit (s := S6x156) ![5, k] S1x1.size h).emb (Shape.Idx.first h1) = ix2 (5 : Fin 6) q := by
  subst hk
  have e : (Shape.Idx.first h1 : S1x1.Idx) = ix2 (0 : Fin 1) (0 : Fin 1) := by
    funext a; apply Fin.ext; have := (Shape.Idx.first h1 a).isLt; fin_cases a <;> simp_all
  rw [e]
  idx_ext

/-- The image a word of the table's sixth row names. -/
def image (pf : pre0.Contents (Elt F)) (q : Fin 156) : ℕ := (show BitVec 32 from pf 0 (ix2 (5 : Fin 6) q)).toNat

/-- The blocks of the codes, of their exponents and of the three results are those of the image the table names. -/
theorem transform_6_eq (pf : pre0.Contents (Elt F)) (i : grid0.Coords) :
    cc0_transform_6 k0_off1_inb numel1_S1x1 pf i = ![0, image pf (lag (i 0).val 1)] := by
  funext a
  fin_cases a
  · rfl
  · exact congrArg (fun x => (show BitVec 32 from pf 0 x).toNat) (first_emb _ _ (clamp1 (i 0)) _ _)
theorem transform_7_eq (pf : pre0.Contents (Elt F)) (i : grid0.Coords) :
    cc0_transform_7 k0_off1_inb numel1_S1x1 pf i = ![0, image pf (lag (i 0).val 1)] := by
  funext a
  fin_cases a
  · rfl
  · exact congrArg (fun x => (show BitVec 32 from pf 0 x).toNat) (first_emb _ _ (clamp1 (i 0)) _ _)
theorem transform_8_eq (pf : pre0.Contents (Elt F)) (i : grid0.Coords) :
    cc0_transform_8 k0_off1_inb numel1_S1x1 pf i = ![image pf (lag (i 0).val 3), 0] := by
  funext a
  fin_cases a
  · exact congrArg (fun x => (show BitVec 32 from pf 0 x).toNat) (first_emb _ _ (clamp3 (i 0)) _ _)
  · rfl
theorem transform_9_eq (pf : pre0.Contents (Elt F)) (i : grid0.Coords) :
    cc0_transform_9 k0_off1_inb numel1_S1x1 pf i = ![image pf (lag (i 0).val 3), 0] := by
  funext a
  fin_cases a
  · exact congrArg (fun x => (show BitVec 32 from pf 0 x).toNat) (first_emb _ _ (clamp3 (i 0)) _ _)
  · rfl
theorem transform_10_eq (pf : pre0.Contents (Elt F)) (i : grid0.Coords) :
    cc0_transform_10 k0_off1_inb numel1_S1x1 pf i = ![image pf (lag (i 0).val 4), 0] := by
  funext a
  fin_cases a
  · exact congrArg (fun x => (show BitVec 32 from pf 0 x).toNat) (first_emb _ _ (clamp4 (i 0)) _ _)
  · rfl

/-- A full-height block of a matrix at a block column is whole words. -/
theorem wholeWords_col {a b c : ℕ} (p k : ℕ) (h : ∀ x, (((![0, k] : Fin 2 → ℕ) x) + 1) * (⟨2, ![a, b]⟩ : Shape).size x ≤ (⟨2, ![a, c]⟩ : Shape).size x) :
    (Rect.block (s := ⟨2, ![a, c]⟩) (⟨2, ![a, b]⟩ : Shape).size ![0, k] h).WholeWords p :=
  .inr ⟨Nat.le_refl 2, rfl, Nat.zero_mul _, rfl⟩

/-- A full-width block of a matrix at a block row is whole words, the block's rows being so. -/
theorem wholeWords_row {a b c : ℕ} (p k : ℕ) (hp : p ∣ a) (h : ∀ x, (((![k, 0] : Fin 2 → ℕ) x) + 1) * (⟨2, ![a, b]⟩ : Shape).size x ≤ (⟨2, ![c, b]⟩ : Shape).size x) :
    (Rect.block (s := ⟨2, ![c, b]⟩) (⟨2, ![a, b]⟩ : Shape).size ![k, 0] h).WholeWords p :=
  .inl (.inr ⟨Nat.le_refl 2, rfl, .inl ⟨Dvd.dvd.mul_left hp k, hp⟩⟩)

/-- A table whose sixth row names images meets the region's side condition. -/
theorem ok_of_lt (pf : pre0.Contents (Elt F)) (h : ∀ q, image pf q < 156) : ok0 pf := by
  refine ⟨fun i => ?_, fun i => ?_, fun i => ?_, fun i => ?_, fun i => ?_⟩
  · rw [transform_6_eq]
    have := h (lag (i 0).val 1)
    exact ⟨fun a => by fin_cases a <;> simp <;> omega, .inr (wholeWords_col _ _ _)⟩
  · rw [transform_7_eq]
    have := h (lag (i 0).val 1)
    exact ⟨fun a => by fin_cases a <;> simp <;> omega, .inr (wholeWords_col _ _ _)⟩
  · rw [transform_8_eq]
    have := h (lag (i 0).val 3)
    exact ⟨fun a => by fin_cases a <;> simp <;> omega, .inr (wholeWords_row _ _ (by decide) _)⟩
  · rw [transform_9_eq]
    have := h (lag (i 0).val 3)
    exact ⟨fun a => by fin_cases a <;> simp <;> omega, .inr (wholeWords_row _ _ (by decide) _)⟩
  · rw [transform_10_eq]
    have := h (lag (i 0).val 4)
    exact ⟨fun a => by fin_cases a <;> simp <;> omega, .inl rfl⟩

/-- So does the launch memory's table, when the precondition holds of device 0's arguments. -/
theorem ok_of_placed (m : (ℓ : Loc nD τ sig) → Buf (Elt F) ℓ) {e1 e2 ea}
    (h : Cert.Pre_placed.Placed (m (((0 : Dev nD).tc : Thread nD τ).loc main_arg0)) e1 e2 ea) : Ok m :=
  ok_of_lt _ fun q => h.lt q

end Cert.KernelIdeal.Gen
-- ==== Proof.IArray.lean ====
/- The arrays the idealized kernel leaves: the blocks of the windows as columns and rows of the arrays, the points that write
   blocks back, and each result as one function of the arguments. -/
module

public import proofs.«01_k».proof.Proof.IFrame
public import proofs.«01_k».proof.Proof.IDot
public import proofs.«01_k».proof.Proof.ISpec2
public import proofs.«01_k».proof.Proof.ITable

@[expose] public section

set_option maxRecDepth 16384

noncomputable section

namespace Cert.KernelIdeal.Gen

open Idealize.ShloMosaic Idealize.ShloMosaic.TcCoe Idealize.ShloMosaic.Tactic Cert.Quant
open Idealize.SL Idealize.SL.RA Idealize.SL.Sem
open Idealize.ShloMosaic.Pipeline (Dat Cfg Window)

variable (m : (ℓ : Loc nD τ sig) → Buf (Elt Ideal) ℓ) (ρ : Dev nD → PrngReg)

/-! ## The blocks -/

/-- A point's grid coordinate is its number. -/
theorem coord_val (t : Fin grid0.N) : (grid0.coords t 0).val = t.val := by
  have e : (grid0.coords t 0).val = t.val / 1 % 160 := Pipeline.Grid.coords_val t 0 (by decide) rfl
  have ht : t.val < 160 := Nat.lt_of_lt_of_eq t.isLt N_0
  omega

/-- Which block each window is on. -/
theorem index_6 (hO : Ok m) (t : Fin (cfgM m hO).N) : ((cfgM m hO).win 6).index t = ![0, image (tbl m) (lag t.val 1)] :=
  (transform_6_eq (tbl m) (grid0.coords t)).trans (by rw [coord_val])
theorem index_7 (hO : Ok m) (t : Fin (cfgM m hO).N) : ((cfgM m hO).win 7).index t = ![0, image (tbl m) (lag t.val 1)] :=
  (transform_7_eq (tbl m) (grid0.coords t)).trans (by rw [coord_val])
theorem index_8 (hO : Ok m) (t : Fin (cfgM m hO).N) : ((cfgM m hO).win 8).index t = ![image (tbl m) (lag t.val 3), 0] :=
  (transform_8_eq (tbl m) (grid0.coords t)).trans (by rw [coord_val])
theorem index_9 (hO : Ok m) (t : Fin (cfgM m hO).N) : ((cfgM m hO).win 9).index t = ![image (tbl m) (lag t.val 3), 0] :=
  (transform_9_eq (tbl m) (grid0.coords t)).trans (by rw [coord_val])
theorem index_10 (hO : Ok m) (t : Fin (cfgM m hO).N) : ((cfgM m hO).win 10).index t = ![image (tbl m) (lag t.val 4), 0] :=
  (transform_10_eq (tbl m) (grid0.coords t)).trans (by rw [coord_val])

/-- The codes of both weights, their exponents and the biases are whole at every point. -/
theorem iblk_0 (hO : Ok m) (c : Dev nD) (t : Fin (cfgM m hO).N) (j : S4096x896.Idx) :
    iblk m hO c 0 t j = m ((c.tc : Thread nD τ).loc main_arg1) j :=
  congrArg (m ((c.tc : Thread nD τ).loc main_arg1)) (a₁ := (((cfgM m hO).win 0).rect t).emb j) (a₂ := j) (funext fun a => Fin.ext (
    match a with
    | ⟨0, _⟩ => (Pipeline.Window.rect_emb_val ((cfgM m hO).win 0) t j (0 : Fin 2)).trans (Nat.zero_add _)
    | ⟨1, _⟩ => (Pipeline.Window.rect_emb_val ((cfgM m hO).win 0) t j (1 : Fin 2)).trans (Nat.zero_add _)))
theorem iblk_1 (hO : Ok m) (c : Dev nD) (t : Fin (cfgM m hO).N) (j : S128x896.Idx) :
    iblk m hO c 1 t j = m ((c.tc : Thread nD τ).loc main_arg2) j :=
  congrArg (m ((c.tc : Thread nD τ).loc main_arg2)) (a₁ := (((cfgM m hO).win 1).rect t).emb j) (a₂ := j) (funext fun a => Fin.ext (
    match a with
    | ⟨0, _⟩ => (Pipeline.Window.rect_emb_val ((cfgM m hO).win 1) t j (0 : Fin 2)).trans (Nat.zero_add _)
    | ⟨1, _⟩ => (Pipeline.Window.rect_emb_val ((cfgM m hO).win 1) t j (1 : Fin 2)).trans (Nat.zero_add _)))
theorem iblk_2 (hO : Ok m) (c : Dev nD) (t : Fin (cfgM m hO).N) (j : S896x896.Idx) :
    iblk m hO c 2 t j = m ((c.tc : Thread nD τ).loc main_arg3) j :=
  congrArg (m ((c.tc : Thread nD τ).loc main_arg3)) (a₁ := (((cfgM m hO).win 2).rect t).emb j) (a₂ := j) (funext fun a => Fin.ext (
    match a with
    | ⟨0, _⟩ => (Pipeline.Window.rect_emb_val ((cfgM m hO).win 2) t j (0 : Fin 2)).trans (Nat.zero_add _)
    | ⟨1, _⟩ => (Pipeline.Window.rect_emb_val ((cfgM m hO).win 2) t j (1 : Fin 2)).trans (Nat.zero_add _)))
theorem iblk_3 (hO : Ok m) (c : Dev nD) (t : Fin (cfgM m hO).N) (j : S28x896.Idx) :
    iblk m hO c 3 t j = m ((c.tc : Thread nD τ).loc main_arg4) j :=
  congrArg (m ((c.tc : Thread nD τ).loc main_arg4)) (a₁ := (((cfgM m hO).win 3).rect t).emb j) (a₂ := j) (funext fun a => Fin.ext (
    match a with
    | ⟨0, _⟩ => (Pipeline.Window.rect_emb_val ((cfgM m hO).win 3) t j (0 : Fin 2)).trans (Nat.zero_add _)
    | ⟨1, _⟩ => (Pipeline.Window.rect_emb_val ((cfgM m hO).win 3) t j (1 : Fin 2)).trans (Nat.zero_add _)))
theorem iblk_4 (hO : Ok m) (c : Dev nD) (t : Fin (cfgM m hO).N) (j : S1x896.Idx) :
    iblk m hO c 4 t j = m ((c.tc : Thread nD τ).loc main_arg5) j :=
  congrArg (m ((c.tc : Thread nD τ).loc main_arg5)) (a₁ := (((cfgM m hO).win 4).rect t).emb j) (a₂ := j) (funext fun a => Fin.ext (
    match a with
    | ⟨0, _⟩ => (Pipeline.Window.rect_emb_val ((cfgM m hO).win 4) t j (0 : Fin 2)).trans (Nat.zero_add _)
    | ⟨1, _⟩ => (Pipeline.Window.rect_emb_val ((cfgM m hO).win 4) t j (1 : Fin 2)).trans (Nat.zero_add _)))
theorem iblk_5 (hO : Ok m) (c : Dev nD) (t : Fin (cfgM m hO).N) (j : S1x896.Idx) :
    iblk m hO c 5 t j = m ((c.tc : Thread nD τ).loc main_arg6) j :=
  congrArg (m ((c.tc : Thread nD τ).loc main_arg6)) (a₁ := (((cfgM m hO).win 5).rect t).emb j) (a₂ := j) (funext fun a => Fin.ext (
    match a with
    | ⟨0, _⟩ => (Pipeline.Window.rect_emb_val ((cfgM m hO).win 5) t j (0 : Fin 2)).trans (Nat.zero_add _)
    | ⟨1, _⟩ => (Pipeline.Window.rect_emb_val ((cfgM m hO).win 5) t j (1 : Fin 2)).trans (Nat.zero_add _)))

/-- The blocks of the codes and the exponents of the activations are the columns of the image they are on. -/
theorem iblk_6 (hO : Ok m) (c : Dev nD) (t : Fin (cfgM m hO).N) (j : S4096x256.Idx) (k : Fin 39936) (hk : image (tbl m) (lag t.val 1) * 256 + (j 1).val = k.val) :
    iblk m hO c 6 t j = m ((c.tc : Thread nD τ).loc main_arg7) (ix2 (j 0 : Fin 4096) k) :=
  congrArg (m ((c.tc : Thread nD τ).loc main_arg7)) (a₁ := (((cfgM m hO).win 6).rect t).emb j) (a₂ := ix2 (j 0 : Fin 4096) k) (funext fun a => Fin.ext (
    match a with
    | ⟨0, _⟩ => (Pipeline.Window.rect_emb_val ((cfgM m hO).win 6) t j (0 : Fin 2)).trans
        ((congrArg (fun n => n * 4096 + (j 0).val) (congrFun (index_6 m hO t) (0 : Fin 2))).trans (Nat.zero_add _))
    | ⟨1, _⟩ => (Pipeline.Window.rect_emb_val ((cfgM m hO).win 6) t j (1 : Fin 2)).trans
        ((congrArg (fun n => n * 256 + (j 1).val) (congrFun (index_6 m hO t) (1 : Fin 2))).trans hk)))
theorem iblk_7 (hO : Ok m) (c : Dev nD) (t : Fin (cfgM m hO).N) (j : S128x256.Idx) (k : Fin 39936) (hk : image (tbl m) (lag t.val 1) * 256 + (j 1).val = k.val) :
    iblk m hO c 7 t j = m ((c.tc : Thread nD τ).loc main_arg8) (ix2 (j 0 : Fin 128) k) :=
  congrArg (m ((c.tc : Thread nD τ).loc main_arg8)) (a₁ := (((cfgM m hO).win 7).rect t).emb j) (a₂ := ix2 (j 0 : Fin 128) k) (funext fun a => Fin.ext (
    match a with
    | ⟨0, _⟩ => (Pipeline.Window.rect_emb_val ((cfgM m hO).win 7) t j (0 : Fin 2)).trans
        ((congrArg (fun n => n * 128 + (j 0).val) (congrFun (index_7 m hO t) (0 : Fin 2))).trans (Nat.zero_add _))
    | ⟨1, _⟩ => (Pipeline.Window.rect_emb_val ((cfgM m hO).win 7) t j (1 : Fin 2)).trans
        ((congrArg (fun n => n * 256 + (j 1).val) (congrFun (index_7 m hO t) (1 : Fin 2))).trans hk)))

/-- The blocks of the results are the rows of the image they are on. -/
theorem emb_8 (hO : Ok m) (t : Fin (cfgM m hO).N) (j : S256x896.Idx) (k : Fin 39936) (hk : image (tbl m) (lag t.val 3) * 256 + (j 0).val = k.val) :
    (((cfgM m hO).win 8).rect t).emb j = ix2 k (j 1 : Fin 896) :=
  funext fun a => Fin.ext (
    match a with
    | ⟨0, _⟩ => (Pipeline.Window.rect_emb_val ((cfgM m hO).win 8) t j (0 : Fin 2)).trans
        ((congrArg (fun n => n * 256 + (j 0).val) (congrFun (index_8 m hO t) (0 : Fin 2))).trans hk)
    | ⟨1, _⟩ => (Pipeline.Window.rect_emb_val ((cfgM m hO).win 8) t j (1 : Fin 2)).trans
        ((congrArg (fun n => n * 896 + (j 1).val) (congrFun (index_8 m hO t) (1 : Fin 2))).trans (Nat.zero_add _)))
theorem emb_9 (hO : Ok m) (t : Fin (cfgM m hO).N) (j : S256x28.Idx) (k : Fin 39936) (hk : image (tbl m) (lag t.val 3) * 256 + (j 0).val = k.val) :
    (((cfgM m hO).win 9).rect t).emb j = ix2 k (j 1 : Fin 28) :=
  funext fun a => Fin.ext (
    match a with
    | ⟨0, _⟩ => (Pipeline.Window.rect_emb_val ((cfgM m hO).win 9) t j (0 : Fin 2)).trans
        ((congrArg (fun n => n * 256 + (j 0).val) (congrFun (index_9 m hO t) (0 : Fin 2))).trans hk)
    | ⟨1, _⟩ => (Pipeline.Window.rect_emb_val ((cfgM m hO).win 9) t j (1 : Fin 2)).trans
        ((congrArg (fun n => n * 28 + (j 1).val) (congrFun (index_9 m hO t) (1 : Fin 2))).trans (Nat.zero_add _)))
theorem emb_10 (hO : Ok m) (t : Fin (cfgM m hO).N) (j : S256x896.Idx) (k : Fin 39936) (hk : image (tbl m) (lag t.val 4) * 256 + (j 0).val = k.val) :
    (((cfgM m hO).win 10).rect t).emb j = ix2 k (j 1 : Fin 896) :=
  funext fun a => Fin.ext (
    match a with
    | ⟨0, _⟩ => (Pipeline.Window.rect_emb_val ((cfgM m hO).win 10) t j (0 : Fin 2)).trans
        ((congrArg (fun n => n * 256 + (j 0).val) (congrFun (index_10 m hO t) (0 : Fin 2))).trans hk)
    | ⟨1, _⟩ => (Pipeline.Window.rect_emb_val ((cfgM m hO).win 10) t j (1 : Fin 2)).trans
        ((congrArg (fun n => n * 896 + (j 1).val) (congrFun (index_10 m hO t) (1 : Fin 2))).trans (Nat.zero_add _)))

/-! ## What is written back -/

/-- The hidden features of the whole: the GELU of the first product of the dequantised codes with its bias. -/
def feats (c : Dev nD) (n : Fin 896) (t : Fin 39936) : EReal :=
  gelu1 ((∑ k : Fin 4096, term (m ((c.tc : Thread nD τ).loc main_arg1)) (m ((c.tc : Thread nD τ).loc main_arg2)) (m ((c.tc : Thread nD τ).loc main_arg7)) (m ((c.tc : Thread nD τ).loc main_arg8)) n t k)
    + (show EReal from m ((c.tc : Thread nD τ).loc main_arg5) (ix2 (0 : Fin 1) n)))

/-- The first result: their codes, -/
def result1 (c : Dev nD) : Vec Ideal S39936x896 .fp8e4m3 := fun i => codeOf (feats m c) (i 1 : Fin 896) (i 0 : Fin 39936)

/-- the second: the exponents of the codes' scales, -/
def result2 (c : Dev nD) : Vec Ideal S39936x28 .i8 := fun i => BitVec.setWidth 8 (expo (grp (feats m c) (i 1 : Fin 28) (i 0 : Fin 39936)))

/-- and the third: the second product, of the dequantised codes, with its bias, transposed. -/
def result3 (c : Dev nD) : Vec Ideal S39936x896 .f32 := fun i =>
  (∑ n : Fin 896, term2 (m ((c.tc : Thread nD τ).loc main_arg3)) (m ((c.tc : Thread nD τ).loc main_arg4)) (feats m c) (i 1) (i 0) n)
    + (show EReal from m ((c.tc : Thread nD τ).loc main_arg6) (ix2 (0 : Fin 1) (i 1 : Fin 896)))

/-- The groups, -/
theorem grp_congr {K K' : ℕ} {g : Fin 896 → Fin K → EReal} {g' : Fin 896 → Fin K' → EReal} {t : Fin K} {k : Fin K'} (h : ∀ d, g d t = g' d k) (q : Fin 28) :
    grp g q t = grp g' q k := congrArg amax (funext fun i => h _)

/-- the codes, -/
theorem codeOf_congr {K K' : ℕ} {g : Fin 896 → Fin K → EReal} {g' : Fin 896 → Fin K' → EReal} {t : Fin K} {k : Fin K'} (h : ∀ d, g d t = g' d k) (n : Fin 896) :
    codeOf g n t = codeOf g' n k := congrArg₂ code (grp_congr h _) (h n)

/-- and the dequantised codes at a position are functions of the features there. -/
theorem deqOf_congr {K K' : ℕ} {g : Fin 896 → Fin K → EReal} {g' : Fin 896 → Fin K' → EReal} {t : Fin K} {k : Fin K'} (h : ∀ d, g d t = g' d k) (n : Fin 896) :
    deqOf g n t = deqOf g' n k := congrArg₂ (fun a b : EReal => a * b) (codeOf_congr h n) (congrArg scale (grp_congr h _))

/-- The hidden features of a block are those of the whole at the columns of the image the block is on. -/
theorem Gm_apply (hO : Ok m) (c : Dev nD) (n : ℕ) (d : Fin 896) (t : Fin 256) (k : Fin 39936)
    (hk : image (tbl m) (lag (pt m hO n).val 1) * 256 + t.val = k.val) : Gm m hO c n d t = feats m c d k := by
  unfold Gm hid withBias feats
  refine congrArg gelu1 (congrArg₂ (fun a b : EReal => a + b) ?_ ?_)
  · refine (dot1_apply _ _ _ _ (ix2 d t)).trans (Finset.sum_congr rfl fun n _ => ?_)
    unfold term
    refine congrArg₂ (fun a b : EReal => a * b) (congrArg₂ (fun a b : EReal => a * b) ?_ (congrArg pow2 ?_)) (congrArg₂ (fun a b : EReal => a * b) ?_ (congrArg pow2 ?_))
    · exact iblk_0 m hO c _ _
    · exact iblk_1 m hO c _ _
    · exact iblk_6 m hO c _ _ k hk
    · exact iblk_7 m hO c _ _ k hk
  · exact iblk_4 m hO c (pt m hO 0) (ix2 (0 : Fin 1) d)

/-- The image whose features point `t` writes back is that of the point two before it, -/
theorem lag_two (hO : Ok m) (t : Fin (cfgM m hO).N) : lag (pt m hO (t.val - 2)).val 1 = lag t.val 3 := by
  have ht : t.val < 160 := Nat.lt_of_lt_of_eq t.isLt N_0
  apply Fin.ext
  show min ((t.val - 2) % 160 - 1) 155 = min (t.val - 3) 155
  omega

/-- and that whose second product it writes back is that of the point three before it. -/
theorem lag_three (hO : Ok m) (t : Fin (cfgM m hO).N) : lag (pt m hO (t.val - 3)).val 1 = lag t.val 4 := by
  have ht : t.val < 160 := Nat.lt_of_lt_of_eq t.isLt N_0
  apply Fin.ext
  show min ((t.val - 3) % 160 - 1) 155 = min (t.val - 4) 155
  omega

attribute [local irreducible] Gm feats codeOf deqOf grp

/-- What a point leaves in a result's block is the result's rows of the image the point is on: the codes, -/
theorem outVal_apply (hO : Ok m) (c : Dev nD) (t : Fin (cfgM m hO).N) (j : S256x896.Idx) (k : Fin 39936)
    (hk : image (tbl m) (lag t.val 3) * 256 + (j 0).val = k.val) :
    outVal m hO c t.val j = result1 m c (ix2 k (j 1 : Fin 896)) := by
  unfold outVal codesT result1
  exact codeOf_congr (fun d => Gm_apply m hO c _ d (j 0) k (by rw [lag_two]; exact hk)) (j 1)

/-- the exponents -/
theorem outVal1_apply (hO : Ok m) (c : Dev nD) (t : Fin (cfgM m hO).N) (j : S256x28.Idx) (k : Fin 39936)
    (hk : image (tbl m) (lag t.val 3) * 256 + (j 0).val = k.val) :
    outVal1 m hO c t.val j = result2 m c (ix2 k (j 1 : Fin 28)) := by
  unfold outVal1 exposT result2
  exact congrArg (fun M => BitVec.setWidth 8 (expo M)) (grp_congr (fun d => Gm_apply m hO c _ d (j 0) k (by rw [lag_two]; exact hk)) (j 1))

/-- and the second product. -/
theorem outVal2_apply (hO : Ok m) (c : Dev nD) (t : Fin (cfgM m hO).N) (j : S256x896.Idx) (k : Fin 39936)
    (hk : image (tbl m) (lag t.val 4) * 256 + (j 0).val = k.val) :
    outVal2 m hO c t.val j = result3 m c (ix2 k (j 1 : Fin 896)) := by
  unfold outVal2 turned
  refine congrArg₂ (fun a b : EReal => a + b) ?_ ?_
  · refine (dot2_apply _ _ _ (ix2 (j 1 : Fin 896) (j 0 : Fin 256))).trans (Finset.sum_congr rfl fun n _ => ?_)
    unfold term2
    refine congrArg₂ (fun a b : EReal => a * b) (congrArg₂ (fun a b : EReal => a * b) ?_ (congrArg pow2 ?_)) ?_
    · exact iblk_2 m hO c _ _
    · exact iblk_3 m hO c _ _
    · exact deqOf_congr (fun d => Gm_apply m hO c _ d (j 0) k (by rw [lag_three]; exact hk)) n
  · exact iblk_5 m hO c (pt m hO t.val) (ix2 (0 : Fin 1) (j 1 : Fin 896))

/-- When the codes' block is written back, -/
theorem flush_8 (hO : Ok m) (t : Fin (cfgM m hO).N) : ((cfgM m hO).win 8).flush t = true ↔ (t.val + 1 = 160 ∨ image (tbl m) (lag (t.val + 1) 3) ≠ image (tbl m) (lag t.val 3)) := by
  have hN : (cfgM m hO).grid.N = 160 := N_0
  have ht : t.val < 160 := Nat.lt_of_lt_of_eq t.isLt N_0
  have ho : ((cfgM m hO).win 8).isOut = true := rfl
  have hi : ∀ h : t.val + 1 < (cfgM m hO).grid.N, (((cfgM m hO).win 8).index ⟨t.val + 1, h⟩ ≠ ((cfgM m hO).win 8).index t) ↔ image (tbl m) (lag (t.val + 1) 3) ≠ image (tbl m) (lag t.val 3) := by
    intro h
    have e1 := index_8 m hO ⟨t.val + 1, h⟩
    have e2 := index_8 m hO t
    constructor
    · intro hne he; exact hne (e1.trans ((congrArg (fun n => (![n, 0] : Fin 2 → ℕ)) he).trans e2.symm))
    · intro hne he; exact hne (congrFun (e1.symm.trans (he.trans e2)) (0 : Fin 2))
  unfold Pipeline.Window.flush
  rw [ho, Bool.true_and, Bool.or_eq_true, decide_eq_true_iff, decide_eq_true_iff]
  constructor
  · rintro (h | ⟨h, hne⟩)
    · exact .inl (h.trans hN)
    · exact .inr ((hi _).mp hne)
  · rintro (h | hne)
    · exact .inl (h.trans hN.symm)
    · by_cases h : t.val + 1 = 160
      · exact .inl (h.trans hN.symm)
      · exact .inr ⟨by omega, (hi (by omega)).mpr hne⟩

/-- when the exponents', -/
theorem flush_9 (hO : Ok m) (t : Fin (cfgM m hO).N) : ((cfgM m hO).win 9).flush t = true ↔ (t.val + 1 = 160 ∨ image (tbl m) (lag (t.val + 1) 3) ≠ image (tbl m) (lag t.val 3)) := by
  have hN : (cfgM m hO).grid.N = 160 := N_0
  have ht : t.val < 160 := Nat.lt_of_lt_of_eq t.isLt N_0
  have ho : ((cfgM m hO).win 9).isOut = true := rfl
  have hi : ∀ h : t.val + 1 < (cfgM m hO).grid.N, (((cfgM m hO).win 9).index ⟨t.val + 1, h⟩ ≠ ((cfgM m hO).win 9).index t) ↔ image (tbl m) (lag (t.val + 1) 3) ≠ image (tbl m) (lag t.val 3) := by
    intro h
    have e1 := index_9 m hO ⟨t.val + 1, h⟩
    have e2 := index_9 m hO t
    constructor
    · intro hne he; exact hne (e1.trans ((congrArg (fun n => (![n, 0] : Fin 2 → ℕ)) he).trans e2.symm))
    · intro hne he; exact hne (congrFun (e1.symm.trans (he.trans e2)) (0 : Fin 2))
  unfold Pipeline.Window.flush
  rw [ho, Bool.true_and, Bool.or_eq_true, decide_eq_true_iff, decide_eq_true_iff]
  constructor
  · rintro (h | ⟨h, hne⟩)
    · exact .inl (h.trans hN)
    · exact .inr ((hi _).mp hne)
  · rintro (h | hne)
    · exact .inl (h.trans hN.symm)
    · by_cases h : t.val + 1 = 160
      · exact .inl (h.trans hN.symm)
      · exact .inr ⟨by omega, (hi (by omega)).mpr hne⟩

/-- and when the second product's. -/
theorem flush_10 (hO : Ok m) (t : Fin (cfgM m hO).N) : ((cfgM m hO).win 10).flush t = true ↔ (t.val + 1 = 160 ∨ image (tbl m) (lag (t.val + 1) 4) ≠ image (tbl m) (lag t.val 4)) := by
  have hN : (cfgM m hO).grid.N = 160 := N_0
  have ht : t.val < 160 := Nat.lt_of_lt_of_eq t.isLt N_0
  have ho : ((cfgM m hO).win 10).isOut = true := rfl
  have hi : ∀ h : t.val + 1 < (cfgM m hO).grid.N, (((cfgM m hO).win 10).index ⟨t.val + 1, h⟩ ≠ ((cfgM m hO).win 10).index t) ↔ image (tbl m) (lag (t.val + 1) 4) ≠ image (tbl m) (lag t.val 4) := by
    intro h
    have e1 := index_10 m hO ⟨t.val + 1, h⟩
    have e2 := index_10 m hO t
    constructor
    · intro hne he; exact hne (e1.trans ((congrArg (fun n => (![n, 0] : Fin 2 → ℕ)) he).trans e2.symm))
    · intro hne he; exact hne (congrFun (e1.symm.trans (he.trans e2)) (0 : Fin 2))
  unfold Pipeline.Window.flush
  rw [ho, Bool.true_and, Bool.or_eq_true, decide_eq_true_iff, decide_eq_true_iff]
  constructor
  · rintro (h | ⟨h, hne⟩)
    · exact .inl (h.trans hN)
    · exact .inr ((hi _).mp hne)
  · rintro (h | hne)
    · exact .inl (h.trans hN.symm)
    · by_cases h : t.val + 1 = 160
      · exact .inl (h.trans hN.symm)
      · exact .inr ⟨by omega, (hi (by omega)).mpr hne⟩

/-- The first points are on one block, so the first write-backs come after them. -/
theorem le_of_flush_8 (hO : Ok m) (t : Fin (cfgM m hO).N) (h : ((cfgM m hO).win 8).flush t = true) : 2 ≤ t.val := by
  rcases (flush_8 m hO t).mp h with h | h
  · omega
  · by_contra hlt
    refine h (congrArg _ (Fin.ext ?_))
    show min (t.val + 1 - 3) 155 = min (t.val - 3) 155
    omega

theorem le_of_flush_9 (hO : Ok m) (t : Fin (cfgM m hO).N) (h : ((cfgM m hO).win 9).flush t = true) : 2 ≤ t.val := by
  rcases (flush_9 m hO t).mp h with h | h
  · omega
  · by_contra hlt
    refine h (congrArg _ (Fin.ext ?_))
    show min (t.val + 1 - 3) 155 = min (t.val - 3) 155
    omega

theorem le_of_flush_10 (hO : Ok m) (t : Fin (cfgM m hO).N) (h : ((cfgM m hO).win 10).flush t = true) : 3 ≤ t.val := by
  rcases (flush_10 m hO t).mp h with h | h
  · omega
  · by_contra hlt
    refine h (congrArg _ (Fin.ext ?_))
    show min (t.val + 1 - 4) 155 = min (t.val - 4) 155
    omega

/-- The last point on an image's block, some steps behind: if every image is in the table, there is one at the last point of
    the grid or before a point that is on another image. -/
theorem last_point (hlt : ∀ q, image (tbl m) q < 156) (hit : ∀ k : Fin 156, ∃ q, image (tbl m) q = k.val) (l : ℕ) (hl : l ≤ 4) (k : Fin 156) :
    ∃ n : ℕ, n < 160 ∧ image (tbl m) (lag n l) = k.val ∧ (n + 1 = 160 ∨ image (tbl m) (lag (n + 1) l) ≠ image (tbl m) (lag n l)) := by
  have inj : Function.Injective fun q : Fin 156 => (⟨image (tbl m) q, hlt q⟩ : Fin 156) :=
    Finite.injective_iff_surjective.mpr fun k => (hit k).imp fun q hq => Fin.ext hq
  obtain ⟨q, hq⟩ := hit k
  obtain ⟨n, hn, e, hf⟩ : ∃ n : ℕ, n < 160 ∧ lag n l = q ∧ (n + 1 = 160 ∨ lag (n + 1) l ≠ q) := by
    by_cases h : q.val = 155
    · refine ⟨159, by omega, Fin.ext ?_, .inl rfl⟩
      show min (159 - l) 155 = q.val; omega
    · refine ⟨q.val + l, by omega, Fin.ext ?_, .inr fun he => ?_⟩
      · show min (q.val + l - l) 155 = q.val; omega
      · have : min (q.val + l + 1 - l) 155 = q.val := congrArg Fin.val he
        omega
  exact ⟨n, hn, by rw [e, hq], hf.imp id fun hne he => hne ((inj (Fin.ext he)).trans e)⟩

/-- Every row of each result is written back, if every image is in the table. -/
theorem covered_8 (hO : Ok m) (hlt : ∀ q, image (tbl m) q < 156) (hit : ∀ k : Fin 156, ∃ q, image (tbl m) q = k.val) (i : S39936x896.Idx) :
    ∃ t : Fin (cfgM m hO).N, ((cfgM m hO).win 8).flush t = true ∧ ∃ j : S256x896.Idx, (((cfgM m hO).win 8).rect t).emb j = i := by
  have hi0 : (i 0 : ℕ) < 39936 := (i 0).isLt
  obtain ⟨n, hn, he, hf⟩ := last_point m hlt hit 3 (by omega) ⟨(i 0 : ℕ) / 256, by omega⟩
  refine ⟨⟨n, Nat.lt_of_lt_of_eq hn N_0.symm⟩, (flush_8 m hO _).mpr hf, ix2 (⟨(i 0 : ℕ) % 256, Nat.mod_lt _ (by decide)⟩ : Fin 256) (i 1 : Fin 896), ?_⟩
  refine (emb_8 m hO _ _ (i 0 : Fin 39936) ?_).trans ?_
  · show image (tbl m) (lag n 3) * 256 + (i 0 : ℕ) % 256 = (i 0 : ℕ)
    rw [he]; show (i 0 : ℕ) / 256 * 256 + (i 0 : ℕ) % 256 = (i 0 : ℕ); omega
  · funext a
    match a with
    | ⟨0, _⟩ => rfl
    | ⟨1, _⟩ => rfl

theorem covered_9 (hO : Ok m) (hlt : ∀ q, image (tbl m) q < 156) (hit : ∀ k : Fin 156, ∃ q, image (tbl m) q = k.val) (i : S39936x28.Idx) :
    ∃ t : Fin (cfgM m hO).N, ((cfgM m hO).win 9).flush t = true ∧ ∃ j : S256x28.Idx, (((cfgM m hO).win 9).rect t).emb j = i := by
  have hi0 : (i 0 : ℕ) < 39936 := (i 0).isLt
  obtain ⟨n, hn, he, hf⟩ := last_point m hlt hit 3 (by omega) ⟨(i 0 : ℕ) / 256, by omega⟩
  refine ⟨⟨n, Nat.lt_of_lt_of_eq hn N_0.symm⟩, (flush_9 m hO _).mpr hf, ix2 (⟨(i 0 : ℕ) % 256, Nat.mod_lt _ (by decide)⟩ : Fin 256) (i 1 : Fin 28), ?_⟩
  refine (emb_9 m hO _ _ (i 0 : Fin 39936) ?_).trans ?_
  · show image (tbl m) (lag n 3) * 256 + (i 0 : ℕ) % 256 = (i 0 : ℕ)
    rw [he]; show (i 0 : ℕ) / 256 * 256 + (i 0 : ℕ) % 256 = (i 0 : ℕ); omega
  · funext a
    match a with
    | ⟨0, _⟩ => rfl
    | ⟨1, _⟩ => rfl

theorem covered_10 (hO : Ok m) (hlt : ∀ q, image (tbl m) q < 156) (hit : ∀ k : Fin 156, ∃ q, image (tbl m) q = k.val) (i : S39936x896.Idx) :
    ∃ t : Fin (cfgM m hO).N, ((cfgM m hO).win 10).flush t = true ∧ ∃ j : S256x896.Idx, (((cfgM m hO).win 10).rect t).emb j = i := by
  have hi0 : (i 0 : ℕ) < 39936 := (i 0).isLt
  obtain ⟨n, hn, he, hf⟩ := last_point m hlt hit 4 (by omega) ⟨(i 0 : ℕ) / 256, by omega⟩
  refine ⟨⟨n, Nat.lt_of_lt_of_eq hn N_0.symm⟩, (flush_10 m hO _).mpr hf, ix2 (⟨(i 0 : ℕ) % 256, Nat.mod_lt _ (by decide)⟩ : Fin 256) (i 1 : Fin 896), ?_⟩
  refine (emb_10 m hO _ _ (i 0 : Fin 39936) ?_).trans ?_
  · show image (tbl m) (lag n 4) * 256 + (i 0 : ℕ) % 256 = (i 0 : ℕ)
    rw [he]; show (i 0 : ℕ) / 256 * 256 + (i 0 : ℕ) % 256 = (i 0 : ℕ); omega
  · funext a
    match a with
    | ⟨0, _⟩ => rfl
    | ⟨1, _⟩ => rfl

/-- Whatever else they say, proof data that leave `outVal` in the codes' block at the points that write it back end with
    the first result in the array, -/
theorem arr_eq_8 (hO : Ok m) (hlt : ∀ q, image (tbl m) q < 156) (hit : ∀ k : Fin 156, ∃ q, image (tbl m) q = k.val) (c : Dev nD)
    (dat : Dat τ (Elt Ideal) Unit ℕ (UR sig nD τ) ℕ (cfgM m hO) c)
    (hX : ∀ t : Fin (cfgM m hO).N, ((cfgM m hO).win 8).flush t = true → dat.after 8 t = outVal m hO c t.val) :
    dat.arrAt 8 (cfgM m hO).N = result1 m c := by
  refine Dat.arrAt_eq_of_emb dat 8 (result1 m c) (fun t hf y => ?_) fun i => ?_
  · have hb : image (tbl m) (lag t.val 3) * 256 + (y (0 : Fin 2)).val < 39936 := by
      have h1 := hlt (lag t.val 3)
      have h2 : (y (0 : Fin 2)).val < 256 := (y (0 : Fin 2)).isLt
      omega
    refine (congrFun (hX t hf) y).trans ((outVal_apply m hO c t y ⟨_, hb⟩ rfl).trans ?_)
    exact congrArg (result1 m c) (emb_8 m hO t y ⟨_, hb⟩ rfl).symm
  · obtain ⟨t, hf, j, hj⟩ := covered_8 m hO hlt hit i
    refine ⟨t, hf, ?_⟩
    have := (((cfgM m hO).win 8).blk t).view.emb_mem_set j
    rw [← hj]
    exact this

/-- with the second result in its array, if they leave `outVal1` in its block, -/
theorem arr_eq_9 (hO : Ok m) (hlt : ∀ q, image (tbl m) q < 156) (hit : ∀ k : Fin 156, ∃ q, image (tbl m) q = k.val) (c : Dev nD)
    (dat : Dat τ (Elt Ideal) Unit ℕ (UR sig nD τ) ℕ (cfgM m hO) c)
    (hX : ∀ t : Fin (cfgM m hO).N, ((cfgM m hO).win 9).flush t = true → dat.after 9 t = outVal1 m hO c t.val) :
    dat.arrAt 9 (cfgM m hO).N = result2 m c := by
  refine Dat.arrAt_eq_of_emb dat 9 (result2 m c) (fun t hf y => ?_) fun i => ?_
  · have hb : image (tbl m) (lag t.val 3) * 256 + (y (0 : Fin 2)).val < 39936 := by
      have h1 := hlt (lag t.val 3)
      have h2 : (y (0 : Fin 2)).val < 256 := (y (0 : Fin 2)).isLt
      omega
    refine (congrFun (hX t hf) y).trans ((outVal1_apply m hO c t y ⟨_, hb⟩ rfl).trans ?_)
    exact congrArg (result2 m c) (emb_9 m hO t y ⟨_, hb⟩ rfl).symm
  · obtain ⟨t, hf, j, hj⟩ := covered_9 m hO hlt hit i
    refine ⟨t, hf, ?_⟩
    have := (((cfgM m hO).win 9).blk t).view.emb_mem_set j
    rw [← hj]
    exact this

/-- and with the third in its array, if they leave `outVal2` in its block. -/
theorem arr_eq_10 (hO : Ok m) (hlt : ∀ q, image (tbl m) q < 156) (hit : ∀ k : Fin 156, ∃ q, image (tbl m) q = k.val) (c : Dev nD)
    (dat : Dat τ (Elt Ideal) Unit ℕ (UR sig nD τ) ℕ (cfgM m hO) c)
    (hX : ∀ t : Fin (cfgM m hO).N, ((cfgM m hO).win 10).flush t = true → dat.after 10 t = outVal2 m hO c t.val) :
    dat.arrAt 10 (cfgM m hO).N = result3 m c := by
  refine Dat.arrAt_eq_of_emb dat 10 (result3 m c) (fun t hf y => ?_) fun i => ?_
  · have hb : image (tbl m) (lag t.val 4) * 256 + (y (0 : Fin 2)).val < 39936 := by
      have h1 := hlt (lag t.val 4)
      have h2 : (y (0 : Fin 2)).val < 256 := (y (0 : Fin 2)).isLt
      omega
    refine (congrFun (hX t hf) y).trans ((outVal2_apply m hO c t y ⟨_, hb⟩ rfl).trans ?_)
    exact congrArg (result3 m c) (emb_10 m hO t y ⟨_, hb⟩ rfl).symm
  · obtain ⟨t, hf, j, hj⟩ := covered_10 m hO hlt hit i
    refine ⟨t, hf, ?_⟩
    have := (((cfgM m hO).win 10).blk t).view.emb_mem_set j
    rw [← hj]
    exact this

/-- THE RUN's results: the arrays end at the codes and exponents of the hidden features and at the second product. -/
theorem run_result (hO : Ok m) (hlt : ∀ q, image (tbl m) q < 156) (hit : ∀ k : Fin 156, ∃ q, image (tbl m) q = k.val) :
    θ_run defs (onTc (τ := τ) (main (F := Ideal))) ⟨m, fun _ => 0, ρ⟩ (fun r => ∀ c : Dev nD,
      r.2.mem ((c.tc : Thread nD τ).loc main_v0_0) = result1 m c ∧ r.2.mem ((c.tc : Thread nD τ).loc main_v0_1) = result2 m c
      ∧ r.2.mem ((c.tc : Thread nD τ).loc main_v0_2) = result3 m c) := by
  refine (θ_run defs _ _).mono (fun r h c => ?_) (run_main m ρ hO)
  obtain ⟨after, hL, hA⟩ := Pipeline.RDat.FramePost.exists_exact h c
  exact ⟨(hA 8).trans (arr_eq_8 m hO hlt hit c ((rdats m hO c).withAfter after) fun t hf =>
      Dat.toRRel_leaves (dats m hO 0 c) (fgt := marked0) (Rl := RlI m hO c) (w := 8) rfl (hL 8 t hf) (le_of_flush_8 m hO t hf)),
    (hA 9).trans (arr_eq_9 m hO hlt hit c ((rdats m hO c).withAfter after) fun t hf =>
      Dat.toRRel_leaves (dats m hO 0 c) (fgt := marked0) (Rl := RlI m hO c) (w := 9) rfl (hL 9 t hf) (le_of_flush_9 m hO t hf)),
    (hA 10).trans (arr_eq_10 m hO hlt hit c ((rdats m hO c).withAfter after) fun t hf =>
      Dat.toRRel_leaves (dats m hO 0 c) (fgt := marked0) (Rl := RlI m hO c) (w := 10) rfl (hL 10 t hf) (le_of_flush_10 m hO t hf))⟩

end Cert.KernelIdeal.Gen

end
-- ==== Proof.RQuant.lean ====
/- The reference's quantiser, an element at a time: the exponent of a group of 32 features as a count of powers of two, and
   the codes and scales that come of it. -/
module

public import proofs.«01_k».proof.Proof.RRun
public import proofs.«01_k».proof.Proof.IPow

@[expose] public section

set_option maxRecDepth 16384

noncomputable section

namespace Cert.ReferenceIdeal.Gen

open Idealize.ShloMosaic Idealize.ShloMosaic.TcCoe Idealize.ShloMosaic.Tactic Cert.Quant

/-! ## Words and values -/

/-- A fold of `addi` over truth values is the number of those that hold. -/
theorem fold_count {ι : Type} (s : Finset ι) (p : ι → Prop) [DecidablePred p] :
    s.fold IntOp.addi 0#32 (fun k => BitVec.setWidth 32 (BitVec.ofBool (decide (p k)))) = BitVec.ofNat 32 (s.filter p).card := by
  classical
  refine Finset.induction_on s rfl fun a s ha ih => ?_
  rw [Finset.fold_insert ha, ih, Finset.filter_insert]
  by_cases h : p a
  · rw [if_pos h, Finset.card_insert_of_notMem (fun hm => ha (Finset.mem_filter.mp hm).1), decide_eq_true h, Nat.add_comm]
    exact (BitVec.ofNat_add 1 _).symm
  · rw [if_neg h, decide_eq_false h]
    exact BitVec.zero_add _

/-- The reference's exponent of a group whose largest absolute value is `M`, -/
def xexp (M : EReal) : BitVec 32 :=
  open Classical in if 0 < M then IntOp.subi (IntOp.subi (BitVec.ofNat 32 (cnt M)) 126#32) 9#32 else 0#32

/-- and the exponent of its scale. -/
def sexp (M : EReal) : BitVec 32 := IntOp.maxsi (xexp M) 4294967170#32

/-- The power of two of a word. -/
def powW (w : BitVec 32) : EReal := FloatOps.exp2 (F := Ideal) (φ := .f32) (FloatOps.sitofp (F := Ideal) FTy.f32 w)

/-- The words of a count. -/
theorem count_words : ∀ c : Fin 255,
    (IntOp.maxsi (IntOp.subi (IntOp.subi (BitVec.ofNat 32 c) 126#32) 9#32) 4294967170#32).toInt = ((max (c : ℕ) 9 : ℕ) : ℤ) - 135
    ∧ (IntOp.subi 0#32 (IntOp.maxsi (IntOp.subi (IntOp.subi (BitVec.ofNat 32 c) 126#32) 9#32) 4294967170#32)).toInt = 135 - ((max (c : ℕ) 9 : ℕ) : ℤ)
    ∧ IntOp.addi (IntOp.subi (IntOp.subi (BitVec.ofNat 32 c) 126#32) 9#32) 127#32 = IntOp.subi (BitVec.ofNat 32 c) 8#32 := by
  decide +kernel

theorem powW_eq (w : BitVec 32) (t : ℕ) (h : w.toInt = (t : ℤ) - 127) : powW w = p2 t := by
  show Ideal.exp2 ((w.toInt : ℝ) : EReal) = _
  rw [Ideal.exp2_coe, h]
  exact congrArg _ (Real.rpow_intCast 2 _)

/-- The exponent written out is the kernel's. -/
theorem xexp_word (M : EReal) : IntOp.addi (xexp M) 127#32 = expo M := by
  unfold xexp expo
  by_cases h : 0 < M
  · rw [if_pos h, if_pos h]
    exact (count_words ⟨cnt M, by have := cnt_le M; omega⟩).2.2
  · rw [if_neg h, if_neg h]; rfl

/-- A value whose absolute value is at most one that is not positive is zero. -/
theorem zero_of_le {x M : EReal} (hx : ab x ≤ M) (h : ¬ 0 < M) : x = 0 := by
  have h1 : max x (-x) ≤ 0 := le_trans hx (not_lt.mp h)
  obtain ⟨h2, h3⟩ := max_le_iff.mp h1
  refine le_antisymm h2 ?_
  have := EReal.neg_le_neg_iff.mpr h3
  simpa using this

theorem clip_zero : clip 0 = 0 := by
  unfold clip
  have h1 : Ideal.ofBits FTy.f32 0xC3E00000#32 ≤ 0 := by
    simp [Ideal.ofBits, Ideal.ieee]
    rw [← EReal.coe_mul, ← EReal.coe_zero, EReal.coe_le_coe_iff]
    positivity
  have h2 : (0 : EReal) ≤ Ideal.ofBits FTy.f32 0x43E00000#32 := by
    simp [Ideal.ofBits, Ideal.ieee]
    rw [← EReal.coe_mul, ← EReal.coe_zero, EReal.coe_le_coe_iff]
    positivity
  rw [max_eq_right h1, min_eq_right h2]

/-- The reference's code of a value is the kernel's, -/
theorem code_word {x M : EReal} (hx : ab x ≤ M) : clip (x * powW (IntOp.subi 0#32 (sexp M))) = code M x := by
  unfold code sexp xexp
  by_cases h : 0 < M
  · rw [if_pos h, powW_eq _ (262 - max (cnt M) 9)]
    have := cnt_le M
    have e := (count_words ⟨cnt M, by omega⟩).2.1
    simp only at e
    rw [e]
    omega
  · rw [zero_of_le hx h, zero_mul, zero_mul]

/-- and so is the dequantised code. -/
theorem deq_word {x M : EReal} (hx : ab x ≤ M) : code M x * powW (sexp M) = code M x * scale M := by
  by_cases h : 0 < M
  · unfold scale sexp xexp
    rw [if_pos h, powW_eq _ (max (cnt M) 9 - 8)]
    have := cnt_le M
    have e := (count_words ⟨cnt M, by omega⟩).1
    simp only at e
    rw [e]
    omega
  · have : code M x = 0 := by unfold code; rw [zero_of_le hx h, zero_mul, clip_zero]
    rw [this, zero_mul, zero_mul]

/-! ## The exponents -/

/-- The largest of the absolute values along the 32 features of a group. -/
def maxV (a : FVec Ideal S28x32x39936 .f32) : FVec Ideal S28x39936 .f32 :=
  multiReduction .maximumf [1] S28x39936 a 0xFF800000#32 reduces_S28x32x39936_S28x39936 (.inl rfl) rfl

/-- The powers of two. -/
def powV : FVec Ideal S254x28x39936 .f32 :=
  exp2 (subf (sitofp .f32 (iota .tc S254x28x39936 32 [0] iota_S254x28x39936_d0_w32)) (broadcast S254x28x39936 (Scalar.ofBits .f32 0x42FC0000#32)))

/-- A value beside every one of them. -/
def sprV (m : FVec Ideal S28x39936 .f32) : FVec Ideal S254x28x39936 .f32 :=
  broadcastTo S254x28x39936 (shapeCast S1x28x39936 m shapeCasts_S28x39936_S1x28x39936) broadcasts_S1x28x39936_S254x28x39936

/-- The sum of a count. -/
def sumV (v : IVec S254x28x39936 32) : IVec S28x39936 32 :=
  multiReductionI .add [0] S28x39936 v 0#32 reduces_S254x28x39936_S28x39936 rfl

theorem maxV_apply (a : FVec Ideal S28x32x39936 .f32) (q : Fin 28) (t : Fin 39936) :
    maxV a (ix2 q t) = Finset.fold max (Ideal.ofBits FTy.f32 4286578688#32) (fun x => (show EReal from a (ix3 q x t))) Finset.univ := by
  pointwise [maxV]

theorem powV_apply (k : Fin 254) (q : Fin 28) (t : Fin 39936) :
    powV (ix3 k q t) = FloatOps.exp2 (F := Ideal) (φ := .f32) ((show EReal from FloatOps.sitofp (F := Ideal) FTy.f32 (BitVec.ofNat 32 k)) - Ideal.ofBits FTy.f32 1123811328#32) := by
  pointwise [powV]

theorem sprV_apply (m : FVec Ideal S28x39936 .f32) (k : Fin 254) (q : Fin 28) (t : Fin 39936) :
    sprV m (ix3 k q t) = m (ix2 q t) := by
  pointwise [sprV]

theorem sumV_apply (v : IVec S254x28x39936 32) (q : Fin 28) (t : Fin 39936) :
    sumV v (ix2 q t) = Finset.fold IntOp.addi 0#32 (fun k => v (ix3 k q t)) Finset.univ := by
  pointwise [sumV]

/-- The exponent as the reference computes it. -/
theorem pay4_eq (a : FVec Ideal S28x32x39936 .f32) (q : Fin 28) (t : Fin 39936) :
    k0_pay4 a (ix2 q t) = (select (cmpf .ogt (maxV a) (broadcast S28x39936 (Scalar.ofBits .f32 0x00000000#32)))
      (subi (subi (sumV (extui 32 (cmpf .ole powV (sprV (maxV a))) natLt_1_32)) (broadcast S28x39936 126#32)) (broadcast S28x39936 9#32)) (broadcast S28x39936 0#32)) (ix2 q t) := rfl

/-- The largest absolute value of a group is that of its elements. -/
theorem maxV_eq (a : FVec Ideal S28x32x39936 .f32) (g : Fin 896 → Fin 39936 → EReal) (q : Fin 28) (t : Fin 39936)
    (ha : ∀ i : Fin 32, (show EReal from a (ix3 q i t)) = ab (g ⟨32 * q + i, by omega⟩ t)) :
    (show EReal from maxV a (ix2 q t)) = amax fun i : Fin 32 => g ⟨32 * q + i, by omega⟩ t := by
  refine (maxV_apply a q t).trans ?_
  have hb : Ideal.ofBits FTy.f32 4286578688#32 = ⊥ := by simp [Ideal.ofBits, Ideal.ieee]
  rw [hb]
  unfold amax Finset.sup
  exact Finset.fold_congr fun i _ => ha i

/-- The powers are those of biased exponent 1 to 254. -/
theorem powV_eq (k : Fin 254) (q : Fin 28) (t : Fin 39936) : (show EReal from powV (ix3 k q t)) = p2 ((k : ℕ) + 1) := by
  refine (powV_apply k q t).trans ?_
  have hk : ∀ k : Fin 254, (BitVec.ofNat 32 (k : ℕ)).toInt = ((k : ℕ) : ℤ) := by decide +kernel
  have hc : Ideal.ofBits FTy.f32 1123811328#32 = ((126 : ℝ) : EReal) := by
    simp [Ideal.ofBits, Ideal.ieee]
    rw [← EReal.coe_mul]
    norm_num
  rw [hc]
  show Ideal.exp2 ((((BitVec.ofNat 32 (k : ℕ)).toInt : ℝ) : EReal) - ((126 : ℝ) : EReal)) = _
  rw [hk, ← EReal.coe_sub, Ideal.exp2_coe]
  unfold p2
  rw [show (((k : ℕ) : ℤ) : ℝ) - 126 = ((((k : ℕ) + 1 : ℕ) : ℤ) - 127 : ℤ) by push_cast; ring]
  exact congrArg _ (Real.rpow_intCast 2 _)

/-- The count the reference takes. -/
theorem sumV_eq (M : FVec Ideal S28x39936 .f32) (q : Fin 28) (t : Fin 39936) :
    sumV (extui 32 (cmpf .ole powV (sprV M)) natLt_1_32) (ix2 q t) = BitVec.ofNat 32 (cnt (show EReal from M (ix2 q t))) := by
  classical
  refine (sumV_apply _ q t).trans ?_
  refine Eq.trans (Finset.fold_congr (g := fun k : Fin 254 => BitVec.setWidth 32 (BitVec.ofBool (decide (p2 ((k : ℕ) + 1) ≤ (show EReal from M (ix2 q t))))))
    fun k _ => ?_) (fold_count _ _)
  have e : (extui 32 (cmpf .ole powV (sprV M)) natLt_1_32) (ix3 k q t)
      = BitVec.setWidth 32 (BitVec.ofBool (decide ((show EReal from powV (ix3 k q t)) ≤ (show EReal from sprV M (ix3 k q t))))) := by
    pointwise
  rw [e, powV_eq, sprV_apply]

/-- The choice between the exponent of a group and zero. -/
theorem choice_apply (M : FVec Ideal S28x39936 .f32) (s : IVec S28x39936 32) (q : Fin 28) (t : Fin 39936) :
    (select (cmpf .ogt M (broadcast S28x39936 (Scalar.ofBits .f32 0x00000000#32)))
      (subi (subi s (broadcast S28x39936 126#32)) (broadcast S28x39936 9#32)) (broadcast S28x39936 0#32)) (ix2 q t)
    = open Classical in if 0 < (show EReal from M (ix2 q t)) then IntOp.subi (IntOp.subi (s (ix2 q t)) 126#32) 9#32 else 0#32 := by
  classical
  have h0 : (Ideal.ofBits FTy.f32 0x00000000#32 : EReal) = 0 := by simp [Ideal.ofBits, Ideal.ieee]
  show Scalar.select (BitVec.ofBool (decide (Ideal.ofBits FTy.f32 0x00000000#32 < (show EReal from M (ix2 q t)))))
    (IntOp.subi (IntOp.subi (s (ix2 q t)) 126#32) 9#32) 0#32 = _
  rw [h0]
  by_cases h : 0 < (show EReal from M (ix2 q t))
  · rw [if_pos h, decide_eq_true h]; rfl
  · rw [if_neg h, decide_eq_false h]; rfl

/-- The exponent of a group. -/
theorem pay4_apply (a : FVec Ideal S28x32x39936 .f32) (g : Fin 896 → Fin 39936 → EReal) (q : Fin 28) (t : Fin 39936)
    (ha : ∀ i : Fin 32, (show EReal from a (ix3 q i t)) = ab (g ⟨32 * q + i, by omega⟩ t)) :
    k0_pay4 a (ix2 q t) = xexp (amax fun i : Fin 32 => g ⟨32 * q + i, by omega⟩ t) := by
  rw [← maxV_eq a g q t ha]
  refine (pay4_eq a q t).trans ((choice_apply (maxV a) _ q t).trans ?_)
  rw [sumV_eq]
  rfl

end Cert.ReferenceIdeal.Gen

end
-- ==== Proof.RefVal.lean ====
/- The reference's results at an element: the codes and exponents of the GELU of the first product, and the second product of
   the dequantised codes with its bias. -/
module

public import proofs.«01_k».proof.Proof.RQuant
public import proofs.«01_k».proof.Proof.IDot
public import proofs.«01_k».proof.Proof.ISpec2
public import proofs.«01_k».proof.Proof.Pre

@[expose] public section

set_option maxRecDepth 16384

noncomputable section

namespace Cert.ReferenceIdeal.Gen

open Idealize.ShloMosaic Idealize.ShloMosaic.TcCoe Idealize.ShloMosaic.Tactic Cert.Quant
open Cert.KernelIdeal.Gen (pow2 term term2 gelu1 grp codeOf deqOf)

/-- The fields of an exponent byte shifted into a word's exponent field, and the byte less the bias. -/
theorem exponent_fields : ∀ e : BitVec 8,
    ((IntOp.shli ArithUnit.vector (BitVec.setWidth 32 e) 23#32).extractLsb' 31 1 == 1#1) = false
    ∧ ((IntOp.shli ArithUnit.vector (BitVec.setWidth 32 e) 23#32).extractLsb' 23 8).toNat = e.toNat
    ∧ ((IntOp.shli ArithUnit.vector (BitVec.setWidth 32 e) 23#32).extractLsb' 0 23).toNat = 0
    ∧ (IntOp.subi (BitVec.setWidth 32 e) 127#32).toInt = (e.toNat : ℤ) - 127 := by
  decide +kernel

/-- The scale the kernel forms of an exponent byte other than the two reserved ones is the power of two the reference
    takes. -/
theorem pow2_eq (e : BitVec 8) (h : 0 < e.toNat ∧ e.toNat < 255) :
    pow2 e = FloatOps.exp2 (F := Ideal) (φ := .f32) (FloatOps.sitofp (F := Ideal) FTy.f32 (IntOp.subi (BitVec.setWidth 32 e) 127#32)) := by
  obtain ⟨hs, he, hf, hi⟩ := exponent_fields e
  refine (ieee_pow _ e.toNat hs he hf h).trans ?_
  show _ = Ideal.exp2 (((IntOp.subi (BitVec.setWidth 32 e) 127#32).toInt : ℝ) : EReal)
  rw [Ideal.exp2_coe, hi]
  exact congrArg _ (Real.rpow_intCast 2 _).symm

/-- The hidden features: the GELU of the first product of the dequantised codes with its bias. -/
def feat (x : Vec Ideal S4096x896 .fp8e4m3) (e : Vec Ideal S128x896 .i8) (b : Vec Ideal S1x896 .f32) (y : Vec Ideal S4096x39936 .fp8e4m3)
    (f : Vec Ideal S128x39936 .i8) (n : Fin 896) (t : Fin 39936) : EReal :=
  gelu1 ((∑ k : Fin 4096, term x e y f n t k) + (show EReal from b (ix2 (0 : Fin 1) n)))

/-- They are the reference's. -/
theorem pay2_apply (x : Vec Ideal S4096x896 .fp8e4m3) (e : Vec Ideal S128x896 .i8) (y : Vec Ideal S4096x39936 .fp8e4m3) (f : Vec Ideal S128x39936 .i8)
    (b : Vec Ideal S1x896 .f32) (he : ∀ j, 0 < (e j).toNat ∧ (e j).toNat < 255) (hf : ∀ j, 0 < (f j).toNat ∧ (f j).toNat < 255)
    (q : Fin 28) (i : Fin 32) (t : Fin 39936) :
    (show EReal from k0_pay2 (F := Ideal) x e y f b (ix3 q i t)) = feat x e b y f ⟨32 * q + i, by omega⟩ t := by
  unfold feat
  have hb : (q : ℕ) * 32 + i < 896 := by omega
  generalize hd : (⟨32 * (q : ℕ) + i, by omega⟩ : Fin 896) = d
  have hs : (∑ n : Fin 4096, term x e y f d t n)
      = ∑ n : Fin 4096, ((show EReal from x (ix2 n d)) * FloatOps.exp2 (F := Ideal) (φ := .f32) (FloatOps.sitofp (F := Ideal) FTy.f32 (IntOp.subi (BitVec.setWidth 32 (e (ix2 (⟨n / 32, by omega⟩ : Fin 128) d))) 127#32)))
        * ((show EReal from y (ix2 n t)) * FloatOps.exp2 (F := Ideal) (φ := .f32) (FloatOps.sitofp (F := Ideal) FTy.f32 (IntOp.subi (BitVec.setWidth 32 (f (ix2 (⟨n / 32, by omega⟩ : Fin 128) t))) 127#32))) := by
    refine Finset.sum_congr rfl fun n _ => ?_
    unfold term
    rw [pow2_eq _ (he _), pow2_eq _ (hf _)]
  rw [hs]
  unfold gelu1
  rw [mul_assoc, mul_comm]
  obtain rfl : d = ⟨(q : ℕ) * 32 + i, hb⟩ := by rw [← hd]; exact Fin.ext (by show 32 * (q : ℕ) + i = q * 32 + i; omega)
  pointwise [k0_pay2]
  rfl

/-- The exponent of the scale of a group. -/
theorem pay5_apply (a : FVec Ideal S28x32x39936 .f32) (q : Fin 28) (t : Fin 39936) :
    k0_pay5 a (ix2 q t) = IntOp.maxsi (k0_pay4 a (ix2 q t)) 4294967170#32 := rfl

/-- The code of a feature, by the exponent of its scale. -/
theorem pay6_apply (v a : FVec Ideal S28x32x39936 .f32) (n : Fin 896) (t : Fin 39936) :
    (show EReal from k0_pay6 v a (ix2 n t))
      = clip ((show EReal from v (ix3 (⟨n / 32, by omega⟩ : Fin 28) (⟨n % 32, Nat.mod_lt _ (by decide)⟩ : Fin 32) t))
          * powW (IntOp.subi 0#32 (k0_pay5 a (ix2 (⟨n / 32, by omega⟩ : Fin 28) t)))) := by
  unfold clip powW
  pointwise [k0_pay6]

section groups

variable (v a : FVec Ideal S28x32x39936 .f32) (g : Fin 896 → Fin 39936 → EReal)
variable (hv : ∀ (q : Fin 28) (i : Fin 32) (t : Fin 39936), (show EReal from v (ix3 q i t)) = g ⟨32 * q + i, by omega⟩ t)
variable (ha : ∀ (q : Fin 28) (i : Fin 32) (t : Fin 39936), (show EReal from a (ix3 q i t)) = ab (g ⟨32 * q + i, by omega⟩ t))

/-- A feature is no larger than the largest of its group. -/
theorem ab_le_grp (n : Fin 896) (t : Fin 39936) : ab (g n t) ≤ grp g ⟨n / 32, by omega⟩ t := by
  have h := Finset.le_sup (f := fun i : Fin 32 => ab (g ⟨32 * (n / 32 : ℕ) + i, by omega⟩ t)) (Finset.mem_univ (⟨n % 32, Nat.mod_lt _ (by decide)⟩ : Fin 32))
  have e : (⟨32 * (n / 32 : ℕ) + n % 32, by omega⟩ : Fin 896) = n := Fin.ext (Nat.div_add_mod _ _)
  simp only [e] at h
  exact h

include ha in
theorem pay5_eq (q : Fin 28) (t : Fin 39936) : k0_pay5 a (ix2 q t) = sexp (grp g q t) := by
  rw [pay5_apply, pay4_apply a g q t (fun i => ha q i t)]
  rfl

include hv ha in
/-- The codes are those of the groups. -/
theorem pay6_eq (n : Fin 896) (t : Fin 39936) : (show EReal from k0_pay6 v a (ix2 n t)) = codeOf g n t := by
  rw [pay6_apply, pay5_eq a g ha, hv]
  have e : (⟨32 * (n / 32 : ℕ) + n % 32, by omega⟩ : Fin 896) = n := Fin.ext (Nat.div_add_mod _ _)
  simp only [e]
  exact code_word (ab_le_grp g n t)

include hv ha in
/-- The first result. -/
theorem pay7_eq (j : S39936x896.Idx) : (show EReal from k0_pay7 v a j) = codeOf g (j 1) (j 0) := by
  refine Eq.trans ?_ (pay6_eq v a g hv ha (j 1) (j 0))
  pointwise [k0_pay7]

include ha in
/-- The second. -/
theorem pay8_eq (j : S39936x28.Idx) : k0_pay8 a j = BitVec.setWidth 8 (expo (grp g (j 1) (j 0))) := by
  rw [← xexp_word]
  have h := pay4_apply a g (j 1) (j 0) (fun i => ha (j 1) i (j 0))
  refine Eq.trans ?_ (congrArg (fun w => BitVec.setWidth 8 (IntOp.addi w 127#32)) h)
  pointwise [k0_pay8]

/-- The second product at a position and an output feature. -/
theorem pay1_apply (w : IVec S28x39936 32) (h : FVec Ideal S896x39936 .fp8e4m3) (x : Vec Ideal S896x896 .fp8e4m3) (e : Vec Ideal S28x896 .i8)
    (b : Vec Ideal S1x896 .f32) (j : S39936x896.Idx) :
    (show EReal from k0_pay1 (F := Ideal) w h x e b j)
      = (∑ n : Fin 896, ((show EReal from h (ix2 n (j 0 : Fin 39936))) * powW (w (ix2 (⟨n / 32, by omega⟩ : Fin 28) (j 0 : Fin 39936))))
          * ((show EReal from x (ix2 n (j 1 : Fin 896)))
            * FloatOps.exp2 (F := Ideal) (φ := .f32) (FloatOps.sitofp (F := Ideal) FTy.f32 (IntOp.subi (BitVec.setWidth 32 (e (ix2 (⟨n / 32, by omega⟩ : Fin 28) (j 1 : Fin 896)))) 127#32))))
        + (show EReal from b (ix2 (0 : Fin 1) (j 1 : Fin 896))) := by
  unfold powW
  pointwise [k0_pay1]

include hv ha in
/-- The third result. -/
theorem pay1_eq (x : Vec Ideal S896x896 .fp8e4m3) (e : Vec Ideal S28x896 .i8) (b : Vec Ideal S1x896 .f32)
    (he : ∀ j, 0 < (e j).toNat ∧ (e j).toNat < 255) (j : S39936x896.Idx) :
    (show EReal from k0_pay1 (F := Ideal) (k0_pay5 a) (k0_pay6 v a) x e b j)
      = (∑ n : Fin 896, term2 x e g (j 1) (j 0) n) + (show EReal from b (ix2 (0 : Fin 1) (j 1 : Fin 896))) := by
  refine (pay1_apply _ _ x e b j).trans (congrArg₂ (fun a b : EReal => a + b) (Finset.sum_congr rfl fun n _ => ?_) rfl)
  have h6 := pay6_eq v a g hv ha n (j 0)
  have h5 := pay5_eq a g ha ⟨n / 32, by omega⟩ (j 0)
  unfold term2
  rw [pow2_eq _ (he _), mul_comm]
  refine congrArg₂ (fun a b : EReal => a * b) rfl ?_
  refine (congrArg₂ (fun (a : EReal) (b : BitVec 32) => a * powW b) h6 h5).trans ?_
  exact deq_word (ab_le_grp g n (j 0))

end groups

section results

variable (w1c : Vec Ideal S4096x896 .fp8e4m3) (w1e : Vec Ideal S128x896 .i8) (w2c : Vec Ideal S896x896 .fp8e4m3) (w2e : Vec Ideal S28x896 .i8)
  (b1 b2 : Vec Ideal S1x896 .f32) (ac : Vec Ideal S4096x39936 .fp8e4m3) (ae : Vec Ideal S128x39936 .i8)
variable (h1 : ∀ j, 0 < (w1e j).toNat ∧ (w1e j).toNat < 255) (ha : ∀ j, 0 < (ae j).toNat ∧ (ae j).toNat < 255)

theorem pay9_eq : k0_pay9 (F := Ideal) w1c w1e w2c w2e b1 b2 ac ae = k0_pay2 w1c w1e ac ae b1 := by
  unfold k0_pay9
  rw [View.ld_unit_zero (S := S4096x896) Run.hz _ w1c, View.ld_unit_zero (S := S128x896) Run.hz _ w1e, View.ld_unit_zero (S := S4096x39936) Run.hz _ ac,
    View.ld_unit_zero (S := S128x39936) Run.hz _ ae, View.ld_unit_zero (S := S1x896) Run.hz _ b1]

theorem pay10_eq : k0_pay10 (F := Ideal) w1c w1e w2c w2e b1 b2 ac ae = k0_pay3 w1c w1e ac ae b1 := by
  unfold k0_pay10
  rw [View.ld_unit_zero (S := S4096x896) Run.hz _ w1c, View.ld_unit_zero (S := S128x896) Run.hz _ w1e, View.ld_unit_zero (S := S4096x39936) Run.hz _ ac,
    View.ld_unit_zero (S := S128x39936) Run.hz _ ae, View.ld_unit_zero (S := S1x896) Run.hz _ b1]

include h1 ha in
theorem pay9_apply (q : Fin 28) (i : Fin 32) (t : Fin 39936) :
    (show EReal from k0_pay9 (F := Ideal) w1c w1e w2c w2e b1 b2 ac ae (ix3 q i t)) = feat w1c w1e b1 ac ae ⟨32 * q + i, by omega⟩ t := by
  rw [pay9_eq]
  exact pay2_apply w1c w1e ac ae b1 h1 ha q i t

include h1 ha in
theorem pay10_apply (q : Fin 28) (i : Fin 32) (t : Fin 39936) :
    (show EReal from k0_pay10 (F := Ideal) w1c w1e w2c w2e b1 b2 ac ae (ix3 q i t)) = ab (feat w1c w1e b1 ac ae ⟨32 * q + i, by omega⟩ t) := by
  rw [pay10_eq]
  exact congrArg ab (pay2_apply w1c w1e ac ae b1 h1 ha q i t)

include h1 ha in
/-- The codes of the hidden features, -/
theorem ref1_apply (j : S39936x896.Idx) :
    (show EReal from Run.G8 w1c w1e w2c w2e b1 b2 ac ae j) = codeOf (feat w1c w1e b1 ac ae) (j 1) (j 0) :=
  pay7_eq _ _ _ (pay9_apply w1c w1e w2c w2e b1 b2 ac ae h1 ha) (pay10_apply w1c w1e w2c w2e b1 b2 ac ae h1 ha) j

include h1 ha in
/-- their exponents, -/
theorem ref2_apply (j : S39936x28.Idx) :
    Run.G9 w1c w1e w2c w2e b1 b2 ac ae j = BitVec.setWidth 8 (expo (grp (feat w1c w1e b1 ac ae) (j 1) (j 0))) :=
  pay8_eq _ _ (pay10_apply w1c w1e w2c w2e b1 b2 ac ae h1 ha) j

include h1 ha in
/-- and the second product of the dequantised codes with its bias. -/
theorem ref3_apply (h2 : ∀ j, 0 < (w2e j).toNat ∧ (w2e j).toNat < 255) (j : S39936x896.Idx) :
    (show EReal from Run.G10 w1c w1e w2c w2e b1 b2 ac ae j)
      = (∑ n : Fin 896, term2 w2c w2e (feat w1c w1e b1 ac ae) (j 1) (j 0) n) + (show EReal from b2 (ix2 (0 : Fin 1) (j 1 : Fin 896))) :=
  pay1_eq _ _ _ (pay9_apply w1c w1e w2c w2e b1 b2 ac ae h1 ha) (pay10_apply w1c w1e w2c w2e b1 b2 ac ae h1 ha) w2c w2e b2 h2 j

end results

end Cert.ReferenceIdeal.Gen

end
-- ==== Proof.lean ====
/- The claims of the certificate: the frames of the kernel, of the idealized kernel and of the reference, that
   idealizing the kernel preserves its meaning, and that the idealized kernel computes the reference's result. -/
module

public import proofs.«01_k».proof.Defs
public import proofs.«01_k».proof.Proof.Gen.Pre_placed
public import proofs.«01_k».proof.Proof.RRun
public import proofs.«01_k».proof.Proof.KFrame
public import proofs.«01_k».proof.Proof.KTable
public import proofs.«01_k».proof.Proof.IFrame
public import proofs.«01_k».proof.Proof.IArray
public import proofs.«01_k».proof.Proof.RefVal
public import Idealize.ShloMosaic.Lib.Bf16PairInverse

@[expose] public section

noncomputable section

namespace Cert.Proof

open Idealize.ShloMosaic Idealize.ShloMosaic.TcCoe Idealize.SL.Sem

/-- The reference's codes are the idealized kernel's, for exponents other than the two reserved ones, -/
theorem reference_eq1 (m : (ℓ : Loc Cert.KernelIdeal.nD Cert.KernelIdeal.τ Cert.KernelIdeal.sig) → Buf (Elt Ideal) ℓ) (c : Dev Cert.KernelIdeal.nD)
    {t : IVec Cert.Pre_placed.S6x156 32}
    (h : Cert.Pre_placed.Placed t (m ((c.tc : Thread Cert.KernelIdeal.nD Cert.KernelIdeal.τ).loc Cert.KernelIdeal.main_arg2)) (m ((c.tc : Thread Cert.KernelIdeal.nD Cert.KernelIdeal.τ).loc Cert.KernelIdeal.main_arg4))
      (m ((c.tc : Thread Cert.KernelIdeal.nD Cert.KernelIdeal.τ).loc Cert.KernelIdeal.main_arg8))) :
    Cert.ReferenceIdeal.Run.G8 (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
      = Cert.KernelIdeal.Gen.result1 m c :=
  funext fun j => Cert.ReferenceIdeal.Gen.ref1_apply _ _ _ _ _ _ _ _ h.w1 h.a j

/-- so are its exponents, -/
theorem reference_eq2 (m : (ℓ : Loc Cert.KernelIdeal.nD Cert.KernelIdeal.τ Cert.KernelIdeal.sig) → Buf (Elt Ideal) ℓ) (c : Dev Cert.KernelIdeal.nD)
    {t : IVec Cert.Pre_placed.S6x156 32}
    (h : Cert.Pre_placed.Placed t (m ((c.tc : Thread Cert.KernelIdeal.nD Cert.KernelIdeal.τ).loc Cert.KernelIdeal.main_arg2)) (m ((c.tc : Thread Cert.KernelIdeal.nD Cert.KernelIdeal.τ).loc Cert.KernelIdeal.main_arg4))
      (m ((c.tc : Thread Cert.KernelIdeal.nD Cert.KernelIdeal.τ).loc Cert.KernelIdeal.main_arg8))) :
    Cert.ReferenceIdeal.Run.G9 (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
      = Cert.KernelIdeal.Gen.result2 m c :=
  funext fun j => Cert.ReferenceIdeal.Gen.ref2_apply _ _ _ _ _ _ _ _ h.w1 h.a j

/-- and so is its second product. -/
theorem reference_eq3 (m : (ℓ : Loc Cert.KernelIdeal.nD Cert.KernelIdeal.τ Cert.KernelIdeal.sig) → Buf (Elt Ideal) ℓ) (c : Dev Cert.KernelIdeal.nD)
    {t : IVec Cert.Pre_placed.S6x156 32}
    (h : Cert.Pre_placed.Placed t (m ((c.tc : Thread Cert.KernelIdeal.nD Cert.KernelIdeal.τ).loc Cert.KernelIdeal.main_arg2)) (m ((c.tc : Thread Cert.KernelIdeal.nD Cert.KernelIdeal.τ).loc Cert.KernelIdeal.main_arg4))
      (m ((c.tc : Thread Cert.KernelIdeal.nD Cert.KernelIdeal.τ).loc Cert.KernelIdeal.main_arg8))) :
    Cert.ReferenceIdeal.Run.G10 (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
      = Cert.KernelIdeal.Gen.result3 m c :=
  funext fun j => Cert.ReferenceIdeal.Gen.ref3_apply _ _ _ _ _ _ _ _ h.w1 h.a h.w2 j

/-- The idealized kernel and the reference end with the same three results. -/
theorem algebraic : Cert.algebraic_KernelIdeal_ReferenceIdeal (hKernelIdeal := Cert.KernelIdeal.Gen.facts) (hReferenceIdeal := Cert.ReferenceIdeal.Gen.facts)
    (hPre_placed := Cert.Pre_placed.Gen.facts) := by
  intro m g m' g' hpre hargs
  have hp := fun c => Cert.Pre_placed.placed_of _ _ _ _ _ _ _ _ _ (hpre c)
  have hO : Cert.KernelIdeal.Gen.Ok m := Cert.KernelIdeal.Gen.ok_of_placed m (hp 0)
  refine ⟨fun c => Cert.KernelIdeal.Gen.result1 m c, fun c => Cert.KernelIdeal.Gen.result2 m c, fun c => Cert.KernelIdeal.Gen.result3 m c, ?_, ?_⟩
  · refine (θ_run _ _ _).mono (fun r h c => ⟨(h.1 c).1, (h.1 c).2.1, (h.1 c).2.2, h.2 c⟩)
      (θ_run_and (Cert.KernelIdeal.Gen.run_result m g hO (fun q => (hp 0).lt q) (fun k => (hp 0).hit k)) (Cert.KernelIdeal.Gen.unchanged m g hO))
  · refine (θ_run _ _ _).mono (fun r h c => ⟨?_, ?_, ?_, (h c).2.2.2⟩) (Cert.ReferenceIdeal.Run.run m' g')
    · obtain ⟨-, e1, e2, e3, e4, e5, e6, e7, e8⟩ := hargs c
      refine (h c).1.trans (Eq.trans ?_ (reference_eq1 m c (hp c)))
      rw [e1, e2, e3, e4, e5, e6, e7, e8]
    · obtain ⟨-, e1, e2, e3, e4, e5, e6, e7, e8⟩ := hargs c
      refine (h c).2.1.trans (Eq.trans ?_ (reference_eq2 m c (hp c)))
      rw [e1, e2, e3, e4, e5, e6, e7, e8]
    · obtain ⟨-, e1, e2, e3, e4, e5, e6, e7, e8⟩ := hargs c
      refine (h c).2.2.1.trans (Eq.trans ?_ (reference_eq3 m c (hp c)))
      rw [e1, e2, e3, e4, e5, e6, e7, e8]

/-- The claims. -/
theorem claim : Cert.Claim := by
  refine ⟨Cert.Kernel.Gen.facts, Cert.KernelIdeal.Gen.facts, Cert.ReferenceIdeal.Gen.facts, Cert.Pre_placed.Gen.facts, ?_, ?_, ?_, ?_, algebraic⟩
  · exact fun m g h => Cert.Kernel.Gen.frame m g (Cert.Kernel.Gen.ok_of_placed m (Cert.Pre_placed.placed_of _ _ _ _ _ _ _ _ _ (h 0)))
  · exact fun m g h => Cert.KernelIdeal.Gen.frame m g (Cert.KernelIdeal.Gen.ok_of_placed m (Cert.Pre_placed.placed_of _ _ _ _ _ _ _ _ _ (h 0)))
  · exact fun m g _ => Cert.ReferenceIdeal.Gen.frame m g
  · exact ⟨IdealRules.bf16_pair.bufferStatement Cert.KernelIdeal.S448x2x4096 Cert.KernelIdeal.S448x1x4096,
      IdealRules.bf16_pair.bufferStatement Cert.KernelIdeal.S448x2x896 Cert.KernelIdeal.S448x1x896,
      IdealRules.bf16_pair.bufferStatement Cert.KernelIdeal.S2048x2x256 Cert.KernelIdeal.S2048x1x256,
      IdealRules.bf16_pair.bufferStatement Cert.KernelIdeal.S448x2x256 Cert.KernelIdeal.S448x1x256,
      IdealRules.bf16_pair.statement Cert.KernelIdeal.S256x896 Cert.KernelIdeal.S128x896,
      IdealRules.bf16_pack.statement Cert.KernelIdeal.S128x896,
      IdealRules.bf16_pair.statement Cert.KernelIdeal.S128x256 Cert.KernelIdeal.S64x256,
      IdealRules.bf16_pair.statement Cert.KernelIdeal.S64x2x256 Cert.KernelIdeal.S64x1x256,
      IdealRules.bf16_pair.statement Cert.KernelIdeal.S896x128 Cert.KernelIdeal.S448x128,
      IdealRules.bf16_pair.statement Cert.KernelIdeal.S448x2x128 Cert.KernelIdeal.S448x1x128,
      IdealRules.bf16_pair.statement Cert.KernelIdeal.S32x128 Cert.KernelIdeal.S16x128,
      IdealRules.bf16_pair.statement Cert.KernelIdeal.S16x2x128 Cert.KernelIdeal.S16x1x128,
      IdealRules.bf16_pair.statement Cert.KernelIdeal.S448x2x896 Cert.KernelIdeal.S448x1x896,
      IdealRules.bf16_pair.statement Cert.KernelIdeal.S896x896 Cert.KernelIdeal.S448x896,
      IdealRules.bf16_pair.statement Cert.KernelIdeal.S448x2x256 Cert.KernelIdeal.S448x1x256,
      IdealRules.bf16_pair.statement Cert.KernelIdeal.S896x256 Cert.KernelIdeal.S448x256,
      IdealRules.bf16_pair.statement Cert.KernelIdeal.S448x2x4096 Cert.KernelIdeal.S448x1x4096,
      IdealRules.bf16_pair.statement Cert.KernelIdeal.S896x4096 Cert.KernelIdeal.S448x4096,
      IdealRules.bf16_pair.statement Cert.KernelIdeal.S2048x2x256 Cert.KernelIdeal.S2048x1x256,
      IdealRules.bf16_pair.statement Cert.KernelIdeal.S4096x256 Cert.KernelIdeal.S2048x256,
      IdealRules.bf16_pair.statement Cert.KernelIdeal.S256x256 Cert.KernelIdeal.S128x256,
      IdealRules.bf16_pack.statement Cert.KernelIdeal.S128x256,
      IdealRules.bf16_pair.statement Cert.KernelIdeal.S128x2x256 Cert.KernelIdeal.S128x1x256⟩

end Cert.Proof
